-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down [hPre_down_range : Cert.Pre_down_range.Facts] (m : (ℓ : Loc Cert.Down.nD Cert.Down.τ Cert.Down.sig) → Buf (Elt Bits) ℓ) : Prop :=
  ∀ c : Dev Cert.Down.nD,
    (Cert.Pre_down_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_range : Cert.Pre_down_range.Facts] (m : (ℓ : Loc Cert.DownIdeal.nD Cert.DownIdeal.τ Cert.DownIdeal.sig) → Buf (Elt Ideal) ℓ) : Prop :=
  ∀ c : Dev Cert.DownIdeal.nD,
    (Cert.Pre_down_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal [hPre_down_range : Cert.Pre_down_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Up [hPre_up_range : Cert.Pre_up_range.Facts] (m : (ℓ : Loc Cert.Up.nD Cert.Up.τ Cert.Up.sig) → Buf (Elt Bits) ℓ) : Prop :=
  ∀ c : Dev Cert.Up.nD,
    (Cert.Pre_up_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_range : Cert.Pre_up_range.Facts] (m : (ℓ : Loc Cert.UpIdeal.nD Cert.UpIdeal.τ Cert.UpIdeal.sig) → Buf (Elt Ideal) ℓ) : Prop :=
  ∀ c : Dev Cert.UpIdeal.nD,
    (Cert.Pre_up_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal [hPre_up_range : Cert.Pre_up_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_PoolIn (m : (ℓ : Loc Cert.PoolIn.nD Cert.PoolIn.τ Cert.PoolIn.sig) → Buf (Elt Bits) ℓ) : Prop :=
  True

def Pre_PoolInIdeal (m : (ℓ : Loc Cert.PoolInIdeal.nD Cert.PoolInIdeal.τ Cert.PoolInIdeal.sig) → Buf (Elt Ideal) ℓ) : Prop :=
  True

def Pre_PoolInRefIdeal (m : (ℓ : Loc Cert.PoolInRefIdeal.nD Cert.PoolInRefIdeal.τ Cert.PoolInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutIdeal_ab_finite [hPre_ab_finite : Cert.Pre_ab_finite.Facts] (m : (ℓ : Loc Cert.AbOutIdeal.nD Cert.AbOutIdeal.τ Cert.AbOutIdeal.sig) → Buf (Elt Ideal) ℓ) : Prop :=
  ∀ c : Dev Cert.AbOutIdeal.nD,
    (Cert.Pre_ab_finite.fn (F := Ideal) (m ((c.tc : Thread Cert.AbOutIdeal.nD Cert.AbOutIdeal.τ).loc Cert.AbOutIdeal.main_arg0)) (m ((c.tc : Thread Cert.AbOutIdeal.nD Cert.AbOutIdeal.τ).loc Cert.AbOutIdeal.main_arg1)) (m ((c.tc : Thread Cert.AbOutIdeal.nD Cert.AbOutIdeal.τ).loc Cert.AbOutIdeal.main_arg2)) (m ((c.tc : Thread Cert.AbOutIdeal.nD Cert.AbOutIdeal.τ).loc Cert.AbOutIdeal.main_arg3)) (m ((c.tc : Thread Cert.AbOutIdeal.nD Cert.AbOutIdeal.τ).loc Cert.AbOutIdeal.main_arg4)) (m ((c.tc : Thread Cert.AbOutIdeal.nD Cert.AbOutIdeal.τ).loc Cert.AbOutIdeal.main_arg5)) (m ((c.tc : Thread Cert.AbOutIdeal.nD Cert.AbOutIdeal.τ).loc Cert.AbOutIdeal.main_arg6)) (m ((c.tc : Thread Cert.AbOutIdeal.nD Cert.AbOutIdeal.τ).loc Cert.AbOutIdeal.main_arg7)) (m ((c.tc : Thread Cert.AbOutIdeal.nD Cert.AbOutIdeal.τ).loc Cert.AbOutIdeal.main_arg8)) (m ((c.tc : Thread Cert.AbOutIdeal.nD Cert.AbOutIdeal.τ).loc Cert.AbOutIdeal.main_arg9)) (m ((c.tc : Thread Cert.AbOutIdeal.nD Cert.AbOutIdeal.τ).loc Cert.AbOutIdeal.main_arg10))) = (fun _ => 1#1)

def Pre_AbOutRefIdeal (m : (ℓ : Loc Cert.AbOutRefIdeal.nD Cert.AbOutRefIdeal.τ Cert.AbOutRefIdeal.sig) → Buf (Elt Ideal) ℓ) : Prop :=
  True

def Pre_AbOutRefIdeal_ab_finite [hPre_ab_finite : Cert.Pre_ab_finite.Facts] (m : (ℓ : Loc Cert.AbOutRefIdeal.nD Cert.AbOutRefIdeal.τ Cert.AbOutRefIdeal.sig) → Buf (Elt Ideal) ℓ) : Prop :=
  ∀ c : Dev Cert.AbOutRefIdeal.nD,
    (Cert.Pre_ab_finite.fn (F := Ideal) (m ((c.tc : Thread Cert.AbOutRefIdeal.nD Cert.AbOutRefIdeal.τ).loc Cert.AbOutRefIdeal.main_arg0)) (m ((c.tc : Thread Cert.AbOutRefIdeal.nD Cert.AbOutRefIdeal.τ).loc Cert.AbOutRefIdeal.main_arg1)) (m ((c.tc : Thread Cert.AbOutRefIdeal.nD Cert.AbOutRefIdeal.τ).loc Cert.AbOutRefIdeal.main_arg2)) (m ((c.tc : Thread Cert.AbOutRefIdeal.nD Cert.AbOutRefIdeal.τ).loc Cert.AbOutRefIdeal.main_arg3)) (m ((c.tc : Thread Cert.AbOutRefIdeal.nD Cert.AbOutRefIdeal.τ).loc Cert.AbOutRefIdeal.main_arg4)) (m ((c.tc : Thread Cert.AbOutRefIdeal.nD Cert.AbOutRefIdeal.τ).loc Cert.AbOutRefIdeal.main_arg5)) (m ((c.tc : Thread Cert.AbOutRefIdeal.nD Cert.AbOutRefIdeal.τ).loc Cert.AbOutRefIdeal.main_arg6)) (m ((c.tc : Thread Cert.AbOutRefIdeal.nD Cert.AbOutRefIdeal.τ).loc Cert.AbOutRefIdeal.main_arg7)) (m ((c.tc : Thread Cert.AbOutRefIdeal.nD Cert.AbOutRefIdeal.τ).loc Cert.AbOutRefIdeal.main_arg8)) (m ((c.tc : Thread Cert.AbOutRefIdeal.nD Cert.AbOutRefIdeal.τ).loc Cert.AbOutRefIdeal.main_arg9)) (m ((c.tc : Thread Cert.AbOutRefIdeal.nD Cert.AbOutRefIdeal.τ).loc Cert.AbOutRefIdeal.main_arg10))) = (fun _ => 1#1)

def Pre_PoolOut (m : (ℓ : Loc Cert.PoolOut.nD Cert.PoolOut.τ Cert.PoolOut.sig) → Buf (Elt Bits) ℓ) : Prop :=
  True

def Pre_PoolOutIdeal (m : (ℓ : Loc Cert.PoolOutIdeal.nD Cert.PoolOutIdeal.τ Cert.PoolOutIdeal.sig) → Buf (Elt Ideal) ℓ) : Prop :=
  True

def Pre_PoolOutIdeal_pool_finite [hPre_pool_finite : Cert.Pre_pool_finite.Facts] (m : (ℓ : Loc Cert.PoolOutIdeal.nD Cert.PoolOutIdeal.τ Cert.PoolOutIdeal.sig) → Buf (Elt Ideal) ℓ) : Prop :=
  ∀ c : Dev Cert.PoolOutIdeal.nD,
    (Cert.Pre_pool_finite.fn (F := Ideal) (m ((c.tc : Thread Cert.PoolOutIdeal.nD Cert.PoolOutIdeal.τ).loc Cert.PoolOutIdeal.main_arg0)) (m ((c.tc : Thread Cert.PoolOutIdeal.nD Cert.PoolOutIdeal.τ).loc Cert.PoolOutIdeal.main_arg1)) (m ((c.tc : Thread Cert.PoolOutIdeal.nD Cert.PoolOutIdeal.τ).loc Cert.PoolOutIdeal.main_arg2)) (m ((c.tc : Thread Cert.PoolOutIdeal.nD Cert.PoolOutIdeal.τ).loc Cert.PoolOutIdeal.main_arg3)) (m ((c.tc : Thread Cert.PoolOutIdeal.nD Cert.PoolOutIdeal.τ).loc Cert.PoolOutIdeal.main_arg4)) (m ((c.tc : Thread Cert.PoolOutIdeal.nD Cert.PoolOutIdeal.τ).loc Cert.PoolOutIdeal.main_arg5)) (m ((c.tc : Thread Cert.PoolOutIdeal.nD Cert.PoolOutIdeal.τ).loc Cert.PoolOutIdeal.main_arg6)) (m ((c.tc : Thread Cert.PoolOutIdeal.nD Cert.PoolOutIdeal.τ).loc Cert.PoolOutIdeal.main_arg7)) (m ((c.tc : Thread Cert.PoolOutIdeal.nD Cert.PoolOutIdeal.τ).loc Cert.PoolOutIdeal.main_arg8)) (m ((c.tc : Thread Cert.PoolOutIdeal.nD Cert.PoolOutIdeal.τ).loc Cert.PoolOutIdeal.main_arg9))) = (fun _ => 1#1)

def Pre_PoolOutRefIdeal (m : (ℓ : Loc Cert.PoolOutRefIdeal.nD Cert.PoolOutRefIdeal.τ Cert.PoolOutRefIdeal.sig) → Buf (Elt Ideal) ℓ) : Prop :=
  True

def Pre_PoolOutRefIdeal_pool_finite [hPre_pool_finite : Cert.Pre_pool_finite.Facts] (m : (ℓ : Loc Cert.PoolOutRefIdeal.nD Cert.PoolOutRefIdeal.τ Cert.PoolOutRefIdeal.sig) → Buf (Elt Ideal) ℓ) : Prop :=
  ∀ c : Dev Cert.PoolOutRefIdeal.nD,
    (Cert.Pre_pool_finite.fn (F := Ideal) (m ((c.tc : Thread Cert.PoolOutRefIdeal.nD Cert.PoolOutRefIdeal.τ).loc Cert.PoolOutRefIdeal.main_arg0)) (m ((c.tc : Thread Cert.PoolOutRefIdeal.nD Cert.PoolOutRefIdeal.τ).loc Cert.PoolOutRefIdeal.main_arg1)) (m ((c.tc : Thread Cert.PoolOutRefIdeal.nD Cert.PoolOutRefIdeal.τ).loc Cert.PoolOutRefIdeal.main_arg2)) (m ((c.tc : Thread Cert.PoolOutRefIdeal.nD Cert.PoolOutRefIdeal.τ).loc Cert.PoolOutRefIdeal.main_arg3)) (m ((c.tc : Thread Cert.PoolOutRefIdeal.nD Cert.PoolOutRefIdeal.τ).loc Cert.PoolOutRefIdeal.main_arg4)) (m ((c.tc : Thread Cert.PoolOutRefIdeal.nD Cert.PoolOutRefIdeal.τ).loc Cert.PoolOutRefIdeal.main_arg5)) (m ((c.tc : Thread Cert.PoolOutRefIdeal.nD Cert.PoolOutRefIdeal.τ).loc Cert.PoolOutRefIdeal.main_arg6)) (m ((c.tc : Thread Cert.PoolOutRefIdeal.nD Cert.PoolOutRefIdeal.τ).loc Cert.PoolOutRefIdeal.main_arg7)) (m ((c.tc : Thread Cert.PoolOutRefIdeal.nD Cert.PoolOutRefIdeal.τ).loc Cert.PoolOutRefIdeal.main_arg8)) (m ((c.tc : Thread Cert.PoolOutRefIdeal.nD Cert.PoolOutRefIdeal.τ).loc Cert.PoolOutRefIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Down [hDown : Cert.Down.Facts] [hPre_down_range : Cert.Pre_down_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_range : Cert.Pre_down_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] [hPre_down_range : Cert.Pre_down_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Up [hUp : Cert.Up.Facts] [hPre_up_range : Cert.Pre_up_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_range : Cert.Pre_up_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] [hPre_up_range : Cert.Pre_up_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3)
      ∧ r.2.mem ((c.tc : Thread Cert.AbIn.nD Cert.AbIn.τ).loc Cert.AbIn.main_arg4) = m ((c.tc : Thread Cert.AbIn.nD Cert.AbIn.τ).loc Cert.AbIn.main_arg4))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
      ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3)
      ∧ r.2.mem ((c.tc : Thread Cert.AbInRefIdeal.nD Cert.AbInRefIdeal.τ).loc Cert.AbInRefIdeal.main_arg4) = m ((c.tc : Thread Cert.AbInRefIdeal.nD Cert.AbInRefIdeal.τ).loc Cert.AbInRefIdeal.main_arg4))
      ∧ r.2.sem = fun _ => 0)

def quiescent_PoolIn [hPoolIn : Cert.PoolIn.Facts] : Prop :=
  ∀ (m : (ℓ : Loc Cert.PoolIn.nD Cert.PoolIn.τ Cert.PoolIn.sig) → Buf (Elt Bits) ℓ) (g : Dev Cert.PoolIn.nD → PrngReg), Pre_PoolIn m →
    θ_run (Cert.PoolIn.defs (F := Bits)) (onTc (τ := Cert.PoolIn.τ) (Cert.PoolIn.main (F := Bits))) ⟨m, fun _ => 0, g⟩ (fun r => (∀ c : Dev Cert.PoolIn.nD,
      r.2.mem ((c.tc : Thread Cert.PoolIn.nD Cert.PoolIn.τ).loc Cert.PoolIn.main_arg0) = m ((c.tc : Thread Cert.PoolIn.nD Cert.PoolIn.τ).loc Cert.PoolIn.main_arg0)
      ∧ r.2.mem ((c.tc : Thread Cert.PoolIn.nD Cert.PoolIn.τ).loc Cert.PoolIn.main_arg1) = m ((c.tc : Thread Cert.PoolIn.nD Cert.PoolIn.τ).loc Cert.PoolIn.main_arg1)
      ∧ r.2.mem ((c.tc : Thread Cert.PoolIn.nD Cert.PoolIn.τ).loc Cert.PoolIn.main_arg2) = m ((c.tc : Thread Cert.PoolIn.nD Cert.PoolIn.τ).loc Cert.PoolIn.main_arg2)
      ∧ r.2.mem ((c.tc : Thread Cert.PoolIn.nD Cert.PoolIn.τ).loc Cert.PoolIn.main_arg3) = m ((c.tc : Thread Cert.PoolIn.nD Cert.PoolIn.τ).loc Cert.PoolIn.main_arg3)
      ∧ r.2.mem ((c.tc : Thread Cert.PoolIn.nD Cert.PoolIn.τ).loc Cert.PoolIn.main_arg4) = m ((c.tc : Thread Cert.PoolIn.nD Cert.PoolIn.τ).loc Cert.PoolIn.main_arg4))
      ∧ r.2.sem = fun _ => 0)

def quiescent_PoolInIdeal [hPoolInIdeal : Cert.PoolInIdeal.Facts] : Prop :=
  ∀ (m : (ℓ : Loc Cert.PoolInIdeal.nD Cert.PoolInIdeal.τ Cert.PoolInIdeal.sig) → Buf (Elt Ideal) ℓ) (g : Dev Cert.PoolInIdeal.nD → PrngReg), Pre_PoolInIdeal m →
    θ_run (Cert.PoolInIdeal.defs (F := Ideal)) (onTc (τ := Cert.PoolInIdeal.τ) (Cert.PoolInIdeal.main (F := Ideal))) ⟨m, fun _ => 0, g⟩ (fun r => (∀ c : Dev Cert.PoolInIdeal.nD,
      r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
      ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1)
      ∧ r.2.mem ((c.tc : Thread Cert.PoolInIdeal.nD Cert.PoolInIdeal.τ).loc Cert.PoolInIdeal.main_arg2) = m ((c.tc : Thread Cert.PoolInIdeal.nD Cert.PoolInIdeal.τ).loc Cert.PoolInIdeal.main_arg2)
      ∧ r.2.mem ((c.tc : Thread Cert.PoolInIdeal.nD Cert.PoolInIdeal.τ).loc Cert.PoolInIdeal.main_arg3) = m ((c.tc : Thread Cert.PoolInIdeal.nD Cert.PoolInIdeal.τ).loc Cert.PoolInIdeal.main_arg3)
      ∧ r.2.mem ((c.tc : Thread Cert.PoolInIdeal.nD Cert.PoolInIdeal.τ).loc Cert.PoolInIdeal.main_arg4) = m ((c.tc : Thread Cert.PoolInIdeal.nD Cert.PoolInIdeal.τ).loc Cert.PoolInIdeal.main_arg4))
      ∧ r.2.sem = fun _ => 0)

def quiescent_PoolInRefIdeal [hPoolInRefIdeal : Cert.PoolInRefIdeal.Facts] : Prop :=
  ∀ (m : (ℓ : Loc Cert.PoolInRefIdeal.nD Cert.PoolInRefIdeal.τ Cert.PoolInRefIdeal.sig) → Buf (Elt Ideal) ℓ) (g : Dev Cert.PoolInRefIdeal.nD → PrngReg), Pre_PoolInRefIdeal m →
    θ_run (Cert.PoolInRefIdeal.defs (F := Ideal)) (onTc (τ := Cert.PoolInRefIdeal.τ) (Cert.PoolInRefIdeal.main (F := Ideal))) ⟨m, fun _ => 0, g⟩ (fun r => (∀ c : Dev Cert.PoolInRefIdeal.nD,
      r.2.mem ((c.tc : Thread Cert.PoolInRefIdeal.nD Cert.PoolInRefIdeal.τ).loc Cert.PoolInRefIdeal.main_arg0) = m ((c.tc : Thread Cert.PoolInRefIdeal.nD Cert.PoolInRefIdeal.τ).loc Cert.PoolInRefIdeal.main_arg0)
      ∧ r.2.mem ((c.tc : Thread Cert.PoolInRefIdeal.nD Cert.PoolInRefIdeal.τ).loc Cert.PoolInRefIdeal.main_arg1) = m ((c.tc : Thread Cert.PoolInRefIdeal.nD Cert.PoolInRefIdeal.τ).loc Cert.PoolInRefIdeal.main_arg1)
      ∧ r.2.mem ((c.tc : Thread Cert.PoolInRefIdeal.nD Cert.PoolInRefIdeal.τ).loc Cert.PoolInRefIdeal.main_arg2) = m ((c.tc : Thread Cert.PoolInRefIdeal.nD Cert.PoolInRefIdeal.τ).loc Cert.PoolInRefIdeal.main_arg2)
      ∧ r.2.mem ((c.tc : Thread Cert.PoolInRefIdeal.nD Cert.PoolInRefIdeal.τ).loc Cert.PoolInRefIdeal.main_arg3) = m ((c.tc : Thread Cert.PoolInRefIdeal.nD Cert.PoolInRefIdeal.τ).loc Cert.PoolInRefIdeal.main_arg3)
      ∧ r.2.mem ((c.tc : Thread Cert.PoolInRefIdeal.nD Cert.PoolInRefIdeal.τ).loc Cert.PoolInRefIdeal.main_arg4) = m ((c.tc : Thread Cert.PoolInRefIdeal.nD Cert.PoolInRefIdeal.τ).loc Cert.PoolInRefIdeal.main_arg4))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4)
      ∧ r.2.mem ((c.tc : Thread Cert.AbOut.nD Cert.AbOut.τ).loc Cert.AbOut.main_arg5) = m ((c.tc : Thread Cert.AbOut.nD Cert.AbOut.τ).loc Cert.AbOut.main_arg5)
      ∧ r.2.mem ((c.tc : Thread Cert.AbOut.nD Cert.AbOut.τ).loc Cert.AbOut.main_arg6) = m ((c.tc : Thread Cert.AbOut.nD Cert.AbOut.τ).loc Cert.AbOut.main_arg6)
      ∧ r.2.mem ((c.tc : Thread Cert.AbOut.nD Cert.AbOut.τ).loc Cert.AbOut.main_arg7) = m ((c.tc : Thread Cert.AbOut.nD Cert.AbOut.τ).loc Cert.AbOut.main_arg7)
      ∧ r.2.mem ((c.tc : Thread Cert.AbOut.nD Cert.AbOut.τ).loc Cert.AbOut.main_arg8) = m ((c.tc : Thread Cert.AbOut.nD Cert.AbOut.τ).loc Cert.AbOut.main_arg8)
      ∧ r.2.mem ((c.tc : Thread Cert.AbOut.nD Cert.AbOut.τ).loc Cert.AbOut.main_arg9) = m ((c.tc : Thread Cert.AbOut.nD Cert.AbOut.τ).loc Cert.AbOut.main_arg9)
      ∧ r.2.mem ((c.tc : Thread Cert.AbOut.nD Cert.AbOut.τ).loc Cert.AbOut.main_arg10) = m ((c.tc : Thread Cert.AbOut.nD Cert.AbOut.τ).loc Cert.AbOut.main_arg10))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
      ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5)
      ∧ r.2.mem ((c.tc : Thread Cert.AbOutIdeal.nD Cert.AbOutIdeal.τ).loc Cert.AbOutIdeal.main_arg6) = m ((c.tc : Thread Cert.AbOutIdeal.nD Cert.AbOutIdeal.τ).loc Cert.AbOutIdeal.main_arg6)
      ∧ r.2.mem ((c.tc : Thread Cert.AbOutIdeal.nD Cert.AbOutIdeal.τ).loc Cert.AbOutIdeal.main_arg7) = m ((c.tc : Thread Cert.AbOutIdeal.nD Cert.AbOutIdeal.τ).loc Cert.AbOutIdeal.main_arg7)
      ∧ r.2.mem ((c.tc : Thread Cert.AbOutIdeal.nD Cert.AbOutIdeal.τ).loc Cert.AbOutIdeal.main_arg8) = m ((c.tc : Thread Cert.AbOutIdeal.nD Cert.AbOutIdeal.τ).loc Cert.AbOutIdeal.main_arg8)
      ∧ r.2.mem ((c.tc : Thread Cert.AbOutIdeal.nD Cert.AbOutIdeal.τ).loc Cert.AbOutIdeal.main_arg9) = m ((c.tc : Thread Cert.AbOutIdeal.nD Cert.AbOutIdeal.τ).loc Cert.AbOutIdeal.main_arg9)
      ∧ r.2.mem ((c.tc : Thread Cert.AbOutIdeal.nD Cert.AbOutIdeal.τ).loc Cert.AbOutIdeal.main_arg10) = m ((c.tc : Thread Cert.AbOutIdeal.nD Cert.AbOutIdeal.τ).loc Cert.AbOutIdeal.main_arg10))
      ∧ r.2.sem = fun _ => 0)

def quiescent_AbOutIdeal_pre_ab_finite [hAbOutIdeal : Cert.AbOutIdeal.Facts] [hPre_ab_finite : Cert.Pre_ab_finite.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal_ab_finite m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
      ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5)
      ∧ r.2.mem ((c.tc : Thread Cert.AbOutIdeal.nD Cert.AbOutIdeal.τ).loc Cert.AbOutIdeal.main_arg6) = m ((c.tc : Thread Cert.AbOutIdeal.nD Cert.AbOutIdeal.τ).loc Cert.AbOutIdeal.main_arg6)
      ∧ r.2.mem ((c.tc : Thread Cert.AbOutIdeal.nD Cert.AbOutIdeal.τ).loc Cert.AbOutIdeal.main_arg7) = m ((c.tc : Thread Cert.AbOutIdeal.nD Cert.AbOutIdeal.τ).loc Cert.AbOutIdeal.main_arg7)
      ∧ r.2.mem ((c.tc : Thread Cert.AbOutIdeal.nD Cert.AbOutIdeal.τ).loc Cert.AbOutIdeal.main_arg8) = m ((c.tc : Thread Cert.AbOutIdeal.nD Cert.AbOutIdeal.τ).loc Cert.AbOutIdeal.main_arg8)
      ∧ r.2.mem ((c.tc : Thread Cert.AbOutIdeal.nD Cert.AbOutIdeal.τ).loc Cert.AbOutIdeal.main_arg9) = m ((c.tc : Thread Cert.AbOutIdeal.nD Cert.AbOutIdeal.τ).loc Cert.AbOutIdeal.main_arg9)
      ∧ r.2.mem ((c.tc : Thread Cert.AbOutIdeal.nD Cert.AbOutIdeal.τ).loc Cert.AbOutIdeal.main_arg10) = m ((c.tc : Thread Cert.AbOutIdeal.nD Cert.AbOutIdeal.τ).loc Cert.AbOutIdeal.main_arg10))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4)
      ∧ r.2.mem ((c.tc : Thread Cert.AbOutRefIdeal.nD Cert.AbOutRefIdeal.τ).loc Cert.AbOutRefIdeal.main_arg5) = m ((c.tc : Thread Cert.AbOutRefIdeal.nD Cert.AbOutRefIdeal.τ).loc Cert.AbOutRefIdeal.main_arg5)
      ∧ r.2.mem ((c.tc : Thread Cert.AbOutRefIdeal.nD Cert.AbOutRefIdeal.τ).loc Cert.AbOutRefIdeal.main_arg6) = m ((c.tc : Thread Cert.AbOutRefIdeal.nD Cert.AbOutRefIdeal.τ).loc Cert.AbOutRefIdeal.main_arg6)
      ∧ r.2.mem ((c.tc : Thread Cert.AbOutRefIdeal.nD Cert.AbOutRefIdeal.τ).loc Cert.AbOutRefIdeal.main_arg7) = m ((c.tc : Thread Cert.AbOutRefIdeal.nD Cert.AbOutRefIdeal.τ).loc Cert.AbOutRefIdeal.main_arg7)
      ∧ r.2.mem ((c.tc : Thread Cert.AbOutRefIdeal.nD Cert.AbOutRefIdeal.τ).loc Cert.AbOutRefIdeal.main_arg8) = m ((c.tc : Thread Cert.AbOutRefIdeal.nD Cert.AbOutRefIdeal.τ).loc Cert.AbOutRefIdeal.main_arg8)
      ∧ r.2.mem ((c.tc : Thread Cert.AbOutRefIdeal.nD Cert.AbOutRefIdeal.τ).loc Cert.AbOutRefIdeal.main_arg9) = m ((c.tc : Thread Cert.AbOutRefIdeal.nD Cert.AbOutRefIdeal.τ).loc Cert.AbOutRefIdeal.main_arg9)
      ∧ r.2.mem ((c.tc : Thread Cert.AbOutRefIdeal.nD Cert.AbOutRefIdeal.τ).loc Cert.AbOutRefIdeal.main_arg10) = m ((c.tc : Thread Cert.AbOutRefIdeal.nD Cert.AbOutRefIdeal.τ).loc Cert.AbOutRefIdeal.main_arg10))
      ∧ r.2.sem = fun _ => 0)

def quiescent_AbOutRefIdeal_pre_ab_finite [hAbOutRefIdeal : Cert.AbOutRefIdeal.Facts] [hPre_ab_finite : Cert.Pre_ab_finite.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal_ab_finite m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4)
      ∧ r.2.mem ((c.tc : Thread Cert.AbOutRefIdeal.nD Cert.AbOutRefIdeal.τ).loc Cert.AbOutRefIdeal.main_arg5) = m ((c.tc : Thread Cert.AbOutRefIdeal.nD Cert.AbOutRefIdeal.τ).loc Cert.AbOutRefIdeal.main_arg5)
      ∧ r.2.mem ((c.tc : Thread Cert.AbOutRefIdeal.nD Cert.AbOutRefIdeal.τ).loc Cert.AbOutRefIdeal.main_arg6) = m ((c.tc : Thread Cert.AbOutRefIdeal.nD Cert.AbOutRefIdeal.τ).loc Cert.AbOutRefIdeal.main_arg6)
      ∧ r.2.mem ((c.tc : Thread Cert.AbOutRefIdeal.nD Cert.AbOutRefIdeal.τ).loc Cert.AbOutRefIdeal.main_arg7) = m ((c.tc : Thread Cert.AbOutRefIdeal.nD Cert.AbOutRefIdeal.τ).loc Cert.AbOutRefIdeal.main_arg7)
      ∧ r.2.mem ((c.tc : Thread Cert.AbOutRefIdeal.nD Cert.AbOutRefIdeal.τ).loc Cert.AbOutRefIdeal.main_arg8) = m ((c.tc : Thread Cert.AbOutRefIdeal.nD Cert.AbOutRefIdeal.τ).loc Cert.AbOutRefIdeal.main_arg8)
      ∧ r.2.mem ((c.tc : Thread Cert.AbOutRefIdeal.nD Cert.AbOutRefIdeal.τ).loc Cert.AbOutRefIdeal.main_arg9) = m ((c.tc : Thread Cert.AbOutRefIdeal.nD Cert.AbOutRefIdeal.τ).loc Cert.AbOutRefIdeal.main_arg9)
      ∧ r.2.mem ((c.tc : Thread Cert.AbOutRefIdeal.nD Cert.AbOutRefIdeal.τ).loc Cert.AbOutRefIdeal.main_arg10) = m ((c.tc : Thread Cert.AbOutRefIdeal.nD Cert.AbOutRefIdeal.τ).loc Cert.AbOutRefIdeal.main_arg10))
      ∧ r.2.sem = fun _ => 0)

def quiescent_PoolOut [hPoolOut : Cert.PoolOut.Facts] : Prop :=
  ∀ (m : (ℓ : Loc Cert.PoolOut.nD Cert.PoolOut.τ Cert.PoolOut.sig) → Buf (Elt Bits) ℓ) (g : Dev Cert.PoolOut.nD → PrngReg), Pre_PoolOut m →
    θ_run (Cert.PoolOut.defs (F := Bits)) (onTc (τ := Cert.PoolOut.τ) (Cert.PoolOut.main (F := Bits))) ⟨m, fun _ => 0, g⟩ (fun r => (∀ c : Dev Cert.PoolOut.nD,
      r.2.mem ((c.tc : Thread Cert.PoolOut.nD Cert.PoolOut.τ).loc Cert.PoolOut.main_arg0) = m ((c.tc : Thread Cert.PoolOut.nD Cert.PoolOut.τ).loc Cert.PoolOut.main_arg0)
      ∧ r.2.mem ((c.tc : Thread Cert.PoolOut.nD Cert.PoolOut.τ).loc Cert.PoolOut.main_arg1) = m ((c.tc : Thread Cert.PoolOut.nD Cert.PoolOut.τ).loc Cert.PoolOut.main_arg1)
      ∧ r.2.mem ((c.tc : Thread Cert.PoolOut.nD Cert.PoolOut.τ).loc Cert.PoolOut.main_arg2) = m ((c.tc : Thread Cert.PoolOut.nD Cert.PoolOut.τ).loc Cert.PoolOut.main_arg2)
      ∧ r.2.mem ((c.tc : Thread Cert.PoolOut.nD Cert.PoolOut.τ).loc Cert.PoolOut.main_arg3) = m ((c.tc : Thread Cert.PoolOut.nD Cert.PoolOut.τ).loc Cert.PoolOut.main_arg3)
      ∧ r.2.mem ((c.tc : Thread Cert.PoolOut.nD Cert.PoolOut.τ).loc Cert.PoolOut.main_arg4) = m ((c.tc : Thread Cert.PoolOut.nD Cert.PoolOut.τ).loc Cert.PoolOut.main_arg4)
      ∧ r.2.mem ((c.tc : Thread Cert.PoolOut.nD Cert.PoolOut.τ).loc Cert.PoolOut.main_arg5) = m ((c.tc : Thread Cert.PoolOut.nD Cert.PoolOut.τ).loc Cert.PoolOut.main_arg5)
      ∧ r.2.mem ((c.tc : Thread Cert.PoolOut.nD Cert.PoolOut.τ).loc Cert.PoolOut.main_arg6) = m ((c.tc : Thread Cert.PoolOut.nD Cert.PoolOut.τ).loc Cert.PoolOut.main_arg6)
      ∧ r.2.mem ((c.tc : Thread Cert.PoolOut.nD Cert.PoolOut.τ).loc Cert.PoolOut.main_arg7) = m ((c.tc : Thread Cert.PoolOut.nD Cert.PoolOut.τ).loc Cert.PoolOut.main_arg7)
      ∧ r.2.mem ((c.tc : Thread Cert.PoolOut.nD Cert.PoolOut.τ).loc Cert.PoolOut.main_arg8) = m ((c.tc : Thread Cert.PoolOut.nD Cert.PoolOut.τ).loc Cert.PoolOut.main_arg8)
      ∧ r.2.mem ((c.tc : Thread Cert.PoolOut.nD Cert.PoolOut.τ).loc Cert.PoolOut.main_arg9) = m ((c.tc : Thread Cert.PoolOut.nD Cert.PoolOut.τ).loc Cert.PoolOut.main_arg9))
      ∧ r.2.sem = fun _ => 0)

def quiescent_PoolOutIdeal [hPoolOutIdeal : Cert.PoolOutIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
      ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
      ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3)
      ∧ r.2.mem ((c.tc : Thread Cert.PoolOutIdeal.nD Cert.PoolOutIdeal.τ).loc Cert.PoolOutIdeal.main_arg4) = m ((c.tc : Thread Cert.PoolOutIdeal.nD Cert.PoolOutIdeal.τ).loc Cert.PoolOutIdeal.main_arg4)
      ∧ r.2.mem ((c.tc : Thread Cert.PoolOutIdeal.nD Cert.PoolOutIdeal.τ).loc Cert.PoolOutIdeal.main_arg5) = m ((c.tc : Thread Cert.PoolOutIdeal.nD Cert.PoolOutIdeal.τ).loc Cert.PoolOutIdeal.main_arg5)
      ∧ r.2.mem ((c.tc : Thread Cert.PoolOutIdeal.nD Cert.PoolOutIdeal.τ).loc Cert.PoolOutIdeal.main_arg6) = m ((c.tc : Thread Cert.PoolOutIdeal.nD Cert.PoolOutIdeal.τ).loc Cert.PoolOutIdeal.main_arg6)
      ∧ r.2.mem ((c.tc : Thread Cert.PoolOutIdeal.nD Cert.PoolOutIdeal.τ).loc Cert.PoolOutIdeal.main_arg7) = m ((c.tc : Thread Cert.PoolOutIdeal.nD Cert.PoolOutIdeal.τ).loc Cert.PoolOutIdeal.main_arg7)
      ∧ r.2.mem ((c.tc : Thread Cert.PoolOutIdeal.nD Cert.PoolOutIdeal.τ).loc Cert.PoolOutIdeal.main_arg8) = m ((c.tc : Thread Cert.PoolOutIdeal.nD Cert.PoolOutIdeal.τ).loc Cert.PoolOutIdeal.main_arg8)
      ∧ r.2.mem ((c.tc : Thread Cert.PoolOutIdeal.nD Cert.PoolOutIdeal.τ).loc Cert.PoolOutIdeal.main_arg9) = m ((c.tc : Thread Cert.PoolOutIdeal.nD Cert.PoolOutIdeal.τ).loc Cert.PoolOutIdeal.main_arg9))
      ∧ r.2.sem = fun _ => 0)

def quiescent_PoolOutIdeal_pre_pool_finite [hPoolOutIdeal : Cert.PoolOutIdeal.Facts] [hPre_pool_finite : Cert.Pre_pool_finite.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal_pool_finite m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
      ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
      ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3)
      ∧ r.2.mem ((c.tc : Thread Cert.PoolOutIdeal.nD Cert.PoolOutIdeal.τ).loc Cert.PoolOutIdeal.main_arg4) = m ((c.tc : Thread Cert.PoolOutIdeal.nD Cert.PoolOutIdeal.τ).loc Cert.PoolOutIdeal.main_arg4)
      ∧ r.2.mem ((c.tc : Thread Cert.PoolOutIdeal.nD Cert.PoolOutIdeal.τ).loc Cert.PoolOutIdeal.main_arg5) = m ((c.tc : Thread Cert.PoolOutIdeal.nD Cert.PoolOutIdeal.τ).loc Cert.PoolOutIdeal.main_arg5)
      ∧ r.2.mem ((c.tc : Thread Cert.PoolOutIdeal.nD Cert.PoolOutIdeal.τ).loc Cert.PoolOutIdeal.main_arg6) = m ((c.tc : Thread Cert.PoolOutIdeal.nD Cert.PoolOutIdeal.τ).loc Cert.PoolOutIdeal.main_arg6)
      ∧ r.2.mem ((c.tc : Thread Cert.PoolOutIdeal.nD Cert.PoolOutIdeal.τ).loc Cert.PoolOutIdeal.main_arg7) = m ((c.tc : Thread Cert.PoolOutIdeal.nD Cert.PoolOutIdeal.τ).loc Cert.PoolOutIdeal.main_arg7)
      ∧ r.2.mem ((c.tc : Thread Cert.PoolOutIdeal.nD Cert.PoolOutIdeal.τ).loc Cert.PoolOutIdeal.main_arg8) = m ((c.tc : Thread Cert.PoolOutIdeal.nD Cert.PoolOutIdeal.τ).loc Cert.PoolOutIdeal.main_arg8)
      ∧ r.2.mem ((c.tc : Thread Cert.PoolOutIdeal.nD Cert.PoolOutIdeal.τ).loc Cert.PoolOutIdeal.main_arg9) = m ((c.tc : Thread Cert.PoolOutIdeal.nD Cert.PoolOutIdeal.τ).loc Cert.PoolOutIdeal.main_arg9))
      ∧ r.2.sem = fun _ => 0)

def quiescent_PoolOutRefIdeal [hPoolOutRefIdeal : Cert.PoolOutRefIdeal.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3)
      ∧ r.2.mem ((c.tc : Thread Cert.PoolOutRefIdeal.nD Cert.PoolOutRefIdeal.τ).loc Cert.PoolOutRefIdeal.main_arg4) = m ((c.tc : Thread Cert.PoolOutRefIdeal.nD Cert.PoolOutRefIdeal.τ).loc Cert.PoolOutRefIdeal.main_arg4)
      ∧ r.2.mem ((c.tc : Thread Cert.PoolOutRefIdeal.nD Cert.PoolOutRefIdeal.τ).loc Cert.PoolOutRefIdeal.main_arg5) = m ((c.tc : Thread Cert.PoolOutRefIdeal.nD Cert.PoolOutRefIdeal.τ).loc Cert.PoolOutRefIdeal.main_arg5)
      ∧ r.2.mem ((c.tc : Thread Cert.PoolOutRefIdeal.nD Cert.PoolOutRefIdeal.τ).loc Cert.PoolOutRefIdeal.main_arg6) = m ((c.tc : Thread Cert.PoolOutRefIdeal.nD Cert.PoolOutRefIdeal.τ).loc Cert.PoolOutRefIdeal.main_arg6)
      ∧ r.2.mem ((c.tc : Thread Cert.PoolOutRefIdeal.nD Cert.PoolOutRefIdeal.τ).loc Cert.PoolOutRefIdeal.main_arg7) = m ((c.tc : Thread Cert.PoolOutRefIdeal.nD Cert.PoolOutRefIdeal.τ).loc Cert.PoolOutRefIdeal.main_arg7)
      ∧ r.2.mem ((c.tc : Thread Cert.PoolOutRefIdeal.nD Cert.PoolOutRefIdeal.τ).loc Cert.PoolOutRefIdeal.main_arg8) = m ((c.tc : Thread Cert.PoolOutRefIdeal.nD Cert.PoolOutRefIdeal.τ).loc Cert.PoolOutRefIdeal.main_arg8)
      ∧ r.2.mem ((c.tc : Thread Cert.PoolOutRefIdeal.nD Cert.PoolOutRefIdeal.τ).loc Cert.PoolOutRefIdeal.main_arg9) = m ((c.tc : Thread Cert.PoolOutRefIdeal.nD Cert.PoolOutRefIdeal.τ).loc Cert.PoolOutRefIdeal.main_arg9))
      ∧ r.2.sem = fun _ => 0)

def quiescent_PoolOutRefIdeal_pre_pool_finite [hPoolOutRefIdeal : Cert.PoolOutRefIdeal.Facts] [hPre_pool_finite : Cert.Pre_pool_finite.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal_pool_finite m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3)
      ∧ r.2.mem ((c.tc : Thread Cert.PoolOutRefIdeal.nD Cert.PoolOutRefIdeal.τ).loc Cert.PoolOutRefIdeal.main_arg4) = m ((c.tc : Thread Cert.PoolOutRefIdeal.nD Cert.PoolOutRefIdeal.τ).loc Cert.PoolOutRefIdeal.main_arg4)
      ∧ r.2.mem ((c.tc : Thread Cert.PoolOutRefIdeal.nD Cert.PoolOutRefIdeal.τ).loc Cert.PoolOutRefIdeal.main_arg5) = m ((c.tc : Thread Cert.PoolOutRefIdeal.nD Cert.PoolOutRefIdeal.τ).loc Cert.PoolOutRefIdeal.main_arg5)
      ∧ r.2.mem ((c.tc : Thread Cert.PoolOutRefIdeal.nD Cert.PoolOutRefIdeal.τ).loc Cert.PoolOutRefIdeal.main_arg6) = m ((c.tc : Thread Cert.PoolOutRefIdeal.nD Cert.PoolOutRefIdeal.τ).loc Cert.PoolOutRefIdeal.main_arg6)
      ∧ r.2.mem ((c.tc : Thread Cert.PoolOutRefIdeal.nD Cert.PoolOutRefIdeal.τ).loc Cert.PoolOutRefIdeal.main_arg7) = m ((c.tc : Thread Cert.PoolOutRefIdeal.nD Cert.PoolOutRefIdeal.τ).loc Cert.PoolOutRefIdeal.main_arg7)
      ∧ r.2.mem ((c.tc : Thread Cert.PoolOutRefIdeal.nD Cert.PoolOutRefIdeal.τ).loc Cert.PoolOutRefIdeal.main_arg8) = m ((c.tc : Thread Cert.PoolOutRefIdeal.nD Cert.PoolOutRefIdeal.τ).loc Cert.PoolOutRefIdeal.main_arg8)
      ∧ r.2.mem ((c.tc : Thread Cert.PoolOutRefIdeal.nD Cert.PoolOutRefIdeal.τ).loc Cert.PoolOutRefIdeal.main_arg9) = m ((c.tc : Thread Cert.PoolOutRefIdeal.nD Cert.PoolOutRefIdeal.τ).loc Cert.PoolOutRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Down_DownIdeal : Prop :=
  True

def algebraic_DownIdeal_DownRefIdeal [hDownIdeal : Cert.DownIdeal.Facts] [hDownRefIdeal : Cert.DownRefIdeal.Facts] [hPre_down_range : Cert.Pre_down_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v26) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Up_UpIdeal : Prop :=
  True

def algebraic_UpIdeal_UpRefIdeal [hUpIdeal : Cert.UpIdeal.Facts] [hUpRefIdeal : Cert.UpRefIdeal.Facts] [hPre_up_range : Cert.Pre_up_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v8)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v8) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v43) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)
      ∧ m' ((c.tc : Thread Cert.AbInRefIdeal.nD Cert.AbInRefIdeal.τ).loc Cert.AbInRefIdeal.main_arg4) = m ((c.tc : Thread Cert.AbInIdeal.nD Cert.AbInIdeal.τ).loc Cert.AbInIdeal.main_arg4)) →
    ∃ (v0 : (c : Dev Cert.AbInIdeal.nD) → Buf (Elt Ideal) ((c.tc : Thread Cert.AbInIdeal.nD Cert.AbInIdeal.τ).loc Cert.AbInIdeal.main_v4)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v4) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
          ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v33) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3)
          ∧ r.2.mem ((c.tc : Thread Cert.AbInRefIdeal.nD Cert.AbInRefIdeal.τ).loc Cert.AbInRefIdeal.main_arg4) = m' ((c.tc : Thread Cert.AbInRefIdeal.nD Cert.AbInRefIdeal.τ).loc Cert.AbInRefIdeal.main_arg4))

def preserves_PoolIn_PoolInIdeal : Prop :=
  True

def algebraic_PoolInIdeal_PoolInRefIdeal [hPoolInIdeal : Cert.PoolInIdeal.Facts] [hPoolInRefIdeal : Cert.PoolInRefIdeal.Facts] : Prop :=
  ∀ (m : (ℓ : Loc Cert.PoolInIdeal.nD Cert.PoolInIdeal.τ Cert.PoolInIdeal.sig) → Buf (Elt Ideal) ℓ) (g : Dev Cert.PoolInIdeal.nD → PrngReg)
    (m' : (ℓ : Loc Cert.PoolInRefIdeal.nD Cert.PoolInRefIdeal.τ Cert.PoolInRefIdeal.sig) → Buf (Elt Ideal) ℓ) (g' : Dev Cert.PoolInRefIdeal.nD → PrngReg), Pre_PoolInIdeal m →
    (∀ c : Dev Cert.PoolInIdeal.nD,
      m' ((c.tc : Thread Cert.PoolInRefIdeal.nD Cert.PoolInRefIdeal.τ).loc Cert.PoolInRefIdeal.main_arg0) = m ((c.tc : Thread Cert.PoolInIdeal.nD Cert.PoolInIdeal.τ).loc Cert.PoolInIdeal.main_arg0)
      ∧ m' ((c.tc : Thread Cert.PoolInRefIdeal.nD Cert.PoolInRefIdeal.τ).loc Cert.PoolInRefIdeal.main_arg1) = m ((c.tc : Thread Cert.PoolInIdeal.nD Cert.PoolInIdeal.τ).loc Cert.PoolInIdeal.main_arg1)
      ∧ m' ((c.tc : Thread Cert.PoolInRefIdeal.nD Cert.PoolInRefIdeal.τ).loc Cert.PoolInRefIdeal.main_arg2) = m ((c.tc : Thread Cert.PoolInIdeal.nD Cert.PoolInIdeal.τ).loc Cert.PoolInIdeal.main_arg2)
      ∧ m' ((c.tc : Thread Cert.PoolInRefIdeal.nD Cert.PoolInRefIdeal.τ).loc Cert.PoolInRefIdeal.main_arg3) = m ((c.tc : Thread Cert.PoolInIdeal.nD Cert.PoolInIdeal.τ).loc Cert.PoolInIdeal.main_arg3)
      ∧ m' ((c.tc : Thread Cert.PoolInRefIdeal.nD Cert.PoolInRefIdeal.τ).loc Cert.PoolInRefIdeal.main_arg4) = m ((c.tc : Thread Cert.PoolInIdeal.nD Cert.PoolInIdeal.τ).loc Cert.PoolInIdeal.main_arg4)) →
    ∃ (v0 : (c : Dev Cert.PoolInIdeal.nD) → Buf (Elt Ideal) ((c.tc : Thread Cert.PoolInIdeal.nD Cert.PoolInIdeal.τ).loc Cert.PoolInIdeal.main_v4)),
      θ_run (Cert.PoolInIdeal.defs (F := Ideal)) (onTc (τ := Cert.PoolInIdeal.τ) (Cert.PoolInIdeal.main (F := Ideal))) ⟨m, fun _ => 0, g⟩ (fun r => ∀ c : Dev Cert.PoolInIdeal.nD,
          r.2.mem ((c.tc : Thread Cert.PoolInIdeal.nD Cert.PoolInIdeal.τ).loc Cert.PoolInIdeal.main_v4) = v0 c
          ∧ r.2.mem ((c.tc : Thread Cert.PoolInIdeal.nD Cert.PoolInIdeal.τ).loc Cert.PoolInIdeal.main_arg0) = m ((c.tc : Thread Cert.PoolInIdeal.nD Cert.PoolInIdeal.τ).loc Cert.PoolInIdeal.main_arg0)
          ∧ r.2.mem ((c.tc : Thread Cert.PoolInIdeal.nD Cert.PoolInIdeal.τ).loc Cert.PoolInIdeal.main_arg1) = m ((c.tc : Thread Cert.PoolInIdeal.nD Cert.PoolInIdeal.τ).loc Cert.PoolInIdeal.main_arg1)
          ∧ r.2.mem ((c.tc : Thread Cert.PoolInIdeal.nD Cert.PoolInIdeal.τ).loc Cert.PoolInIdeal.main_arg2) = m ((c.tc : Thread Cert.PoolInIdeal.nD Cert.PoolInIdeal.τ).loc Cert.PoolInIdeal.main_arg2)
          ∧ r.2.mem ((c.tc : Thread Cert.PoolInIdeal.nD Cert.PoolInIdeal.τ).loc Cert.PoolInIdeal.main_arg3) = m ((c.tc : Thread Cert.PoolInIdeal.nD Cert.PoolInIdeal.τ).loc Cert.PoolInIdeal.main_arg3)
          ∧ r.2.mem ((c.tc : Thread Cert.PoolInIdeal.nD Cert.PoolInIdeal.τ).loc Cert.PoolInIdeal.main_arg4) = m ((c.tc : Thread Cert.PoolInIdeal.nD Cert.PoolInIdeal.τ).loc Cert.PoolInIdeal.main_arg4))
      ∧ θ_run (Cert.PoolInRefIdeal.defs (F := Ideal)) (onTc (τ := Cert.PoolInRefIdeal.τ) (Cert.PoolInRefIdeal.main (F := Ideal))) ⟨m', fun _ => 0, g'⟩ (fun r => ∀ c : Dev Cert.PoolInRefIdeal.nD,
          r.2.mem ((c.tc : Thread Cert.PoolInRefIdeal.nD Cert.PoolInRefIdeal.τ).loc Cert.PoolInRefIdeal.main_v33) = v0 c
          ∧ r.2.mem ((c.tc : Thread Cert.PoolInRefIdeal.nD Cert.PoolInRefIdeal.τ).loc Cert.PoolInRefIdeal.main_arg0) = m' ((c.tc : Thread Cert.PoolInRefIdeal.nD Cert.PoolInRefIdeal.τ).loc Cert.PoolInRefIdeal.main_arg0)
          ∧ r.2.mem ((c.tc : Thread Cert.PoolInRefIdeal.nD Cert.PoolInRefIdeal.τ).loc Cert.PoolInRefIdeal.main_arg1) = m' ((c.tc : Thread Cert.PoolInRefIdeal.nD Cert.PoolInRefIdeal.τ).loc Cert.PoolInRefIdeal.main_arg1)
          ∧ r.2.mem ((c.tc : Thread Cert.PoolInRefIdeal.nD Cert.PoolInRefIdeal.τ).loc Cert.PoolInRefIdeal.main_arg2) = m' ((c.tc : Thread Cert.PoolInRefIdeal.nD Cert.PoolInRefIdeal.τ).loc Cert.PoolInRefIdeal.main_arg2)
          ∧ r.2.mem ((c.tc : Thread Cert.PoolInRefIdeal.nD Cert.PoolInRefIdeal.τ).loc Cert.PoolInRefIdeal.main_arg3) = m' ((c.tc : Thread Cert.PoolInRefIdeal.nD Cert.PoolInRefIdeal.τ).loc Cert.PoolInRefIdeal.main_arg3)
          ∧ r.2.mem ((c.tc : Thread Cert.PoolInRefIdeal.nD Cert.PoolInRefIdeal.τ).loc Cert.PoolInRefIdeal.main_arg4) = m' ((c.tc : Thread Cert.PoolInRefIdeal.nD Cert.PoolInRefIdeal.τ).loc Cert.PoolInRefIdeal.main_arg4))

def preserves_AbOut_AbOutIdeal : Prop :=
  True

def algebraic_AbOutIdeal_AbOutRefIdeal_pre_ab_finite [hAbOutIdeal : Cert.AbOutIdeal.Facts] [hAbOutRefIdeal : Cert.AbOutRefIdeal.Facts] [hPre_ab_finite : Cert.Pre_ab_finite.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal_ab_finite m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)
      ∧ m' ((c.tc : Thread Cert.AbOutRefIdeal.nD Cert.AbOutRefIdeal.τ).loc Cert.AbOutRefIdeal.main_arg5) = m ((c.tc : Thread Cert.AbOutIdeal.nD Cert.AbOutIdeal.τ).loc Cert.AbOutIdeal.main_arg5)
      ∧ m' ((c.tc : Thread Cert.AbOutRefIdeal.nD Cert.AbOutRefIdeal.τ).loc Cert.AbOutRefIdeal.main_arg6) = m ((c.tc : Thread Cert.AbOutIdeal.nD Cert.AbOutIdeal.τ).loc Cert.AbOutIdeal.main_arg6)
      ∧ m' ((c.tc : Thread Cert.AbOutRefIdeal.nD Cert.AbOutRefIdeal.τ).loc Cert.AbOutRefIdeal.main_arg7) = m ((c.tc : Thread Cert.AbOutIdeal.nD Cert.AbOutIdeal.τ).loc Cert.AbOutIdeal.main_arg7)
      ∧ m' ((c.tc : Thread Cert.AbOutRefIdeal.nD Cert.AbOutRefIdeal.τ).loc Cert.AbOutRefIdeal.main_arg8) = m ((c.tc : Thread Cert.AbOutIdeal.nD Cert.AbOutIdeal.τ).loc Cert.AbOutIdeal.main_arg8)
      ∧ m' ((c.tc : Thread Cert.AbOutRefIdeal.nD Cert.AbOutRefIdeal.τ).loc Cert.AbOutRefIdeal.main_arg9) = m ((c.tc : Thread Cert.AbOutIdeal.nD Cert.AbOutIdeal.τ).loc Cert.AbOutIdeal.main_arg9)
      ∧ m' ((c.tc : Thread Cert.AbOutRefIdeal.nD Cert.AbOutRefIdeal.τ).loc Cert.AbOutRefIdeal.main_arg10) = m ((c.tc : Thread Cert.AbOutIdeal.nD Cert.AbOutIdeal.τ).loc Cert.AbOutIdeal.main_arg10)) →
    ∃ (v0 : (c : Dev Cert.AbOutIdeal.nD) → Buf (Elt Ideal) ((c.tc : Thread Cert.AbOutIdeal.nD Cert.AbOutIdeal.τ).loc Cert.AbOutIdeal.main_v18_0)) (v1 : (c : Dev Cert.AbOutIdeal.nD) → Buf (Elt Ideal) ((c.tc : Thread Cert.AbOutIdeal.nD Cert.AbOutIdeal.τ).loc Cert.AbOutIdeal.main_v18_1)) (v2 : (c : Dev Cert.AbOutIdeal.nD) → Buf (Elt Ideal) ((c.tc : Thread Cert.AbOutIdeal.nD Cert.AbOutIdeal.τ).loc Cert.AbOutIdeal.main_v18_2)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v18_0) = v0 c
          ∧ r.2.mem ((c.tc : Thread Cert.AbOutIdeal.nD Cert.AbOutIdeal.τ).loc Cert.AbOutIdeal.main_v18_1) = v1 c
          ∧ r.2.mem ((c.tc : Thread Cert.AbOutIdeal.nD Cert.AbOutIdeal.τ).loc Cert.AbOutIdeal.main_v18_2) = v2 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
          ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5)
          ∧ r.2.mem ((c.tc : Thread Cert.AbOutIdeal.nD Cert.AbOutIdeal.τ).loc Cert.AbOutIdeal.main_arg6) = m ((c.tc : Thread Cert.AbOutIdeal.nD Cert.AbOutIdeal.τ).loc Cert.AbOutIdeal.main_arg6)
          ∧ r.2.mem ((c.tc : Thread Cert.AbOutIdeal.nD Cert.AbOutIdeal.τ).loc Cert.AbOutIdeal.main_arg7) = m ((c.tc : Thread Cert.AbOutIdeal.nD Cert.AbOutIdeal.τ).loc Cert.AbOutIdeal.main_arg7)
          ∧ r.2.mem ((c.tc : Thread Cert.AbOutIdeal.nD Cert.AbOutIdeal.τ).loc Cert.AbOutIdeal.main_arg8) = m ((c.tc : Thread Cert.AbOutIdeal.nD Cert.AbOutIdeal.τ).loc Cert.AbOutIdeal.main_arg8)
          ∧ r.2.mem ((c.tc : Thread Cert.AbOutIdeal.nD Cert.AbOutIdeal.τ).loc Cert.AbOutIdeal.main_arg9) = m ((c.tc : Thread Cert.AbOutIdeal.nD Cert.AbOutIdeal.τ).loc Cert.AbOutIdeal.main_arg9)
          ∧ r.2.mem ((c.tc : Thread Cert.AbOutIdeal.nD Cert.AbOutIdeal.τ).loc Cert.AbOutIdeal.main_arg10) = m ((c.tc : Thread Cert.AbOutIdeal.nD Cert.AbOutIdeal.τ).loc Cert.AbOutIdeal.main_arg10))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v24) = v0 c
          ∧ r.2.mem ((c.tc : Thread Cert.AbOutRefIdeal.nD Cert.AbOutRefIdeal.τ).loc Cert.AbOutRefIdeal.main_v57) = v1 c
          ∧ r.2.mem ((c.tc : Thread Cert.AbOutRefIdeal.nD Cert.AbOutRefIdeal.τ).loc Cert.AbOutRefIdeal.main_v63) = v2 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4)
          ∧ r.2.mem ((c.tc : Thread Cert.AbOutRefIdeal.nD Cert.AbOutRefIdeal.τ).loc Cert.AbOutRefIdeal.main_arg5) = m' ((c.tc : Thread Cert.AbOutRefIdeal.nD Cert.AbOutRefIdeal.τ).loc Cert.AbOutRefIdeal.main_arg5)
          ∧ r.2.mem ((c.tc : Thread Cert.AbOutRefIdeal.nD Cert.AbOutRefIdeal.τ).loc Cert.AbOutRefIdeal.main_arg6) = m' ((c.tc : Thread Cert.AbOutRefIdeal.nD Cert.AbOutRefIdeal.τ).loc Cert.AbOutRefIdeal.main_arg6)
          ∧ r.2.mem ((c.tc : Thread Cert.AbOutRefIdeal.nD Cert.AbOutRefIdeal.τ).loc Cert.AbOutRefIdeal.main_arg7) = m' ((c.tc : Thread Cert.AbOutRefIdeal.nD Cert.AbOutRefIdeal.τ).loc Cert.AbOutRefIdeal.main_arg7)
          ∧ r.2.mem ((c.tc : Thread Cert.AbOutRefIdeal.nD Cert.AbOutRefIdeal.τ).loc Cert.AbOutRefIdeal.main_arg8) = m' ((c.tc : Thread Cert.AbOutRefIdeal.nD Cert.AbOutRefIdeal.τ).loc Cert.AbOutRefIdeal.main_arg8)
          ∧ r.2.mem ((c.tc : Thread Cert.AbOutRefIdeal.nD Cert.AbOutRefIdeal.τ).loc Cert.AbOutRefIdeal.main_arg9) = m' ((c.tc : Thread Cert.AbOutRefIdeal.nD Cert.AbOutRefIdeal.τ).loc Cert.AbOutRefIdeal.main_arg9)
          ∧ r.2.mem ((c.tc : Thread Cert.AbOutRefIdeal.nD Cert.AbOutRefIdeal.τ).loc Cert.AbOutRefIdeal.main_arg10) = m' ((c.tc : Thread Cert.AbOutRefIdeal.nD Cert.AbOutRefIdeal.τ).loc Cert.AbOutRefIdeal.main_arg10))

def preserves_PoolOut_PoolOutIdeal : Prop :=
  True

def algebraic_PoolOutIdeal_PoolOutRefIdeal_pre_pool_finite [hPoolOutIdeal : Cert.PoolOutIdeal.Facts] [hPoolOutRefIdeal : Cert.PoolOutRefIdeal.Facts] [hPre_pool_finite : Cert.Pre_pool_finite.Facts] : Prop :=
  ∀ (m : (ℓ : Loc Cert.PoolOutIdeal.nD Cert.PoolOutIdeal.τ Cert.PoolOutIdeal.sig) → Buf (Elt Ideal) ℓ) (g : Dev Cert.PoolOutIdeal.nD → PrngReg)
    (m' : (ℓ : Loc Cert.PoolOutRefIdeal.nD Cert.PoolOutRefIdeal.τ Cert.PoolOutRefIdeal.sig) → Buf (Elt Ideal) ℓ) (g' : Dev Cert.PoolOutRefIdeal.nD → PrngReg), Pre_PoolOutIdeal_pool_finite m →
    (∀ c : Dev Cert.PoolOutIdeal.nD,
      m' ((c.tc : Thread Cert.PoolOutRefIdeal.nD Cert.PoolOutRefIdeal.τ).loc Cert.PoolOutRefIdeal.main_arg0) = m ((c.tc : Thread Cert.PoolOutIdeal.nD Cert.PoolOutIdeal.τ).loc Cert.PoolOutIdeal.main_arg0)
      ∧ m' ((c.tc : Thread Cert.PoolOutRefIdeal.nD Cert.PoolOutRefIdeal.τ).loc Cert.PoolOutRefIdeal.main_arg1) = m ((c.tc : Thread Cert.PoolOutIdeal.nD Cert.PoolOutIdeal.τ).loc Cert.PoolOutIdeal.main_arg1)
      ∧ m' ((c.tc : Thread Cert.PoolOutRefIdeal.nD Cert.PoolOutRefIdeal.τ).loc Cert.PoolOutRefIdeal.main_arg2) = m ((c.tc : Thread Cert.PoolOutIdeal.nD Cert.PoolOutIdeal.τ).loc Cert.PoolOutIdeal.main_arg2)
      ∧ m' ((c.tc : Thread Cert.PoolOutRefIdeal.nD Cert.PoolOutRefIdeal.τ).loc Cert.PoolOutRefIdeal.main_arg3) = m ((c.tc : Thread Cert.PoolOutIdeal.nD Cert.PoolOutIdeal.τ).loc Cert.PoolOutIdeal.main_arg3)
      ∧ m' ((c.tc : Thread Cert.PoolOutRefIdeal.nD Cert.PoolOutRefIdeal.τ).loc Cert.PoolOutRefIdeal.main_arg4) = m ((c.tc : Thread Cert.PoolOutIdeal.nD Cert.PoolOutIdeal.τ).loc Cert.PoolOutIdeal.main_arg4)
      ∧ m' ((c.tc : Thread Cert.PoolOutRefIdeal.nD Cert.PoolOutRefIdeal.τ).loc Cert.PoolOutRefIdeal.main_arg5) = m ((c.tc : Thread Cert.PoolOutIdeal.nD Cert.PoolOutIdeal.τ).loc Cert.PoolOutIdeal.main_arg5)
      ∧ m' ((c.tc : Thread Cert.PoolOutRefIdeal.nD Cert.PoolOutRefIdeal.τ).loc Cert.PoolOutRefIdeal.main_arg6) = m ((c.tc : Thread Cert.PoolOutIdeal.nD Cert.PoolOutIdeal.τ).loc Cert.PoolOutIdeal.main_arg6)
      ∧ m' ((c.tc : Thread Cert.PoolOutRefIdeal.nD Cert.PoolOutRefIdeal.τ).loc Cert.PoolOutRefIdeal.main_arg7) = m ((c.tc : Thread Cert.PoolOutIdeal.nD Cert.PoolOutIdeal.τ).loc Cert.PoolOutIdeal.main_arg7)
      ∧ m' ((c.tc : Thread Cert.PoolOutRefIdeal.nD Cert.PoolOutRefIdeal.τ).loc Cert.PoolOutRefIdeal.main_arg8) = m ((c.tc : Thread Cert.PoolOutIdeal.nD Cert.PoolOutIdeal.τ).loc Cert.PoolOutIdeal.main_arg8)
      ∧ m' ((c.tc : Thread Cert.PoolOutRefIdeal.nD Cert.PoolOutRefIdeal.τ).loc Cert.PoolOutRefIdeal.main_arg9) = m ((c.tc : Thread Cert.PoolOutIdeal.nD Cert.PoolOutIdeal.τ).loc Cert.PoolOutIdeal.main_arg9)) →
    ∃ (v0 : (c : Dev Cert.PoolOutIdeal.nD) → Buf (Elt Ideal) ((c.tc : Thread Cert.PoolOutIdeal.nD Cert.PoolOutIdeal.τ).loc Cert.PoolOutIdeal.main_v18_0)) (v1 : (c : Dev Cert.PoolOutIdeal.nD) → Buf (Elt Ideal) ((c.tc : Thread Cert.PoolOutIdeal.nD Cert.PoolOutIdeal.τ).loc Cert.PoolOutIdeal.main_v18_1)) (v2 : (c : Dev Cert.PoolOutIdeal.nD) → Buf (Elt Ideal) ((c.tc : Thread Cert.PoolOutIdeal.nD Cert.PoolOutIdeal.τ).loc Cert.PoolOutIdeal.main_v18_2)),
      θ_run (Cert.PoolOutIdeal.defs (F := Ideal)) (onTc (τ := Cert.PoolOutIdeal.τ) (Cert.PoolOutIdeal.main (F := Ideal))) ⟨m, fun _ => 0, g⟩ (fun r => ∀ c : Dev Cert.PoolOutIdeal.nD,
          r.2.mem ((c.tc : Thread Cert.PoolOutIdeal.nD Cert.PoolOutIdeal.τ).loc Cert.PoolOutIdeal.main_v18_0) = v0 c
          ∧ r.2.mem ((c.tc : Thread Cert.PoolOutIdeal.nD Cert.PoolOutIdeal.τ).loc Cert.PoolOutIdeal.main_v18_1) = v1 c
          ∧ r.2.mem ((c.tc : Thread Cert.PoolOutIdeal.nD Cert.PoolOutIdeal.τ).loc Cert.PoolOutIdeal.main_v18_2) = v2 c
          ∧ r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
          ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
          ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
          ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3)
          ∧ r.2.mem ((c.tc : Thread Cert.PoolOutIdeal.nD Cert.PoolOutIdeal.τ).loc Cert.PoolOutIdeal.main_arg4) = m ((c.tc : Thread Cert.PoolOutIdeal.nD Cert.PoolOutIdeal.τ).loc Cert.PoolOutIdeal.main_arg4)
          ∧ r.2.mem ((c.tc : Thread Cert.PoolOutIdeal.nD Cert.PoolOutIdeal.τ).loc Cert.PoolOutIdeal.main_arg5) = m ((c.tc : Thread Cert.PoolOutIdeal.nD Cert.PoolOutIdeal.τ).loc Cert.PoolOutIdeal.main_arg5)
          ∧ r.2.mem ((c.tc : Thread Cert.PoolOutIdeal.nD Cert.PoolOutIdeal.τ).loc Cert.PoolOutIdeal.main_arg6) = m ((c.tc : Thread Cert.PoolOutIdeal.nD Cert.PoolOutIdeal.τ).loc Cert.PoolOutIdeal.main_arg6)
          ∧ r.2.mem ((c.tc : Thread Cert.PoolOutIdeal.nD Cert.PoolOutIdeal.τ).loc Cert.PoolOutIdeal.main_arg7) = m ((c.tc : Thread Cert.PoolOutIdeal.nD Cert.PoolOutIdeal.τ).loc Cert.PoolOutIdeal.main_arg7)
          ∧ r.2.mem ((c.tc : Thread Cert.PoolOutIdeal.nD Cert.PoolOutIdeal.τ).loc Cert.PoolOutIdeal.main_arg8) = m ((c.tc : Thread Cert.PoolOutIdeal.nD Cert.PoolOutIdeal.τ).loc Cert.PoolOutIdeal.main_arg8)
          ∧ r.2.mem ((c.tc : Thread Cert.PoolOutIdeal.nD Cert.PoolOutIdeal.τ).loc Cert.PoolOutIdeal.main_arg9) = m ((c.tc : Thread Cert.PoolOutIdeal.nD Cert.PoolOutIdeal.τ).loc Cert.PoolOutIdeal.main_arg9))
      ∧ θ_run (Cert.PoolOutRefIdeal.defs (F := Ideal)) (onTc (τ := Cert.PoolOutRefIdeal.τ) (Cert.PoolOutRefIdeal.main (F := Ideal))) ⟨m', fun _ => 0, g'⟩ (fun r => ∀ c : Dev Cert.PoolOutRefIdeal.nD,
          r.2.mem ((c.tc : Thread Cert.PoolOutRefIdeal.nD Cert.PoolOutRefIdeal.τ).loc Cert.PoolOutRefIdeal.main_v23) = v0 c
          ∧ r.2.mem ((c.tc : Thread Cert.PoolOutRefIdeal.nD Cert.PoolOutRefIdeal.τ).loc Cert.PoolOutRefIdeal.main_v56) = v1 c
          ∧ r.2.mem ((c.tc : Thread Cert.PoolOutRefIdeal.nD Cert.PoolOutRefIdeal.τ).loc Cert.PoolOutRefIdeal.main_v62) = v2 c
          ∧ r.2.mem ((c.tc : Thread Cert.PoolOutRefIdeal.nD Cert.PoolOutRefIdeal.τ).loc Cert.PoolOutRefIdeal.main_arg0) = m' ((c.tc : Thread Cert.PoolOutRefIdeal.nD Cert.PoolOutRefIdeal.τ).loc Cert.PoolOutRefIdeal.main_arg0)
          ∧ r.2.mem ((c.tc : Thread Cert.PoolOutRefIdeal.nD Cert.PoolOutRefIdeal.τ).loc Cert.PoolOutRefIdeal.main_arg1) = m' ((c.tc : Thread Cert.PoolOutRefIdeal.nD Cert.PoolOutRefIdeal.τ).loc Cert.PoolOutRefIdeal.main_arg1)
          ∧ r.2.mem ((c.tc : Thread Cert.PoolOutRefIdeal.nD Cert.PoolOutRefIdeal.τ).loc Cert.PoolOutRefIdeal.main_arg2) = m' ((c.tc : Thread Cert.PoolOutRefIdeal.nD Cert.PoolOutRefIdeal.τ).loc Cert.PoolOutRefIdeal.main_arg2)
          ∧ r.2.mem ((c.tc : Thread Cert.PoolOutRefIdeal.nD Cert.PoolOutRefIdeal.τ).loc Cert.PoolOutRefIdeal.main_arg3) = m' ((c.tc : Thread Cert.PoolOutRefIdeal.nD Cert.PoolOutRefIdeal.τ).loc Cert.PoolOutRefIdeal.main_arg3)
          ∧ r.2.mem ((c.tc : Thread Cert.PoolOutRefIdeal.nD Cert.PoolOutRefIdeal.τ).loc Cert.PoolOutRefIdeal.main_arg4) = m' ((c.tc : Thread Cert.PoolOutRefIdeal.nD Cert.PoolOutRefIdeal.τ).loc Cert.PoolOutRefIdeal.main_arg4)
          ∧ r.2.mem ((c.tc : Thread Cert.PoolOutRefIdeal.nD Cert.PoolOutRefIdeal.τ).loc Cert.PoolOutRefIdeal.main_arg5) = m' ((c.tc : Thread Cert.PoolOutRefIdeal.nD Cert.PoolOutRefIdeal.τ).loc Cert.PoolOutRefIdeal.main_arg5)
          ∧ r.2.mem ((c.tc : Thread Cert.PoolOutRefIdeal.nD Cert.PoolOutRefIdeal.τ).loc Cert.PoolOutRefIdeal.main_arg6) = m' ((c.tc : Thread Cert.PoolOutRefIdeal.nD Cert.PoolOutRefIdeal.τ).loc Cert.PoolOutRefIdeal.main_arg6)
          ∧ r.2.mem ((c.tc : Thread Cert.PoolOutRefIdeal.nD Cert.PoolOutRefIdeal.τ).loc Cert.PoolOutRefIdeal.main_arg7) = m' ((c.tc : Thread Cert.PoolOutRefIdeal.nD Cert.PoolOutRefIdeal.τ).loc Cert.PoolOutRefIdeal.main_arg7)
          ∧ r.2.mem ((c.tc : Thread Cert.PoolOutRefIdeal.nD Cert.PoolOutRefIdeal.τ).loc Cert.PoolOutRefIdeal.main_arg8) = m' ((c.tc : Thread Cert.PoolOutRefIdeal.nD Cert.PoolOutRefIdeal.τ).loc Cert.PoolOutRefIdeal.main_arg8)
          ∧ r.2.mem ((c.tc : Thread Cert.PoolOutRefIdeal.nD Cert.PoolOutRefIdeal.τ).loc Cert.PoolOutRefIdeal.main_arg9) = m' ((c.tc : Thread Cert.PoolOutRefIdeal.nD Cert.PoolOutRefIdeal.τ).loc Cert.PoolOutRefIdeal.main_arg9))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hAbIn : Cert.AbIn.Facts) (hAbInIdeal : Cert.AbInIdeal.Facts) (hAbInRefIdeal : Cert.AbInRefIdeal.Facts) (hPoolIn : Cert.PoolIn.Facts) (hPoolInIdeal : Cert.PoolInIdeal.Facts) (hPoolInRefIdeal : Cert.PoolInRefIdeal.Facts) (hAbOut : Cert.AbOut.Facts) (hAbOutIdeal : Cert.AbOutIdeal.Facts) (hAbOutRefIdeal : Cert.AbOutRefIdeal.Facts) (hPoolOut : Cert.PoolOut.Facts) (hPoolOutIdeal : Cert.PoolOutIdeal.Facts) (hPoolOutRefIdeal : Cert.PoolOutRefIdeal.Facts) (hPre_down_range : Cert.Pre_down_range.Facts) (hPre_up_range : Cert.Pre_up_range.Facts) (hPre_ab_finite : Cert.Pre_ab_finite.Facts) (hPre_pool_finite : Cert.Pre_pool_finite.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown) (hPre_down_range := hPre_down_range)
    ∧ quiescent_DownIdeal (hDownIdeal := hDownIdeal) (hPre_down_range := hPre_down_range)
    ∧ quiescent_DownRefIdeal (hDownRefIdeal := hDownRefIdeal) (hPre_down_range := hPre_down_range)
    ∧ quiescent_Up (hUp := hUp) (hPre_up_range := hPre_up_range)
    ∧ quiescent_UpIdeal (hUpIdeal := hUpIdeal) (hPre_up_range := hPre_up_range)
    ∧ quiescent_UpRefIdeal (hUpRefIdeal := hUpRefIdeal) (hPre_up_range := hPre_up_range)
    ∧ quiescent_AbIn (hAbIn := hAbIn)
    ∧ quiescent_AbInIdeal (hAbInIdeal := hAbInIdeal)
    ∧ quiescent_AbInRefIdeal (hAbInRefIdeal := hAbInRefIdeal)
    ∧ quiescent_PoolIn (hPoolIn := hPoolIn)
    ∧ quiescent_PoolInIdeal (hPoolInIdeal := hPoolInIdeal)
    ∧ quiescent_PoolInRefIdeal (hPoolInRefIdeal := hPoolInRefIdeal)
    ∧ quiescent_AbOut (hAbOut := hAbOut)
    ∧ quiescent_AbOutIdeal (hAbOutIdeal := hAbOutIdeal)
    ∧ quiescent_AbOutIdeal_pre_ab_finite (hAbOutIdeal := hAbOutIdeal) (hPre_ab_finite := hPre_ab_finite)
    ∧ quiescent_AbOutRefIdeal (hAbOutRefIdeal := hAbOutRefIdeal)
    ∧ quiescent_AbOutRefIdeal_pre_ab_finite (hAbOutRefIdeal := hAbOutRefIdeal) (hPre_ab_finite := hPre_ab_finite)
    ∧ quiescent_PoolOut (hPoolOut := hPoolOut)
    ∧ quiescent_PoolOutIdeal (hPoolOutIdeal := hPoolOutIdeal)
    ∧ quiescent_PoolOutIdeal_pre_pool_finite (hPoolOutIdeal := hPoolOutIdeal) (hPre_pool_finite := hPre_pool_finite)
    ∧ quiescent_PoolOutRefIdeal (hPoolOutRefIdeal := hPoolOutRefIdeal)
    ∧ quiescent_PoolOutRefIdeal_pre_pool_finite (hPoolOutRefIdeal := hPoolOutRefIdeal) (hPre_pool_finite := hPre_pool_finite)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal) (hPre_down_range := hPre_down_range)
    ∧ preserves_Up_UpIdeal
    ∧ algebraic_UpIdeal_UpRefIdeal (hUpIdeal := hUpIdeal) (hUpRefIdeal := hUpRefIdeal) (hPre_up_range := hPre_up_range)
    ∧ preserves_AbIn_AbInIdeal
    ∧ algebraic_AbInIdeal_AbInRefIdeal (hAbInIdeal := hAbInIdeal) (hAbInRefIdeal := hAbInRefIdeal)
    ∧ preserves_PoolIn_PoolInIdeal
    ∧ algebraic_PoolInIdeal_PoolInRefIdeal (hPoolInIdeal := hPoolInIdeal) (hPoolInRefIdeal := hPoolInRefIdeal)
    ∧ preserves_AbOut_AbOutIdeal
    ∧ algebraic_AbOutIdeal_AbOutRefIdeal_pre_ab_finite (hAbOutIdeal := hAbOutIdeal) (hAbOutRefIdeal := hAbOutRefIdeal) (hPre_ab_finite := hPre_ab_finite)
    ∧ preserves_PoolOut_PoolOutIdeal
    ∧ algebraic_PoolOutIdeal_PoolOutRefIdeal_pre_pool_finite (hPoolOutIdeal := hPoolOutIdeal) (hPoolOutRefIdeal := hPoolOutRefIdeal) (hPre_pool_finite := hPre_pool_finite)
-- ==== Pre_ab_finite.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_v14 : IVec S_ 1) (main_v15 : FVec F S2048x32 .f32) (main_cst_5 : FVec F S_ .f32) : IVec S_ 1 :=
  let main_v16 : FVec F S2048x32 .f32 := broadcastInDim S2048x32 ![] bcast_S_S2048x32 main_cst_5
  let main_v17 : IVec S2048x32 1 := cmpf .olt main_v15 main_v16
  let main_c_6 : IVec S_ 1 := constantI S_ 1 1#1
  let main_v18 : IVec S_ 1 := (fun x v => Host.reduce IntOp.andi x v reducesTo_S2048x32_S_d0_1 h_S_) main_v17 main_c_6
  let main_v19 : IVec S_ 1 := andi main_v14 main_v18
  main_v19

def fn {F : FTy → Type} [FloatOps F] (main_arg0 : FVec F S16384x1024 .f32) (main_arg1 : FVec F S16384x1024 .f32) (main_arg2 : FVec F S2048x2048 .f32) (main_arg3 : FVec F S16384x2048 .f32) (main_arg4 : FVec F S2048 .f32) (main_arg5 : FVec F S8x2048 .f32) (main_arg6 : FVec F S2048 .f32) (main_arg7 : FVec F S8x2048 .f32) (main_arg8 : FVec F S8x2048 .f32) (main_arg9 : FVec F S2048x32 .f32) (main_arg10 : FVec F S32 .f32) : IVec S_ 1 :=
  let main_v0 : FVec F S2048 .f32 := Host.absf main_arg6
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_c_0 : IVec S_ 1 := constantI S_ 1 1#1
  let main_v4 : IVec S_ 1 := andi main_c_0 main_v3
  let main_v5 : FVec F S8x2048 .f32 := Host.absf main_arg7
  let main_cst_1 : FVec F S_ .f32 := constant S_ .f32 0x7F800000#32
  let main_v6 : FVec F S8x2048 .f32 := broadcastInDim S8x2048 ![] bcast_S_S8x2048 main_cst_1
  let main_v7 : IVec S8x2048 1 := cmpf .olt main_v5 main_v6
  let main_c_2 : IVec S_ 1 := constantI S_ 1 1#1
  let main_v8 : IVec S_ 1 := (fun x v => Host.reduce IntOp.andi x v reducesTo_S8x2048_S_d0_1 h_S_) main_v7 main_c_2
  let main_v9 : IVec S_ 1 := andi main_v4 main_v8
  let main_v10 : FVec F S8x2048 .f32 := Host.absf main_arg8
  let main_cst_3 : FVec F S_ .f32 := constant S_ .f32 0x7F800000#32
  let main_v11 : FVec F S8x2048 .f32 := broadcastInDim S8x2048 ![] bcast_S_S8x2048 main_cst_3
  let main_v12 : IVec S8x2048 1 := cmpf .olt main_v10 main_v11
  let main_c_4 : IVec S_ 1 := constantI S_ 1 1#1
  let main_v13 : IVec S_ 1 := (fun x v => Host.reduce IntOp.andi x v reducesTo_S8x2048_S_d0_1 h_S_) main_v12 main_c_4
  let main_v14 : IVec S_ 1 := andi main_v9 main_v13
  let main_v15 : FVec F S2048x32 .f32 := Host.absf main_arg9
  let main_cst_5 : FVec F S_ .f32 := constant S_ .f32 0x7F800000#32
  fn_part1 (F := F) main_v14 main_v15 main_cst_5
-- ==== Pre_down_range.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S73728x2048 .bf16) (main_arg3 : FVec F S32x2048x2048 .f32) (main_arg4 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S288 1 := broadcastInDim S288 ![0] bcast_S1_S288_0 main_v6
  let main_v8 : IVec S288 1 := andi main_v4 main_v7
  main_v8
-- ==== Pre_pool_finite.lean ====
abbrev S16384x2048 : Shape := ⟨2, ![16384, 2048]⟩
abbrev S2048x2048 : Shape := ⟨2, ![2048, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_v14 : IVec S_ 1) (main_v15 : FVec F S2048x32 .f32) (main_cst_5 : FVec F S_ .f32) : IVec S_ 1 :=
  let main_v16 : FVec F S2048x32 .f32 := broadcastInDim S2048x32 ![] bcast_S_S2048x32 main_cst_5
  let main_v17 : IVec S2048x32 1 := cmpf .olt main_v15 main_v16
  let main_c_6 : IVec S_ 1 := constantI S_ 1 1#1
  let main_v18 : IVec S_ 1 := (fun x v => Host.reduce IntOp.andi x v reducesTo_S2048x32_S_d0_1 h_S_) main_v17 main_c_6
  let main_v19 : IVec S_ 1 := andi main_v14 main_v18
  main_v19

def fn {F : FTy → Type} [FloatOps F] (main_arg0 : FVec F S16384x2048 .f32) (main_arg1 : FVec F S2048x2048 .f32) (main_arg2 : FVec F S16384x2048 .f32) (main_arg3 : FVec F S2048 .f32) (main_arg4 : FVec F S8x2048 .f32) (main_arg5 : FVec F S2048 .f32) (main_arg6 : FVec F S8x2048 .f32) (main_arg7 : FVec F S8x2048 .f32) (main_arg8 : FVec F S2048x32 .f32) (main_arg9 : FVec F S32 .f32) : IVec S_ 1 :=
  let main_v0 : FVec F S2048 .f32 := Host.absf main_arg5
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_c_0 : IVec S_ 1 := constantI S_ 1 1#1
  let main_v4 : IVec S_ 1 := andi main_c_0 main_v3
  let main_v5 : FVec F S8x2048 .f32 := Host.absf main_arg6
  let main_cst_1 : FVec F S_ .f32 := constant S_ .f32 0x7F800000#32
  let main_v6 : FVec F S8x2048 .f32 := broadcastInDim S8x2048 ![] bcast_S_S8x2048 main_cst_1
  let main_v7 : IVec S8x2048 1 := cmpf .olt main_v5 main_v6
  let main_c_2 : IVec S_ 1 := constantI S_ 1 1#1
  let main_v8 : IVec S_ 1 := (fun x v => Host.reduce IntOp.andi x v reducesTo_S8x2048_S_d0_1 h_S_) main_v7 main_c_2
  let main_v9 : IVec S_ 1 := andi main_v4 main_v8
  let main_v10 : FVec F S8x2048 .f32 := Host.absf main_arg7
  let main_cst_3 : FVec F S_ .f32 := constant S_ .f32 0x7F800000#32
  let main_v11 : FVec F S8x2048 .f32 := broadcastInDim S8x2048 ![] bcast_S_S8x2048 main_cst_3
  let main_v12 : IVec S8x2048 1 := cmpf .olt main_v10 main_v11
  let main_c_4 : IVec S_ 1 := constantI S_ 1 1#1
  let main_v13 : IVec S_ 1 := (fun x v => Host.reduce IntOp.andi x v reducesTo_S8x2048_S_d0_1 h_S_) main_v12 main_c_4
  let main_v14 : IVec S_ 1 := andi main_v9 main_v13
  let main_v15 : FVec F S2048x32 .f32 := Host.absf main_arg8
  let main_cst_5 : FVec F S_ .f32 := constant S_ .f32 0x7F800000#32
  fn_part1 (F := F) main_v14 main_v15 main_cst_5
-- ==== Pre_up_range.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x4096 : Shape := ⟨2, ![32, 4096]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S73728x2048 .f32) (main_arg3 : FVec F S32x2048x4096 .f32) (main_arg4 : FVec F S32x4096 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S288 1 := broadcastInDim S288 ![0] bcast_S1_S288_0 main_v6
  let main_v8 : IVec S288 1 := andi main_v4 main_v7
  main_v8
-- ==== Kernel.lean ====
abbrev S16384x6144 : Shape := ⟨2, ![16384, 6144]⟩
abbrev S8192x1024 : Shape := ⟨2, ![8192, 1024]⟩
abbrev S256x1024 : Shape := ⟨2, ![256, 1024]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S16384x6144, .f32⟩
  | .hbm, ⟨1, _⟩ => ⟨S8192x1024, .f32⟩
  | .hbm, ⟨2, _⟩ => ⟨S8192x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x6144 : Shape := ⟨2, ![16384, 6144]⟩
abbrev S8192x6144 : Shape := ⟨2, ![8192, 6144]⟩
abbrev S32x256x6144 : Shape := ⟨3, ![32, 256, 6144]⟩
abbrev S32x256x3072 : Shape := ⟨3, ![32, 256, 3072]⟩
abbrev S32x256x3x16x64 : Shape := ⟨5, ![32, 256, 3, 16, 64]⟩
abbrev S32x256x1x16x64 : Shape := ⟨5, ![32, 256, 1, 16, 64]⟩
abbrev S32x256x16x64 : Shape := ⟨4, ![32, 256, 16, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x64x256 : Shape := ⟨4, ![32, 16, 64, 256]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S8192x6144, .f32⟩
  | .hbm, ⟨2, _⟩ => ⟨S32x256x6144, .f32⟩
  | .hbm, ⟨3, _⟩ => ⟨S32x256x3072, .f32⟩
  | .hbm, ⟨4, _⟩ => ⟨S32x256x3x16x64, .f32⟩
  | .hbm, ⟨5, _⟩ => ⟨S32x256x1x16x64, .f32⟩
  | .hbm, ⟨6, _⟩ => ⟨S32x256x16x64, .f32⟩
  | .hbm, ⟨7, _⟩ => ⟨S32x256x1x16x64, .f32⟩
  | .hbm, ⟨8, _⟩ => ⟨S32x256x16x64, .f32⟩
  | .hbm, ⟨9, _⟩ => ⟨S32x256x1x16x64, .f32⟩
  | .hbm, ⟨10, _⟩ => ⟨S32x256x16x64, .f32⟩
  | .hbm, ⟨11, _⟩ => ⟨S32x16x256x256, .f32⟩
  | .hbm, ⟨12, _⟩ => ⟨S_, .f32⟩
  | .hbm, ⟨13, _⟩ => ⟨S32x16x256x256, .f32⟩
  | .hbm, ⟨14, _⟩ => ⟨S32x16x256x256, .f32⟩
  | .hbm, ⟨15, _⟩ => ⟨S_, .f32⟩
  | .hbm, ⟨16, _⟩ => ⟨S32x16x256, .f32⟩
  | .hbm, ⟨17, _⟩ => ⟨S_, .f32⟩
  | .hbm, ⟨18, _⟩ => ⟨S32x16x256, .f32⟩
  | .hbm, ⟨19, _⟩ => ⟨S32x16x256, .f32⟩
  | .hbm, ⟨20, _⟩ => ⟨S32x16x256x1, .f32⟩
  | .hbm, ⟨21, _⟩ => ⟨S32x16x256x256, .f32⟩
  | .hbm, ⟨22, _⟩ => ⟨S32x16x256x256, .f32⟩
  | .hbm, ⟨23, _⟩ => ⟨S32x16x256x256, .f32⟩
  | .hbm, ⟨24, _⟩ => ⟨S_, .f32⟩
  | .hbm, ⟨25, _⟩ => ⟨S32x16x256, .f32⟩
  | .hbm, ⟨26, _⟩ => ⟨S32x16x256x1, .f32⟩
  | .hbm, ⟨27, _⟩ => ⟨S32x16x256x256, .f32⟩
  | .hbm, ⟨28, _⟩ => ⟨S32x16x256x256, .f32⟩
  | .hbm, ⟨29, _⟩ => ⟨S32x16x64x256, .f32⟩
  | .hbm, ⟨30, _⟩ => ⟨S32x256x16x64, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Down.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 6
  | .vmem => 8
  | .smem => 2
  | _ => 0

abbrev bufTy : (tb : Table) → Fin (tcTables nBuf tb) → BufTy
  | .hbm, ⟨0, _⟩ => ⟨S73728x2048, .bf16⟩
  | .hbm, ⟨1, _⟩ => ⟨S32x2048x2048, .f32⟩
  | .hbm, ⟨2, _⟩ => ⟨S32x2048, .f32⟩
  | .hbm, ⟨3, _⟩ => ⟨S32x2048x2048, .bf16⟩
  | .hbm, ⟨4, _⟩ => ⟨S32x1x2048, .f32⟩
  | .hbm, ⟨5, _⟩ => ⟨S73728x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .smem, ⟨0, _⟩ => ⟨S288, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x2048 : Shape := ⟨2, ![288, 2048]⟩
abbrev S288x1x2048 : Shape := ⟨3, ![288, 1, 2048]⟩
abbrev S288x1x1 : Shape := ⟨3, ![288, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x2048, .f32⟩
  | .hbm, ⟨4, _⟩ => ⟨S32x2048, .f32⟩
  | .hbm, ⟨5, _⟩ => ⟨S73728x2048, .f32⟩
  | .hbm, ⟨6, _⟩ => ⟨S288x256x2048, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x2048x2048, .f32⟩
  | .hbm, ⟨16, _⟩ => ⟨S288x256x2048, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x2048, .f32⟩
  | .hbm, ⟨26, _⟩ => ⟨S288x1x2048, .f32⟩
  | .hbm, ⟨27, _⟩ => ⟨S288x256x2048, .f32⟩
  | .hbm, ⟨28, _⟩ => ⟨S288x256x2048, .f32⟩
  | .hbm, ⟨29, _⟩ => ⟨S288, .i32⟩
  | .hbm, ⟨30, _⟩ => ⟨S288x1x1, .i32⟩
  | .hbm, ⟨31, _⟩ => ⟨S_, .i32⟩
  | .hbm, ⟨32, _⟩ => ⟨S288x1x1, .i32⟩
  | .hbm, ⟨33, _⟩ => ⟨S288x1x1, .i1⟩
  | .hbm, ⟨34, _⟩ => ⟨S_, .f32⟩
  | .hbm, ⟨35, _⟩ => ⟨S_, .f32⟩
  | .hbm, ⟨36, _⟩ => ⟨S288x256x2048, .i1⟩
  | .hbm, ⟨37, _⟩ => ⟨S288x256x2048, .f32⟩
  | .hbm, ⟨38, _⟩ => ⟨S288x256x2048, .f32⟩
  | .hbm, ⟨39, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Up.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x2048 : Shape := ⟨3, ![32, 1, 2048]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 12
  | .vmem => 12
  | .smem => 2
  | _ => 0

abbrev bufTy : (tb : Table) → Fin (tcTables nBuf tb) → BufTy
  | .hbm, ⟨0, _⟩ => ⟨S73728x2048, .f32⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048x2048, .bf16⟩
  | .hbm, ⟨5, _⟩ => ⟨S32x2048x2048, .f32⟩
  | .hbm, ⟨6, _⟩ => ⟨S32x2048x2048, .bf16⟩
  | .hbm, ⟨7, _⟩ => ⟨S32x2048, .f32⟩
  | .hbm, ⟨8, _⟩ => ⟨S32x1x2048, .f32⟩
  | .hbm, ⟨9, _⟩ => ⟨S32x2048, .f32⟩
  | .hbm, ⟨10, _⟩ => ⟨S32x1x2048, .f32⟩
  | .hbm, ⟨11, _⟩ => ⟨S73728x2048, .bf16⟩
  | .local _ .vmem, ⟨0, _⟩ => ⟨S256x2048, .f32⟩
  | .local _ .vmem, ⟨1, _⟩ => ⟨S256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .smem, ⟨0, _⟩ => ⟨S288, .i32⟩
  | .local _ .smem, ⟨1, _⟩ => ⟨S1, .i32⟩
  | _, _ => ⟨S73728x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 288], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x4096 : Shape := ⟨2, ![32, 4096]⟩
abbrev S288x256x2048 : Shape := ⟨3, ![288, 256, 2048]⟩
abbrev S_ : Shape := ⟨0, ![]⟩
abbrev S288x1 : Shape := ⟨2, ![288, 1]⟩
abbrev S288x2048x4096 : Shape := ⟨3, ![288, 2048, 4096]⟩
abbrev S288x256x4096 : Shape := ⟨3, ![288, 256, 4096]⟩
abbrev S288x4096 : Shape := ⟨2, ![288, 4096]⟩
abbrev S288x1x4096 : Shape := ⟨3, ![288, 1, 4096]⟩
abbrev S288x1x1 : Shape := ⟨3, ![288, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .f32⟩
  | .hbm, ⟨3, _⟩ => ⟨S32x2048x4096, .f32⟩
  | .hbm, ⟨4, _⟩ => ⟨S32x4096, .f32⟩
  | .hbm, ⟨5, _⟩ => ⟨S288x256x2048, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x2048x4096, .f32⟩
  | .hbm, ⟨15, _⟩ => ⟨S288x256x4096, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x4096, .f32⟩
  | .hbm, ⟨25, _⟩ => ⟨S288x1x4096, .f32⟩
  | .hbm, ⟨26, _⟩ => ⟨S288x256x4096, .f32⟩
  | .hbm, ⟨27, _⟩ => ⟨S288x256x4096, .f32⟩
  | .hbm, ⟨28, _⟩ => ⟨S288x256x2048, .f32⟩
  | .hbm, ⟨29, _⟩ => ⟨S_, .f32⟩
  | .hbm, ⟨30, _⟩ => ⟨S288x256x2048, .f32⟩
  | .hbm, ⟨31, _⟩ => ⟨S288x256x2048, .f32⟩
  | .hbm, ⟨32, _⟩ => ⟨S288x256x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S288x256x2048, .f32⟩
  | .hbm, ⟨37, _⟩ => ⟨S288x256x2048, .f32⟩
  | .hbm, ⟨38, _⟩ => ⟨S_, .f32⟩
  | .hbm, ⟨39, _⟩ => ⟨S288x256x2048, .f32⟩
  | .hbm, ⟨40, _⟩ => ⟨S288x256x2048, .f32⟩
  | .hbm, ⟨41, _⟩ => ⟨S_, .f32⟩
  | .hbm, ⟨42, _⟩ => ⟨S288x256x2048, .f32⟩
  | .hbm, ⟨43, _⟩ => ⟨S288x256x2048, .f32⟩
  | .hbm, ⟨44, _⟩ => ⟨S288x256x2048, .f32⟩
  | .hbm, ⟨45, _⟩ => ⟨S288x256x2048, .f32⟩
  | .hbm, ⟨46, _⟩ => ⟨S_, .f32⟩
  | .hbm, ⟨47, _⟩ => ⟨S288x256x2048, .f32⟩
  | .hbm, ⟨48, _⟩ => ⟨S288x256x2048, .f32⟩
  | .hbm, ⟨49, _⟩ => ⟨S_, .f32⟩
  | .hbm, ⟨50, _⟩ => ⟨S288x256x2048, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S288x256x2048, .f32⟩
  | .hbm, ⟨57, _⟩ => ⟨S288, .i32⟩
  | .hbm, ⟨58, _⟩ => ⟨S288x1x1, .i32⟩
  | .hbm, ⟨59, _⟩ => ⟨S_, .i32⟩
  | .hbm, ⟨60, _⟩ => ⟨S288x1x1, .i32⟩
  | .hbm, ⟨61, _⟩ => ⟨S288x1x1, .i1⟩
  | .hbm, ⟨62, _⟩ => ⟨S_, .f32⟩
  | .hbm, ⟨63, _⟩ => ⟨S_, .f32⟩
  | .hbm, ⟨64, _⟩ => ⟨S288x256x2048, .i1⟩
  | .hbm, ⟨65, _⟩ => ⟨S288x256x2048, .f32⟩
  | .hbm, ⟨66, _⟩ => ⟨S288x256x2048, .f32⟩
  | .hbm, ⟨67, _⟩ => ⟨S288x256x2048, .bf16⟩
  | .hbm, ⟨68, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== AbIn.lean ====
abbrev S16384x2048 : Shape := ⟨2, ![16384, 2048]⟩
abbrev S2048 : Shape := ⟨1, ![2048]⟩
abbrev S8x2048 : Shape := ⟨2, ![8, 2048]⟩
abbrev S2048x6144 : Shape := ⟨2, ![2048, 6144]⟩
abbrev S1x2048 : Shape := ⟨2, ![1, 2048]⟩
abbrev S8x1x2048 : Shape := ⟨3, ![8, 1, 2048]⟩
abbrev S16384x6144 : Shape := ⟨2, ![16384, 6144]⟩
abbrev S512x2048 : Shape := ⟨2, ![512, 2048]⟩
abbrev S1x1x2048 : Shape := ⟨3, ![1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S1x2048, .f32⟩
  | .hbm, ⟨6, _⟩ => ⟨S8x1x2048, .f32⟩
  | .hbm, ⟨7, _⟩ => ⟨S8x1x2048, .f32⟩
  | .hbm, ⟨8, _⟩ => ⟨S2048x6144, .bf16⟩
  | .hbm, ⟨9, _⟩ => ⟨S16384x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AbInRefIdeal.lean ====
abbrev S16384x2048 : Shape := ⟨2, ![16384, 2048]⟩
abbrev S2048 : Shape := ⟨1, ![2048]⟩
abbrev S8x2048 : Shape := ⟨2, ![8, 2048]⟩
abbrev S2048x6144 : Shape := ⟨2, ![2048, 6144]⟩
abbrev S1x2048 : Shape := ⟨2, ![1, 2048]⟩
abbrev S8192x2048 : Shape := ⟨2, ![8192, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S8192x2048, .f32⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S4x2048, .f32⟩
  | .hbm, ⟨17, _⟩ => ⟨S4x1x2048, .f32⟩
  | .hbm, ⟨18, _⟩ => ⟨S4x2048x2048, .f32⟩
  | .hbm, ⟨19, _⟩ => ⟨S8192x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== PoolIn.lean ====
abbrev S16384x2048 : Shape := ⟨2, ![16384, 2048]⟩
abbrev S2048 : Shape := ⟨1, ![2048]⟩
abbrev S8x2048 : Shape := ⟨2, ![8, 2048]⟩
abbrev S2048x2048 : Shape := ⟨2, ![2048, 2048]⟩
abbrev S1x2048 : Shape := ⟨2, ![1, 2048]⟩
abbrev S8x1x2048 : Shape := ⟨3, ![8, 1, 2048]⟩
abbrev S512x2048 : Shape := ⟨2, ![512, 2048]⟩
abbrev S1x1x2048 : Shape := ⟨3, ![1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x2048, .f32⟩
  | .hbm, ⟨5, _⟩ => ⟨S1x2048, .f32⟩
  | .hbm, ⟨6, _⟩ => ⟨S8x1x2048, .f32⟩
  | .hbm, ⟨7, _⟩ => ⟨S8x1x2048, .f32⟩
  | .hbm, ⟨8, _⟩ => ⟨S2048x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolInRefIdeal.lean ====
abbrev S16384x2048 : Shape := ⟨2, ![16384, 2048]⟩
abbrev S2048 : Shape := ⟨1, ![2048]⟩
abbrev S8x2048 : Shape := ⟨2, ![8, 2048]⟩
abbrev S2048x2048 : Shape := ⟨2, ![2048, 2048]⟩
abbrev S1x2048 : Shape := ⟨2, ![1, 2048]⟩
abbrev S8192x2048 : Shape := ⟨2, ![8192, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S8192x2048, .f32⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S4x2048, .f32⟩
  | .hbm, ⟨17, _⟩ => ⟨S4x1x2048, .f32⟩
  | .hbm, ⟨18, _⟩ => ⟨S4x2048x2048, .f32⟩
  | .hbm, ⟨19, _⟩ => ⟨S8192x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== AbOut.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S8x1x2048 : Shape := ⟨3, ![8, 1, 2048]⟩
abbrev S16384x128 : Shape := ⟨2, ![16384, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩

abbrev nBuf : Space → Nat
  | .hbm => 37
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S8x2048, .f32⟩
  | .hbm, ⟨6, _⟩ => ⟨S2048, .f32⟩
  | .hbm, ⟨7, _⟩ => ⟨S8x2048, .f32⟩
  | .hbm, ⟨8, _⟩ => ⟨S8x2048, .f32⟩
  | .hbm, ⟨9, _⟩ => ⟨S2048x32, .f32⟩
  | .hbm, ⟨10, _⟩ => ⟨S32, .f32⟩
  | .hbm, ⟨11, _⟩ => ⟨S_, .f32⟩
  | .hbm, ⟨12, _⟩ => ⟨S2048x128, .f32⟩
  | .hbm, ⟨13, _⟩ => ⟨S_, .i32⟩
  | .hbm, ⟨14, _⟩ => ⟨S1, .i32⟩
  | .hbm, ⟨15, _⟩ => ⟨S2048x128, .f32⟩
  | .hbm, ⟨16, _⟩ => ⟨S2048x128, .bf16⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S2048x2048, .bf16⟩
  | .hbm, ⟨29, _⟩ => ⟨S1x2048, .f32⟩
  | .hbm, ⟨30, _⟩ => ⟨S8x1x2048, .f32⟩
  | .hbm, ⟨31, _⟩ => ⟨S1x2048, .f32⟩
  | .hbm, ⟨32, _⟩ => ⟨S8x1x2048, .f32⟩
  | .hbm, ⟨33, _⟩ => ⟨S8x1x2048, .f32⟩
  | .hbm, ⟨34, _⟩ => ⟨S16384x2048, .f32⟩
  | .hbm, ⟨35, _⟩ => ⟨S16384x2048, .f32⟩
  | .hbm, ⟨36, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .bf16⟩
  | .local _ .vmem, ⟨16, _⟩ => ⟨S2048x128, .bf16⟩
  | .local _ .vmem, ⟨17, _⟩ => ⟨S1x128, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x128, .f32⟩
  | .local _ .vmem, ⟨23, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AbOutRefIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S1x2048 : Shape := ⟨2, ![1, 2048]⟩
abbrev S8192x2048 : Shape := ⟨2, ![8192, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S1x32 : Shape := ⟨2, ![1, 32]⟩
abbrev S16384x96 : Shape := ⟨2, ![16384, 96]⟩
abbrev S16384x128 : Shape := ⟨2, ![16384, 128]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S8x2048, .f32⟩
  | .hbm, ⟨6, _⟩ => ⟨S2048, .f32⟩
  | .hbm, ⟨7, _⟩ => ⟨S8x2048, .f32⟩
  | .hbm, ⟨8, _⟩ => ⟨S8x2048, .f32⟩
  | .hbm, ⟨9, _⟩ => ⟨S2048x32, .f32⟩
  | .hbm, ⟨10, _⟩ => ⟨S32, .f32⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S4x2048, .f32⟩
  | .hbm, ⟨17, _⟩ => ⟨S4x1x2048, .f32⟩
  | .hbm, ⟨18, _⟩ => ⟨S4x2048x2048, .f32⟩
  | .hbm, ⟨19, _⟩ => ⟨S8192x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S2048, .f32⟩
  | .hbm, ⟨41, _⟩ => ⟨S8192x2048, .f32⟩
  | .hbm, ⟨42, _⟩ => ⟨S4x2048, .f32⟩
  | .hbm, ⟨43, _⟩ => ⟨S4x1x2048, .f32⟩
  | .hbm, ⟨44, _⟩ => ⟨S4x2048x2048, .f32⟩
  | .hbm, ⟨45, _⟩ => ⟨S8192x2048, .f32⟩
  | .hbm, ⟨46, _⟩ => ⟨S16384x2048, .f32⟩
  | .hbm, ⟨47, _⟩ => ⟨S1x2048, .f32⟩
  | .hbm, ⟨48, _⟩ => ⟨S2048, .f32⟩
  | .hbm, ⟨49, _⟩ => ⟨S8192x2048, .f32⟩
  | .hbm, ⟨50, _⟩ => ⟨S4x2048, .f32⟩
  | .hbm, ⟨51, _⟩ => ⟨S4x1x2048, .f32⟩
  | .hbm, ⟨52, _⟩ => ⟨S4x2048x2048, .f32⟩
  | .hbm, ⟨53, _⟩ => ⟨S8192x2048, .f32⟩
  | .hbm, ⟨54, _⟩ => ⟨S16384x2048, .f32⟩
  | .hbm, ⟨55, _⟩ => ⟨S16384x2048, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x2048, .f32⟩
  | .hbm, ⟨67, _⟩ => ⟨S16384x2048, .f32⟩
  | .hbm, ⟨68, _⟩ => ⟨S1x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x32, .f32⟩
  | .hbm, ⟨77, _⟩ => ⟨S1x32, .f32⟩
  | .hbm, ⟨78, _⟩ => ⟨S16384x32, .f32⟩
  | .hbm, ⟨79, _⟩ => ⟨S16384x32, .f32⟩
  | .hbm, ⟨80, _⟩ => ⟨S_, .f32⟩
  | .hbm, ⟨81, _⟩ => ⟨S16384x96, .f32⟩
  | .hbm, ⟨82, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== PoolOut.lean ====
abbrev S16384x2048 : Shape := ⟨2, ![16384, 2048]⟩
abbrev S2048x2048 : Shape := ⟨2, ![2048, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S8x1x2048 : Shape := ⟨3, ![8, 1, 2048]⟩
abbrev S16384x128 : Shape := ⟨2, ![16384, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩

abbrev nBuf : Space → Nat
  | .hbm => 36
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S8x2048, .f32⟩
  | .hbm, ⟨5, _⟩ => ⟨S2048, .f32⟩
  | .hbm, ⟨6, _⟩ => ⟨S8x2048, .f32⟩
  | .hbm, ⟨7, _⟩ => ⟨S8x2048, .f32⟩
  | .hbm, ⟨8, _⟩ => ⟨S2048x32, .f32⟩
  | .hbm, ⟨9, _⟩ => ⟨S32, .f32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S1, .i32⟩
  | .hbm, ⟨14, _⟩ => ⟨S2048x128, .f32⟩
  | .hbm, ⟨15, _⟩ => ⟨S2048x128, .bf16⟩
  | .hbm, ⟨16, _⟩ => ⟨S2048x128, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S2048x2048, .bf16⟩
  | .hbm, ⟨28, _⟩ => ⟨S1x2048, .f32⟩
  | .hbm, ⟨29, _⟩ => ⟨S8x1x2048, .f32⟩
  | .hbm, ⟨30, _⟩ => ⟨S1x2048, .f32⟩
  | .hbm, ⟨31, _⟩ => ⟨S8x1x2048, .f32⟩
  | .hbm, ⟨32, _⟩ => ⟨S8x1x2048, .f32⟩
  | .hbm, ⟨33, _⟩ => ⟨S16384x2048, .f32⟩
  | .hbm, ⟨34, _⟩ => ⟨S16384x2048, .f32⟩
  | .hbm, ⟨35, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S2048x128, .bf16⟩
  | .local _ .vmem, ⟨16, _⟩ => ⟨S2048x128, .bf16⟩
  | .local _ .vmem, ⟨17, _⟩ => ⟨S1x128, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x128, .f32⟩
  | .local _ .vmem, ⟨23, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_8 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PoolOutRefIdeal.lean ====
abbrev S16384x2048 : Shape := ⟨2, ![16384, 2048]⟩
abbrev S2048x2048 : Shape := ⟨2, ![2048, 2048]⟩
abbrev S2048 : Shape := ⟨1, ![2048]⟩
abbrev S8x2048 : Shape := ⟨2, ![8, 2048]⟩
abbrev S2048x32 : Shape := ⟨2, ![2048, 32]⟩
abbrev S32 : Shape := ⟨1, ![32]⟩
abbrev S1x2048 : Shape := ⟨2, ![1, 2048]⟩
abbrev S8192x2048 : Shape := ⟨2, ![8192, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S1x32 : Shape := ⟨2, ![1, 32]⟩
abbrev S16384x96 : Shape := ⟨2, ![16384, 96]⟩
abbrev S16384x128 : Shape := ⟨2, ![16384, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S8x2048, .f32⟩
  | .hbm, ⟨5, _⟩ => ⟨S2048, .f32⟩
  | .hbm, ⟨6, _⟩ => ⟨S8x2048, .f32⟩
  | .hbm, ⟨7, _⟩ => ⟨S8x2048, .f32⟩
  | .hbm, ⟨8, _⟩ => ⟨S2048x32, .f32⟩
  | .hbm, ⟨9, _⟩ => ⟨S32, .f32⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S8192x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S8192x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S2048, .f32⟩
  | .hbm, ⟨39, _⟩ => ⟨S8192x2048, .f32⟩
  | .hbm, ⟨40, _⟩ => ⟨S4x2048, .f32⟩
  | .hbm, ⟨41, _⟩ => ⟨S4x1x2048, .f32⟩
  | .hbm, ⟨42, _⟩ => ⟨S4x2048x2048, .f32⟩
  | .hbm, ⟨43, _⟩ => ⟨S8192x2048, .f32⟩
  | .hbm, ⟨44, _⟩ => ⟨S16384x2048, .f32⟩
  | .hbm, ⟨45, _⟩ => ⟨S1x2048, .f32⟩
  | .hbm, ⟨46, _⟩ => ⟨S2048, .f32⟩
  | .hbm, ⟨47, _⟩ => ⟨S8192x2048, .f32⟩
  | .hbm, ⟨48, _⟩ => ⟨S4x2048, .f32⟩
  | .hbm, ⟨49, _⟩ => ⟨S4x1x2048, .f32⟩
  | .hbm, ⟨50, _⟩ => ⟨S4x2048x2048, .f32⟩
  | .hbm, ⟨51, _⟩ => ⟨S8192x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x2048, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x32, .f32⟩
  | .hbm, ⟨75, _⟩ => ⟨S1x32, .f32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S16384x96, .f32⟩
  | .hbm, ⟨80, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Proof.CtxHead.lean ====
/- Attention over one context sequence, one head at a time: the function, and that the kernel's sixteen strip products each
   compute it. -/
module

public import proofs.«01_k».proof.Proof.Gen.KernelIdeal.Frame
public import Idealize.ShloMosaic.Lib.MatmulPlain
public import Idealize.ShloMosaic.Lib.Pipeline.Value
public import Idealize.ShloMosaic.Lib.ValueIdx
public import Idealize.ShloMosaic.PureOps.Ideal.Laws

@[expose] public section

set_option maxRecDepth 16384

noncomputable section

namespace Cert.CtxHead

open Idealize.ShloMosaic
open Idealize.ShloMosaic.ValueIdx

/-- The factor 1/8 that the scores are scaled by, as the programs write it. -/
def scale : EReal := Ideal.ofBits .f32 0x3E000000#32

/-- Scaled score of query row `a` against key row `b`. -/
def score (q k : Fin 256 → Fin 64 → EReal) (a b : Fin 256) : EReal := (∑ d : Fin 64, q a d * k b d) * scale

/-- Largest score of query row `a`. -/
def top (q k : Fin 256 → Fin 64 → EReal) (a : Fin 256) : EReal :=
  (Finset.univ : Finset (Fin 256)).fold max ⊥ (score q k a)

/-- Exponential of a score less the row's largest. -/
def expo (q k : Fin 256 → Fin 64 → EReal) (a b : Fin 256) : EReal := Ideal.exp (score q k a b - top q k a)

/-- Softmax attention of one head: the values weighted by the normalised exponentials. -/
def attn (q k v : Fin 256 → Fin 64 → EReal) (a : Fin 256) (e : Fin 64) : EReal :=
  ∑ b : Fin 256, Ideal.div (expo q k a b) (∑ b' : Fin 256, expo q k a b') * v b e

/-- The word the maxima start from denotes minus infinity. -/
theorem neg_inf : Ideal.ofBits .f32 0xFF800000#32 = ⊥ := by simp [Ideal.ofBits, Ideal.ieee]

open Cert.KernelIdeal Cert.KernelIdeal.Gen

/-- The score product of two strips is the transposed-right product of their sizes. -/
theorem dot_scores : dot_S256x64_S256x64_S256x256_1_1_0_0_n_n = DotDims.transposedRhs 256 64 256 := rfl
/-- The product of the weights with the value strip is the plain one. -/
theorem dot_values : dot_S256x256_S256x64_S256x64_1_0_0_1_n_n = DotDims.plain 256 256 64 := rfl

/-- Index of a row inserted at the reduced column. -/
theorem lift_row (a b : Fin 256) : (reduces_S256x256_S256).lift (ix1 a) b = ix2 a b := by
  funext x; apply Fin.ext
  match x with
  | ⟨0, _⟩ => rfl
  | ⟨1, _⟩ => rfl

/-- A column vector made from a row-indexed one and spread over all columns reads the row's entry. -/
theorem spread (f : FVec Ideal S256 .f32) (a b : Fin 256) :
    broadcastTo S256x256 (shapeCast S256x1 f shapeCasts_S256_S256x1) broadcasts_S256x1_S256x256 (ix2 a b) = f (ix1 a) := by
  refine (broadcastTo_apply _ broadcasts_S256x1_S256x256 (ix2 a b) (ix2 a (0 : Fin 1)) fun x => ?_).trans ?_
  · match x with
    | ⟨0, _⟩ => rfl
    | ⟨1, _⟩ => rfl
  · exact shapeCast_apply f shapeCasts_S256_S256x1 (ix2 a (0 : Fin 1)) (ix1 a) (by
      rw [Shape.rowMajor_val_one, Shape.rowMajor_val_two]
      show a.val = a.val * 1 + 0
      omega)

/-- ONE STRIP: the kernel's computation on a head's query, key and value strips is the head's attention. -/
theorem head_apply (q k v : Vec Ideal S256x64 .f32) (a : Fin 256) (e : Fin 64) :
    k0_pay1 q k v (ix2 a e) = attn (fun x d => q (ix2 x d)) (fun x d => k (ix2 x d)) (fun x d => v (ix2 x d)) a e := by
  unfold k0_pay1
  dsimp only
  have hs : ∀ x b : Fin 256,
      mulf (F := Ideal) (matmul dot_S256x64_S256x64_S256x256_1_1_0_0_n_n none (truncf .bf16 q bitsLt_bf16_f32) (truncf .bf16 k bitsLt_bf16_f32)
          (constant S256x256 .f32 0x00000000#32)) (broadcast S256x256 (Scalar.ofBits .f32 0x3E000000#32)) (ix2 x b)
        = score (fun x d => q (ix2 x d)) (fun x d => k (ix2 x d)) x b := by
    intro x b
    show FloatOps.matmul (F := Ideal) _ none _ _ _ (ix2 x b) * scale = _
    rw [dot_scores, Ideal.matmul_transposedRhs_apply]
    show (Ideal.ofBits .f32 0x00000000#32 + _) * _ = _
    rw [Ideal.ofBits_zero_f32, zero_add]
    rfl
  generalize mulf (F := Ideal) (matmul dot_S256x64_S256x64_S256x256_1_1_0_0_n_n none (truncf .bf16 q bitsLt_bf16_f32) (truncf .bf16 k bitsLt_bf16_f32)
          (constant S256x256 .f32 0x00000000#32)) (broadcast S256x256 (Scalar.ofBits .f32 0x3E000000#32)) = s at hs ⊢
  have hm : ∀ x : Fin 256, multiReduction (F := Ideal) .maximumf [1] S256 s 0xFF800000#32 reduces_S256x256_S256 (.inl rfl) rfl (ix1 x)
      = top (fun x d => q (ix2 x d)) (fun x d => k (ix2 x d)) x := by
    intro x
    refine (Ideal.multiReduction_maximumf_single s 0xFF800000#32 reduces_S256x256_S256 (.inl rfl) rfl (ix1 x)).trans ?_
    show Finset.fold max (Ideal.ofBits .f32 0xFF800000#32) _ (Finset.univ : Finset (Fin 256)) = _
    rw [neg_inf]
    unfold top
    congr 1
    funext b
    exact (congrArg s (lift_row x b)).trans (hs x b)
  generalize multiReduction (F := Ideal) .maximumf [1] S256 s 0xFF800000#32 reduces_S256x256_S256 (.inl rfl) rfl = M at hm ⊢
  have he : ∀ x b : Fin 256, exp (F := Ideal) (subf s (broadcastTo S256x256 (shapeCast S256x1 M shapeCasts_S256_S256x1) broadcasts_S256x1_S256x256)) (ix2 x b)
      = expo (fun x d => q (ix2 x d)) (fun x d => k (ix2 x d)) x b := by
    intro x b
    show Ideal.exp (s (ix2 x b) - broadcastTo S256x256 (shapeCast S256x1 M shapeCasts_S256_S256x1) broadcasts_S256x1_S256x256 (ix2 x b)) = _
    rw [spread, hs, hm]; rfl
  generalize exp (F := Ideal) (subf s (broadcastTo S256x256 (shapeCast S256x1 M shapeCasts_S256_S256x1) broadcasts_S256x1_S256x256)) = E at he ⊢
  have hz : ∀ x : Fin 256, multiReduction (F := Ideal) .add [1] S256 E 0x00000000#32 reduces_S256x256_S256 (.inl rfl) rfl (ix1 x)
      = ∑ b : Fin 256, expo (fun x d => q (ix2 x d)) (fun x d => k (ix2 x d)) x b := by
    intro x
    refine (Ideal.multiReduction_add_single E 0x00000000#32 reduces_S256x256_S256 (.inl rfl) rfl (ix1 x)).trans ?_
    refine Finset.sum_congr rfl fun b _ => ?_
    exact (congrArg E (lift_row x b)).trans (he x b)
  generalize multiReduction (F := Ideal) .add [1] S256 E 0x00000000#32 reduces_S256x256_S256 (.inl rfl) rfl = Z at hz ⊢
  show FloatOps.matmul (F := Ideal) _ none _ _ _ (ix2 a e) = _
  rw [dot_values, Ideal.matmul_plain_apply]
  show Ideal.ofBits .f32 0x00000000#32 + _ = _
  rw [Ideal.ofBits_zero_f32, zero_add]
  unfold attn
  refine Finset.sum_congr rfl fun b _ => ?_
  show Ideal.div (E (ix2 a b)) (broadcastTo S256x256 (shapeCast S256x1 Z shapeCasts_S256_S256x1) broadcasts_S256x1_S256x256 (ix2 a b)) * v (ix2 b e) = _
  rw [spread, he, hz]

end Cert.CtxHead

end
-- ==== Proof.CtxArray.lean ====
/- The three arrays the context attention kernel leaves: the attention of every sequence and head, and the keys and values
   copied out of the projected array. -/
module

public import proofs.«01_k».proof.Proof.CtxHead
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.CtxArray

open Idealize.ShloMosaic hiding ix1 ix2
open Idealize.ShloMosaic.TcCoe Idealize.SL.Sem Idealize.ShloMosaic.ValueIdx
open Idealize.ShloMosaic.Pipeline (Dat)
open Cert.KernelIdeal Cert.KernelIdeal.Gen Cert.CtxHead

/-- Columns `64 h …` of a block. -/
def strip (x : Vec Ideal S256x1024 .f32) (h : Fin 16) (a : Fin 256) (d : Fin 64) : EReal :=
  x (ix2 a (⟨64 * h.val + d.val, by omega⟩ : Fin 1024))

/-- Attention of a whole block: column `c` belongs to head `c / 64`. -/
def blockAttn (q k v : Vec Ideal S256x1024 .f32) (y : S256x1024.Idx) : EReal :=
  attn (strip q ⟨(y 1).val / 64, by have : (y 1).val < 1024 := (y 1).isLt; omega⟩)
    (strip k ⟨(y 1).val / 64, by have : (y 1).val < 1024 := (y 1).isLt; omega⟩)
    (strip v ⟨(y 1).val / 64, by have : (y 1).val < 1024 := (y 1).isLt; omega⟩) (y 0)
    ⟨(y 1).val % 64, by omega⟩

/-- The strip product written at column offset `64 h` is the block's attention there. -/
theorem piece (q k v : Vec Ideal S256x1024 .f32) (h : Fin 16) (o : Nat) (ho : o = 64 * h.val)
    (inb : ∀ a, (![0, o] : Fin 2 → Nat) a + S256x64.size a ≤ S256x1024.size a) (x : S256x64.Idx) :
    k0_pay1 (View.ld q (Rect.unit (s := S256x1024) ![0, o] S256x64.size inb)) (View.ld k (Rect.unit (s := S256x1024) ![0, o] S256x64.size inb))
        (View.ld v (Rect.unit (s := S256x1024) ![0, o] S256x64.size inb)) x
      = blockAttn q k v ((Rect.unit (s := S256x1024) ![0, o] S256x64.size inb).emb x) := by
  subst ho
  have hx1 : (x 1).val < 64 := (x 1).isLt
  have hld : ∀ (z : Vec Ideal S256x1024 .f32) (a : Fin 256) (d : Fin 64),
      View.ld z (Rect.unit (s := S256x1024) ![0, 64 * h.val] S256x64.size inb) (ix2 a d) = strip z h a d := by
    intro z a d
    refine congrArg z (funext fun b => Fin.ext ?_)
    match b with
    | ⟨0, _⟩ => show 0 + 1 * a.val = a.val; omega
    | ⟨1, _⟩ => show 64 * h.val + 1 * d.val = 64 * h.val + d.val; omega
  have e0 : (((Rect.unit (s := S256x1024) ![0, 64 * h.val] S256x64.size inb).emb x) 0).val = (x 0).val := by
    show 0 + 1 * (x 0).val = _; omega
  have e1 : (((Rect.unit (s := S256x1024) ![0, 64 * h.val] S256x64.size inb).emb x) 1).val = 64 * h.val + (x 1).val := by
    show 64 * h.val + 1 * (x 1).val = _; omega
  have ex : x = ix2 (x 0) (x 1) := funext fun b => match b with | ⟨0, _⟩ => rfl | ⟨1, _⟩ => rfl
  refine (congrArg _ ex).trans ((head_apply _ _ _ (x 0) (x 1)).trans ?_)
  unfold blockAttn
  have eh : (⟨(((Rect.unit (s := S256x1024) ![0, 64 * h.val] S256x64.size inb).emb x) 1).val / 64, by rw [e1]; omega⟩ : Fin 16) = h :=
    Fin.ext (by show _ / 64 = h.val; rw [e1]; omega)
  have em : (⟨(((Rect.unit (s := S256x1024) ![0, 64 * h.val] S256x64.size inb).emb x) 1).val % 64, by omega⟩ : Fin 64) = x 1 :=
    Fin.ext (by show _ % 64 = (x 1).val; rw [e1]; omega)
  have ea : ((Rect.unit (s := S256x1024) ![0, 64 * h.val] S256x64.size inb).emb x) 0 = x 0 := Fin.ext e0
  rw [eh, em, ea]
  have hq := fun z => (funext fun a => funext fun d => hld z a d : (fun a d => View.ld z (Rect.unit (s := S256x1024) ![0, 64 * h.val] S256x64.size inb) (ix2 a d)) = strip z h)
  rw [← hq q, ← hq k, ← hq v]

/-- WHAT ONE POINT WRITES: the sixteen strips together are the block's attention. -/
theorem out_attn (q k v : Vec Ideal S256x1024 .f32) : out0_3 q k v = blockAttn q k v := by
  funext y
  unfold out0_3
  rw [← List.append_nil (_ :: _)]
  refine View.canon_append_of_piecesOf (Val := Elt Ideal) (e := .f32) (blockAttn q k v) [] _ ?_ y
    (cover0_3 (F := Ideal) _ _ _ _ _ _ _ _ _ _ _ _ _ _ _ _ y)
  exact ⟨fun x => piece q k v 15 960 rfl inb_S256x1024_S256x64_0_960 x,
    fun x => piece q k v 14 896 rfl inb_S256x1024_S256x64_0_896 x,
    fun x => piece q k v 13 832 rfl inb_S256x1024_S256x64_0_832 x,
    fun x => piece q k v 12 768 rfl inb_S256x1024_S256x64_0_768 x,
    fun x => piece q k v 11 704 rfl inb_S256x1024_S256x64_0_704 x,
    fun x => piece q k v 10 640 rfl inb_S256x1024_S256x64_0_640 x,
    fun x => piece q k v 9 576 rfl inb_S256x1024_S256x64_0_576 x,
    fun x => piece q k v 8 512 rfl inb_S256x1024_S256x64_0_512 x,
    fun x => piece q k v 7 448 rfl inb_S256x1024_S256x64_0_448 x,
    fun x => piece q k v 6 384 rfl inb_S256x1024_S256x64_0_384 x,
    fun x => piece q k v 5 320 rfl inb_S256x1024_S256x64_0_320 x,
    fun x => piece q k v 4 256 rfl inb_S256x1024_S256x64_0_256 x,
    fun x => piece q k v 3 192 rfl inb_S256x1024_S256x64_0_192 x,
    fun x => piece q k v 2 128 rfl inb_S256x1024_S256x64_0_128 x,
    fun x => piece q k v 1 64 rfl inb_S256x1024_S256x64_0_64 x,
    fun x => piece q k v 0 0 rfl inb_S256x1024_S256x64_0_0 x, trivial⟩

variable (m : (ℓ : Loc nD τ sig) → Buf (Elt Ideal) ℓ) (ρ : Dev nD → PrngReg)

/-- The projected array of device `c`. -/
abbrev proj (c : Dev nD) : S16384x6144.Idx → EReal := m ((c : Thread nD τ).loc main_arg0)

/-- Each window's block index at each point: sequence `t`, and the column block of queries, keys or values. -/
theorem idx : ∀ t : Fin cfg0.N, win0_0.index t = ![t.val, 3] ∧ win0_1.index t = ![t.val, 4] ∧ win0_2.index t = ![t.val, 5]
    ∧ win0_3.index t = ![t.val, 0] ∧ win0_4.index t = ![t.val, 0] ∧ win0_5.index t = ![t.val, 0] :=
  (by decide +kernel : ∀ t : Fin grid0.N, _)

/-- Element of column group `g` (3 queries, 4 keys, 5 values) of the prompt rows. -/
def col (p : S16384x6144.Idx → EReal) (g : Nat) (hg : g < 6) (r : Fin 8192) (j : Fin 1024) : EReal :=
  p (ix2 (⟨r.val, by omega⟩ : Fin 16384) (⟨1024 * g + j.val, by omega⟩ : Fin 6144))

/-- Rows `256 s …` of head `h` of a column group: a head's queries, keys or values in sequence `s`. -/
def part (p : S16384x6144.Idx → EReal) (g : Nat) (hg : g < 6) (s : Fin 32) (h : Fin 16) (a : Fin 256) (d : Fin 64) : EReal :=
  col p g hg ⟨256 * s.val + a.val, by omega⟩ ⟨64 * h.val + d.val, by omega⟩

/-- The attention output at a row and column of the result. -/
def outAttn (p : S16384x6144.Idx → EReal) (i : S8192x1024.Idx) : EReal :=
  attn (part p 3 (by omega) ⟨(i 0).val / 256, by have : (i 0).val < 8192 := (i 0).isLt; omega⟩ ⟨(i 1).val / 64, by have : (i 1).val < 1024 := (i 1).isLt; omega⟩)
    (part p 4 (by omega) ⟨(i 0).val / 256, by have : (i 0).val < 8192 := (i 0).isLt; omega⟩ ⟨(i 1).val / 64, by have : (i 1).val < 1024 := (i 1).isLt; omega⟩)
    (part p 5 (by omega) ⟨(i 0).val / 256, by have : (i 0).val < 8192 := (i 0).isLt; omega⟩ ⟨(i 1).val / 64, by have : (i 1).val < 1024 := (i 1).isLt; omega⟩)
    ⟨(i 0).val % 256, by omega⟩ ⟨(i 1).val % 64, by omega⟩

/-- The keys (4) or values (5) as the result lays them out. -/
def outCopy (p : S16384x6144.Idx → EReal) (g : Nat) (hg : g < 6) (i : S8192x1024.Idx) : EReal := col p g hg (i 0) (i 1)

/-- A grid point is below the number of sequences. -/
theorem hN (t : Fin cfg0.N) : t.val < 32 := lt_of_lt_of_eq t.isLt (N_0 : cfg0.N = 32)

/-- Block `t` of the queries, read at row `a` and column `j`. -/
theorem blk_q (c : Dev nD) (t : Fin cfg0.N) (a : Fin 256) (j : Fin 1024) :
    (iblk m c 0 t : Vec Ideal S256x1024 .f32) (ix2 a j) = col (proj m c) 3 (by omega) ⟨256 * t.val + a.val, by have := hN t; omega⟩ j := by
  unfold col
  blk_simp [iblk]
  refine congrArg (proj m c) (funext fun b => Fin.ext ?_)
  match b with
  | ⟨0, _⟩ => show win0_0.index t 0 * 256 + 1 * a.val = 256 * t.val + a.val
              rw [(idx t).1]; show t.val * 256 + 1 * a.val = _; omega
  | ⟨1, _⟩ => show win0_0.index t 1 * 1024 + 1 * j.val = 1024 * 3 + j.val
              rw [(idx t).1]; show 3 * 1024 + 1 * j.val = _; omega

/-- Block `t` of the keys. -/
theorem blk_k (c : Dev nD) (t : Fin cfg0.N) (a : Fin 256) (j : Fin 1024) :
    (iblk m c 1 t : Vec Ideal S256x1024 .f32) (ix2 a j) = col (proj m c) 4 (by omega) ⟨256 * t.val + a.val, by have := hN t; omega⟩ j := by
  unfold col
  blk_simp [iblk]
  refine congrArg (proj m c) (funext fun b => Fin.ext ?_)
  match b with
  | ⟨0, _⟩ => show win0_1.index t 0 * 256 + 1 * a.val = 256 * t.val + a.val
              rw [(idx t).2.1]; show t.val * 256 + 1 * a.val = _; omega
  | ⟨1, _⟩ => show win0_1.index t 1 * 1024 + 1 * j.val = 1024 * 4 + j.val
              rw [(idx t).2.1]; show 4 * 1024 + 1 * j.val = _; omega

/-- Block `t` of the values. -/
theorem blk_v (c : Dev nD) (t : Fin cfg0.N) (a : Fin 256) (j : Fin 1024) :
    (iblk m c 2 t : Vec Ideal S256x1024 .f32) (ix2 a j) = col (proj m c) 5 (by omega) ⟨256 * t.val + a.val, by have := hN t; omega⟩ j := by
  unfold col
  blk_simp [iblk]
  refine congrArg (proj m c) (funext fun b => Fin.ext ?_)
  match b with
  | ⟨0, _⟩ => show win0_2.index t 0 * 256 + 1 * a.val = 256 * t.val + a.val
              rw [(idx t).2.2.1]; show t.val * 256 + 1 * a.val = _; omega
  | ⟨1, _⟩ => show win0_2.index t 1 * 1024 + 1 * j.val = 1024 * 5 + j.val
              rw [(idx t).2.2.1]; show 5 * 1024 + 1 * j.val = _; omega

/-- Where output block `t` lies in its array. -/
theorem emb_val (t : Fin cfg0.N) (y : S256x1024.Idx) :
    ((((win0_3.blk t).view.emb y : S8192x1024.Idx) 0).val = 256 * t.val + (y 0).val
      ∧ (((win0_3.blk t).view.emb y : S8192x1024.Idx) 1).val = (y 1).val)
    ∧ ((((win0_4.blk t).view.emb y : S8192x1024.Idx) 0).val = 256 * t.val + (y 0).val
      ∧ (((win0_4.blk t).view.emb y : S8192x1024.Idx) 1).val = (y 1).val)
    ∧ ((((win0_5.blk t).view.emb y : S8192x1024.Idx) 0).val = 256 * t.val + (y 0).val
      ∧ (((win0_5.blk t).view.emb y : S8192x1024.Idx) 1).val = (y 1).val) := by
  obtain ⟨-, -, -, h3, h4, h5⟩ := idx t
  refine ⟨⟨?_, ?_⟩, ⟨?_, ?_⟩, ?_, ?_⟩
  · show win0_3.index t 0 * 256 + 1 * (y 0).val = _
    rw [h3]; show t.val * 256 + 1 * (y 0).val = _; omega
  · show win0_3.index t 1 * 1024 + 1 * (y 1).val = _
    rw [h3]; show 0 * 1024 + 1 * (y 1).val = _; omega
  · show win0_4.index t 0 * 256 + 1 * (y 0).val = _
    rw [h4]; show t.val * 256 + 1 * (y 0).val = _; omega
  · show win0_4.index t 1 * 1024 + 1 * (y 1).val = _
    rw [h4]; show 0 * 1024 + 1 * (y 1).val = _; omega
  · show win0_5.index t 0 * 256 + 1 * (y 0).val = _
    rw [h5]; show t.val * 256 + 1 * (y 0).val = _; omega
  · show win0_5.index t 1 * 1024 + 1 * (y 1).val = _
    rw [h5]; show 0 * 1024 + 1 * (y 1).val = _; omega

/-- The attention of block `t`, as part of the whole result. -/
theorem attn_at (c : Dev nD) (t : Fin cfg0.N) (y : S256x1024.Idx) (i : S8192x1024.Idx)
    (h0 : (i 0).val = 256 * t.val + (y 0).val) (h1 : (i 1).val = (y 1).val) :
    blockAttn (iblk m c 0 t) (iblk m c 1 t) (iblk m c 2 t) y = outAttn (proj m c) i := by
  have ht := hN t
  have hy0 : (y 0).val < 256 := (y 0).isLt
  have hy1 : (y 1).val < 1024 := (y 1).isLt
  unfold blockAttn outAttn
  have es : (⟨(i 0).val / 256, by have : (i 0).val < 8192 := (i 0).isLt; omega⟩ : Fin 32) = ⟨t.val, ht⟩ := Fin.ext (by show _ / 256 = t.val; omega)
  have eh : (⟨(i 1).val / 64, by have : (i 1).val < 1024 := (i 1).isLt; omega⟩ : Fin 16) = ⟨(y 1).val / 64, by omega⟩ := Fin.ext (by show _ / 64 = _ / 64; omega)
  have er : (⟨(i 0).val % 256, by omega⟩ : Fin 256) = y 0 := Fin.ext (by show _ % 256 = (y 0).val; omega)
  have ed : (⟨(i 1).val % 64, by omega⟩ : Fin 64) = ⟨(y 1).val % 64, by omega⟩ := Fin.ext (by show _ % 64 = _ % 64; omega)
  rw [es, eh, er, ed]
  have hq : ∀ h, strip (iblk m c 0 t) h = part (proj m c) 3 (by omega) ⟨t.val, ht⟩ h := fun h =>
    funext fun a => funext fun d => blk_q m c t a _
  have hk : ∀ h, strip (iblk m c 1 t) h = part (proj m c) 4 (by omega) ⟨t.val, ht⟩ h := fun h =>
    funext fun a => funext fun d => blk_k m c t a _
  have hv : ∀ h, strip (iblk m c 2 t) h = part (proj m c) 5 (by omega) ⟨t.val, ht⟩ h := fun h =>
    funext fun a => funext fun d => blk_v m c t a _
  rw [hq, hk, hv]

/-- The attention array after the run. -/
theorem arr_attn (c : Dev nD) : (dats m 0 c).arrAt 3 cfg0.N = outAttn (proj m c) := by
  refine (dats m 0 c).arrAt_eq_of_covers 3 _ (by decide +kernel) fun t hf y => ?_
  rw [after0_3, out_attn]
  exact attn_at m c t y _ (emb_val t y).1.1 (emb_val t y).1.2

/-- A block copied through the whole buffer is itself. -/
theorem out_k (x0 x1 x2 : Vec Ideal S256x1024 .f32) : out0_4 x0 x1 x2 = x1 := by
  unfold out0_4
  have hz : (![0, 0] : Fin 2 → Nat) = fun _ => 0 := funext fun a => by fin_cases a <;> rfl
  rw [View.canon_unit_zero hz, View.ld_unit_zero hz]

/-- Likewise for the values. -/
theorem out_v (x0 x1 x2 : Vec Ideal S256x1024 .f32) : out0_5 x0 x1 x2 = x2 := by
  unfold out0_5
  have hz : (![0, 0] : Fin 2 → Nat) = fun _ => 0 := funext fun a => by fin_cases a <;> rfl
  rw [View.canon_unit_zero hz, View.ld_unit_zero hz]

/-- An index of a block by its coordinates. -/
theorem eta (y : S256x1024.Idx) : y = ix2 (n0 := 256) (n1 := 1024) (y 0) (y 1) :=
  funext fun b => match b with | ⟨0, _⟩ => rfl | ⟨1, _⟩ => rfl

/-- A column group read at equal coordinates. -/
theorem col_at (p : S16384x6144.Idx → EReal) (g : Nat) (hg : g < 6) (r : Fin 8192) (j : Fin 1024) (i : S8192x1024.Idx)
    (h0 : (i 0).val = r.val) (h1 : (i 1).val = j.val) : col p g hg r j = outCopy p g hg i := by
  have e0 : r = i 0 := Fin.ext h0.symm
  have e1 : j = i 1 := Fin.ext h1.symm
  rw [e0, e1]; rfl

/-- The key array after the run. -/
theorem arr_k (c : Dev nD) : (dats m 0 c).arrAt 4 cfg0.N = outCopy (proj m c) 4 (by omega) := by
  refine (dats m 0 c).arrAt_eq_of_covers 4 _ (by decide +kernel) fun t hf y => ?_
  rw [after0_4, out_k]
  exact (congrArg (iblk m c 1 t) (eta y)).trans ((blk_k m c t (y 0) (y 1)).trans
    (col_at _ 4 _ _ _ _ (emb_val t y).2.1.1 (emb_val t y).2.1.2))

/-- The value array after the run. -/
theorem arr_v (c : Dev nD) : (dats m 0 c).arrAt 5 cfg0.N = outCopy (proj m c) 5 (by omega) := by
  refine (dats m 0 c).arrAt_eq_of_covers 5 _ (by decide +kernel) fun t hf y => ?_
  rw [after0_5, out_v]
  exact (congrArg (iblk m c 2 t) (eta y)).trans ((blk_v m c t (y 0) (y 1)).trans
    (col_at _ 5 _ _ _ _ (emb_val t y).2.2.1 (emb_val t y).2.2.2))

/-- THE KERNEL'S RUN: the three results are the attention, the keys and the values of the projected array, which is unchanged. -/
theorem run : θ_run defs (onTc (τ := τ) (main (F := Ideal))) ⟨m, fun _ => 0, ρ⟩ fun r => ∀ c : Dev nD,
      (r.2.mem ((c : Thread nD τ).loc main_v0_0) = outAttn (proj m c)
      ∧ r.2.mem ((c : Thread nD τ).loc main_v0_1) = outCopy (proj m c) 4 (by omega)
      ∧ r.2.mem ((c : Thread nD τ).loc main_v0_2) = outCopy (proj m c) 5 (by omega))
      ∧ r.2.mem ((c : Thread nD τ).loc main_arg0) = m ((c : Thread nD τ).loc main_arg0) :=
  (θ_run defs _ _).mono (fun _ h c => ⟨⟨(h c).1.trans (arr_attn m c), (h c).2.1.trans (arr_k m c), (h c).2.2.1.trans (arr_v m c)⟩, (h c).2.2.2⟩)
    (Cert.KernelIdeal.Value.run_blocks m ρ)

end Cert.CtxArray

end
-- ==== Proof.CtxRef.lean ====
/- What the reference's plain attention computes, element by element: the same attention function of the same entries of the
   projected array. -/
module

public import proofs.«01_k».proof.Proof.CtxArray
public import proofs.«01_k».proof.Proof.Gen.ReferenceIdeal.Run
public import proofs.«01_k».proof.Proof.Gen.ReferenceIdeal.Read
public import Idealize.ShloMosaic.Lib.KernelVsHost

@[expose] public section

set_option maxRecDepth 16384

noncomputable section

namespace Cert.CtxRef

open Idealize.ShloMosaic hiding ix1 ix2 ix3 ix4 ix5
open Idealize.ShloMosaic.TcCoe Idealize.SL.Sem Idealize.ShloMosaic.ValueIdx
open Cert.ReferenceIdeal Cert.ReferenceIdeal.Read Cert.CtxHead Cert.CtxArray

variable (p : S16384x6144.Idx → EReal)

/-- Entry of the sequences' query, key and value columns: group `g`, head `h`, lane `d` of row `a` in sequence `s`. -/
theorem v3_at (s : Fin 32) (a : Fin 256) (g : Fin 3) (h : Fin 16) (d : Fin 64) :
    val_main_v3 (F := Ideal) p (ix5 s a g h d) = part p (3 + g.val) (by omega) s h a d := by
  rw [val_main_v3_apply]
  have e3 : idx_main_v3 (ix5 s a g h d) = ix3 s a (⟨1024 * g.val + 64 * h.val + d.val, by omega⟩ : Fin 3072) := by
    funext x; apply Fin.ext
    match x with
    | ⟨0, _⟩ => show ((((s.val * 256 + a.val) * 3 + g.val) * 16 + h.val) * 64 + d.val) / 786432 = s.val; omega
    | ⟨1, _⟩ => show ((((s.val * 256 + a.val) * 3 + g.val) * 16 + h.val) * 64 + d.val) / 3072 % 256 = a.val; omega
    | ⟨2, _⟩ => show ((((s.val * 256 + a.val) * 3 + g.val) * 16 + h.val) * 64 + d.val) % 3072 = 1024 * g.val + 64 * h.val + d.val; omega
  rw [e3, val_main_v2_apply, val_main_v1_apply, val_main_v0_apply]
  unfold part col
  refine congrArg p (funext fun x => Fin.ext ?_)
  match x with
  | ⟨0, _⟩ => show ((s.val * 256 + a.val) * 6144 + (3072 + (1024 * g.val + 64 * h.val + d.val))) / 6144 = 256 * s.val + a.val; omega
  | ⟨1, _⟩ => show ((s.val * 256 + a.val) * 6144 + (3072 + (1024 * g.val + 64 * h.val + d.val))) % 6144 = 1024 * (3 + g.val) + (64 * h.val + d.val); omega

/-- Regrouping a row of sixteen heads of sixty-four lanes around a unit axis changes no coordinate. -/
theorem unit_axis (s : Fin 32) (a : Fin 256) (h : Fin 16) (d : Fin 64) : idx_main_v5 (ix4 s a h d) = ix5 s a (0 : Fin 1) h d := by
  funext x; apply Fin.ext
  match x with
  | ⟨0, _⟩ => show (((s.val * 256 + a.val) * 16 + h.val) * 64 + d.val) / 262144 = s.val; omega
  | ⟨1, _⟩ => show (((s.val * 256 + a.val) * 16 + h.val) * 64 + d.val) / 1024 % 256 = a.val; omega
  | ⟨2, _⟩ => rfl
  | ⟨3, _⟩ => show (((s.val * 256 + a.val) * 16 + h.val) * 64 + d.val) / 64 % 16 = h.val; omega
  | ⟨4, _⟩ => show (((s.val * 256 + a.val) * 16 + h.val) * 64 + d.val) % 64 = d.val; omega

/-- The reference's queries. -/
theorem q_at (s : Fin 32) (a : Fin 256) (h : Fin 16) (d : Fin 64) :
    val_main_v5 (F := Ideal) p (ix4 s a h d) = part p 3 (by omega) s h a d := by
  rw [val_main_v5_apply, unit_axis, val_main_v4_apply]
  refine Eq.trans (congrArg _ ?_) (v3_at p s a 0 h d)
  funext x
  match x with | ⟨0, _⟩ => rfl | ⟨1, _⟩ => rfl | ⟨2, _⟩ => rfl | ⟨3, _⟩ => rfl | ⟨4, _⟩ => rfl

/-- The reference's keys. -/
theorem k_at (s : Fin 32) (a : Fin 256) (h : Fin 16) (d : Fin 64) :
    val_main_v7 (F := Ideal) p (ix4 s a h d) = part p 4 (by omega) s h a d := by
  rw [val_main_v7_apply, show idx_main_v7 (ix4 s a h d) = _ from unit_axis s a h d, val_main_v6_apply]
  refine Eq.trans (congrArg _ ?_) (v3_at p s a 1 h d)
  funext x
  match x with | ⟨0, _⟩ => rfl | ⟨1, _⟩ => rfl | ⟨2, _⟩ => rfl | ⟨3, _⟩ => rfl | ⟨4, _⟩ => rfl

/-- The reference's values. -/
theorem v_at (s : Fin 32) (a : Fin 256) (h : Fin 16) (d : Fin 64) :
    val_main_v9 (F := Ideal) p (ix4 s a h d) = part p 5 (by omega) s h a d := by
  rw [val_main_v9_apply, show idx_main_v9 (ix4 s a h d) = _ from unit_axis s a h d, val_main_v8_apply]
  refine Eq.trans (congrArg _ ?_) (v3_at p s a 2 h d)
  funext x
  match x with | ⟨0, _⟩ => rfl | ⟨1, _⟩ => rfl | ⟨2, _⟩ => rfl | ⟨3, _⟩ => rfl | ⟨4, _⟩ => rfl

/-- The reference's scaled scores. -/
theorem score_at (s : Fin 32) (h : Fin 16) (a b : Fin 256) :
    val_main_v12 (F := Ideal) p (ix4 s h a b) = score (part p 3 (by omega) s h) (part p 4 (by omega) s h) a b := by
  rw [val_main_v12_apply, val_main_v11_apply, val_main_cst_apply, val_main_v10_apply]
  show (∑ k : Fin 64, _) * scale = _
  unfold score
  congr 1
  refine Finset.sum_congr rfl fun d _ => ?_
  have el : lidx_main_v10 (ix4 s h a b) d = ix4 s a h d := by
    funext x
    match x with | ⟨0, _⟩ => rfl | ⟨1, _⟩ => rfl | ⟨2, _⟩ => rfl | ⟨3, _⟩ => rfl
  have er : ridx_main_v10 (ix4 s h a b) d = ix4 s b h d := by
    funext x
    match x with | ⟨0, _⟩ => rfl | ⟨1, _⟩ => rfl | ⟨2, _⟩ => rfl | ⟨3, _⟩ => rfl
  rw [el, er, q_at, k_at]

/-- The last of four axes is reduced. -/
theorem reduces_last : (S32x16x256x256 : Shape).Reduces [3] S32x16x256 := by decide

/-- The maximum over the last axis, as the library's one-axis reduction. -/
theorem max_last (x : FVec Ideal S32x16x256x256 .f32) (s : Fin 32) (h : Fin 16) (a : Fin 256) :
    Host.reduce FloatOps.maximumf x (constant S_ .f32 0xFF800000#32) Gen.reducesTo_S32x16x256x256_S32x16x256_d3 Gen.h_S_ (ix3 s h a)
      = (Finset.univ : Finset (Fin 256)).fold max ⊥ (fun b => x (ix4 s h a b)) := by
  have hr := hostReduce_maximumf_eq_multiReduction (F := Ideal) (φ := .f32) (u := S_) x 0xFF800000#32
    Gen.reducesTo_S32x16x256x256_S32x16x256_d3 Gen.h_S_ reduces_last (.inl rfl) rfl
  refine (congrFun hr (ix3 s h a)).trans ?_
  refine (Ideal.multiReduction_maximumf_single x 0xFF800000#32 reduces_last (.inl rfl) rfl (ix3 s h a)).trans ?_
  have e : (x ∘ reduces_last.lift (ix3 s h a)) = fun b => x (ix4 s h a b) := by
    funext b
    refine congrArg x (funext fun y => Fin.ext ?_)
    match y with | ⟨0, _⟩ => rfl | ⟨1, _⟩ => rfl | ⟨2, _⟩ => rfl | ⟨3, _⟩ => rfl
  rw [e]
  show Finset.fold max (Ideal.ofBits .f32 0xFF800000#32) _ (Finset.univ : Finset (Fin 256)) = _
  rw [neg_inf]

/-- The reference's row maxima. -/
theorem top_at (s : Fin 32) (h : Fin 16) (a : Fin 256) :
    val_main_v15 (F := Ideal) p (ix3 s h a) = top (part p 3 (by omega) s h) (part p 4 (by omega) s h) a := by
  rw [val_main_v15_apply, val_main_v14_apply, val_main_cst_1_apply]
  show max (Ideal.ofBits .f32 0xFF800000#32) _ = _
  rw [neg_inf, bot_sup_eq]
  unfold val_main_v13 val_main_cst_0
  rw [max_last]
  unfold top
  exact congrArg (fun f => Finset.fold max ⊥ f (Finset.univ : Finset (Fin 256))) (funext fun b => score_at p s h a b)

/-- The reference's exponentials. -/
theorem expo_at (s : Fin 32) (h : Fin 16) (a b : Fin 256) :
    val_main_v19 (F := Ideal) p (ix4 s h a b) = expo (part p 3 (by omega) s h) (part p 4 (by omega) s h) a b := by
  rw [val_main_v19_apply, val_main_v18_apply, val_main_v17_apply, val_main_v16_apply, score_at]
  have e : idx_main_v16 (idx_main_v17 (ix4 s h a b)) = ix3 s h a := by
    funext x
    match x with | ⟨0, _⟩ => rfl | ⟨1, _⟩ => rfl | ⟨2, _⟩ => rfl
  rw [e, top_at]
  rfl

/-- The reference's normalised weights. -/
theorem weight_at (s : Fin 32) (h : Fin 16) (a b : Fin 256) :
    val_main_v23 (F := Ideal) p (ix4 s h a b)
      = Ideal.div (expo (part p 3 (by omega) s h) (part p 4 (by omega) s h) a b)
          (∑ b' : Fin 256, expo (part p 3 (by omega) s h) (part p 4 (by omega) s h) a b') := by
  rw [val_main_v23_apply, val_main_v22_apply, val_main_v21_apply, expo_at]
  have e : idx_main_v21 (idx_main_v22 (ix4 s h a b)) = ix3 s h a := by
    funext x
    match x with | ⟨0, _⟩ => rfl | ⟨1, _⟩ => rfl | ⟨2, _⟩ => rfl
  rw [e, val_main_v20_apply, val_main_cst_2_apply]
  show Ideal.div _ (Ideal.ofBits .f32 0x00000000#32 + _) = _
  rw [Ideal.ofBits_zero_f32, zero_add]
  congr 1
  refine Finset.sum_congr rfl fun b' _ => ?_
  refine Eq.trans (congrArg _ ?_) (expo_at p s h a b')
  funext x
  match x with | ⟨0, _⟩ => rfl | ⟨1, _⟩ => rfl | ⟨2, _⟩ => rfl | ⟨3, _⟩ => rfl

/-- A row and column of the result as sequence, row, head and lane. -/
theorem flat_at (i : S8192x1024.Idx) : idx_main_v26 i
    = ix4 (⟨(i 0).val / 256, by have : (i 0).val < 8192 := (i 0).isLt; omega⟩ : Fin 32) (⟨(i 0).val % 256, by omega⟩ : Fin 256)
        (⟨(i 1).val / 64, by have : (i 1).val < 1024 := (i 1).isLt; omega⟩ : Fin 16) (⟨(i 1).val % 64, by omega⟩ : Fin 64) := by
  have h0 : (i 0).val < 8192 := (i 0).isLt
  have h1 : (i 1).val < 1024 := (i 1).isLt
  funext x; apply Fin.ext
  match x with
  | ⟨0, _⟩ => show ((i 0).val * 1024 + (i 1).val) / 262144 = (i 0).val / 256; omega
  | ⟨1, _⟩ => show ((i 0).val * 1024 + (i 1).val) / 1024 % 256 = (i 0).val % 256; omega
  | ⟨2, _⟩ => show ((i 0).val * 1024 + (i 1).val) / 64 % 16 = (i 1).val / 64; omega
  | ⟨3, _⟩ => show ((i 0).val * 1024 + (i 1).val) % 64 = (i 1).val % 64; omega

/-- The reference's attention output. -/
theorem out_at : val_main_v26 (F := Ideal) p = outAttn p := by
  funext i
  rw [val_main_v26_apply, flat_at, val_main_v25_apply, val_main_v24_apply]
  unfold outAttn attn
  refine Finset.sum_congr rfl fun b _ => ?_
  rw [mul_comm]
  refine congrArg₂ (· * ·) (Eq.trans (congrArg _ ?_) (weight_at p _ _ _ b)) (Eq.trans (congrArg _ ?_) (v_at p _ b _ _))
  · funext x
    match x with | ⟨0, _⟩ => rfl | ⟨1, _⟩ => rfl | ⟨2, _⟩ => rfl | ⟨3, _⟩ => rfl
  · funext x
    match x with | ⟨0, _⟩ => rfl | ⟨1, _⟩ => rfl | ⟨2, _⟩ => rfl | ⟨3, _⟩ => rfl

/-- Splitting a result index and joining it again reads the same entry. -/
theorem part_flat (g : Nat) (hg : g < 6) (i : S8192x1024.Idx) :
    part p g hg ⟨(i 0).val / 256, by have : (i 0).val < 8192 := (i 0).isLt; omega⟩ ⟨(i 1).val / 64, by have : (i 1).val < 1024 := (i 1).isLt; omega⟩
        ⟨(i 0).val % 256, by omega⟩ ⟨(i 1).val % 64, by omega⟩ = outCopy p g hg i := by
  unfold part
  exact col_at p g hg _ _ i (by show (i 0).val = 256 * ((i 0).val / 256) + (i 0).val % 256; omega)
    (by show (i 1).val = 64 * ((i 1).val / 64) + (i 1).val % 64; omega)

/-- The reference's keys as it returns them. -/
theorem outk_at : val_main_v27 (F := Ideal) p = outCopy p 4 (by omega) := by
  funext i
  rw [val_main_v27_apply, show idx_main_v27 i = _ from flat_at i, k_at, part_flat]

/-- The reference's values as it returns them. -/
theorem outv_at : val_main_v28 (F := Ideal) p = outCopy p 5 (by omega) := by
  funext i
  rw [val_main_v28_apply, show idx_main_v28 i = _ from flat_at i, v_at, part_flat]

variable (m : (ℓ : Loc nD τ sig) → Buf (Elt Ideal) ℓ) (ρ : Dev nD → PrngReg)

/-- THE REFERENCE'S RUN: the same three arrays of its argument. -/
theorem run : θ_run defs (onTc (τ := τ) (main (F := Ideal))) ⟨m, fun _ => 0, ρ⟩ fun r => ∀ c : Dev nD,
      (r.2.mem ((c.tc : Thread nD τ).loc main_v26) = outAttn (m ((c.tc : Thread nD τ).loc main_arg0))
      ∧ r.2.mem ((c.tc : Thread nD τ).loc main_v27) = outCopy (m ((c.tc : Thread nD τ).loc main_arg0)) 4 (by omega)
      ∧ r.2.mem ((c.tc : Thread nD τ).loc main_v28) = outCopy (m ((c.tc : Thread nD τ).loc main_arg0)) 5 (by omega))
      ∧ r.2.mem ((c.tc : Thread nD τ).loc main_arg0) = m ((c.tc : Thread nD τ).loc main_arg0) :=
  (θ_run defs _ _).mono (fun _ h c => ⟨⟨(h c).1.trans ((val_main_v26_eq m c).trans (out_at _)),
      (h c).2.1.trans ((val_main_v27_eq _).trans (outk_at _)), (h c).2.2.1.trans ((val_main_v28_eq _).trans (outv_at _))⟩, (h c).2.2.2⟩)
    (Cert.ReferenceIdeal.Value.run m ρ)

end Cert.CtxRef

end
-- ==== Proof.Range.lean ====
/-
  What the preconditions of the experts' two calls say of the tables: every tile's expert is below 32, and at least
  one tile is in use. Also two facts on words: the signed minimum of a tile's number and the last used tile's.
-/
module

public import proofs.«01_k».proof.Pre_down_range
public import proofs.«01_k».proof.Pre_up_range
public import proofs.«01_k».proof.Proof.Gen.Pre_down_range
public import proofs.«01_k».proof.Proof.Gen.Pre_up_range
public import Idealize.ShloMosaic.Lib.WordCmp
public import Idealize.ShloMosaic.Lib.WordArith
public import Idealize.ShloMosaic.Lib.StableHlo.Predicate

@[expose] public section

noncomputable section

namespace Cert.Range

open Idealize.ShloMosaic

variable {F : FTy → Type} [FloatOps F]

/-- A word at least one, read signed, is at least one and below half the range, read unsigned. -/
theorem one_le_of_sge (n : BitVec 32) (h : IntOp.cmpi .sge n 1#32 = 1#1) : 1 ≤ n.toNat ∧ n.toNat < 2 ^ 31 := by
  have h1 : (1#32).toInt ≤ n.toInt := by
    rw [WordCmp.cmpi_sge_eq] at h
    by_contra hc
    rw [decide_eq_false hc] at h
    exact absurd h (by decide)
  have e1 : (1#32).toInt = 1 := by decide
  have e2 := BitVec.toInt_eq_toNat_cond n
  have := n.isLt
  split at e2 <;> omega

/-- A tile's number, or the last used tile's if that comes first. -/
theorem last_or_self (k : ℕ) (n : BitVec 32) (hk : k < 288) (h1 : 1 ≤ n.toNat) (h2 : n.toNat < 2 ^ 31) :
    (Scalar.minsi (BitVec.ofNat 32 k) (Scalar.subi n 1#32)).toNat = min k (n.toNat - 1) := by
  have e1 : (BitVec.ofNat 32 k).toNat = k := by rw [BitVec.toNat_ofNat]; omega
  have e2 : (Scalar.subi n 1#32).toNat = n.toNat - 1 := by
    show (n - 1#32).toNat = _
    rw [BitVec.toNat_sub]
    have : (1#32).toNat = 1 := rfl
    omega
  have := Idealize.ShloMosaic.WordArith.toNat_minsi_of_lt (BitVec.ofNat 32 k) (Scalar.subi n 1#32) (by omega) (by omega)
  rw [e1, e2] at this
  exact this

/-- A conjunction of bits is one only if both are. -/
theorem both (a b : BitVec 1) (h : IntOp.andi a b = 1#1) : a = 1#1 ∧ b = 1#1 := by
  revert a b; decide

section down
open Cert.Pre_down_range
/-- The down projection's precondition, decoded. -/
theorem down (a0 : IVec S288 32) (a1 : IVec S1 32) (a2 : FVec F S73728x2048 .bf16) (a3 : FVec F S32x2048x2048 .f32)
    (a4 : FVec F S32x2048 .f32) (h : Cert.Pre_down_range.fn a0 a1 a2 a3 a4 = fun _ => 1#1) :
    (∀ x, (a0 x).toNat < 32) ∧ ∀ x, 1 ≤ (a1 x).toNat ∧ (a1 x).toNat < 2 ^ 31 := by
  have key : ∀ x : S288.Idx, (a0 x).toNat < 32 ∧ ∃ y, 1 ≤ (a1 y).toNat ∧ (a1 y).toNat < 2 ^ 31 := fun x => by
    obtain ⟨hl, hr⟩ := both _ _ (congrFun h x)
    have hl' : IntOp.andi (IntOp.cmpi .sge (a0 x) 0#32) (IntOp.cmpi .slt (a0 x) (BitVec.ofNat 32 32)) = 1#1 := hl
    rw [WordCmp.andi_sge_zero_slt_ofNat (by decide), WordCmp.ofBool_decide_eq_one_iff] at hl'
    exact ⟨hl', _, one_le_of_sge _ hr⟩
  refine ⟨fun x => (key x).1, fun x => ?_⟩
  obtain ⟨y, hy⟩ := (key fun _ => ⟨0, by decide +revert⟩).2
  obtain rfl : x = y := funext fun a => Fin.ext (by
    obtain rfl : a = 0 := Subsingleton.elim _ _
    have h1 : (x 0).val < 1 := (x 0).isLt
    have h2 : (y 0).val < 1 := (y 0).isLt
    omega)
  exact hy
end down

section up
open Cert.Pre_up_range
/-- The up projection's precondition, decoded. -/
theorem up (a0 : IVec S288 32) (a1 : IVec S1 32) (a2 : FVec F S73728x2048 .f32) (a3 : FVec F S32x2048x4096 .f32)
    (a4 : FVec F S32x4096 .f32) (h : Cert.Pre_up_range.fn a0 a1 a2 a3 a4 = fun _ => 1#1) :
    (∀ x, (a0 x).toNat < 32) ∧ ∀ x, 1 ≤ (a1 x).toNat ∧ (a1 x).toNat < 2 ^ 31 := by
  have key : ∀ x : S288.Idx, (a0 x).toNat < 32 ∧ ∃ y, 1 ≤ (a1 y).toNat ∧ (a1 y).toNat < 2 ^ 31 := fun x => by
    obtain ⟨hl, hr⟩ := both _ _ (congrFun h x)
    have hl' : IntOp.andi (IntOp.cmpi .sge (a0 x) 0#32) (IntOp.cmpi .slt (a0 x) (BitVec.ofNat 32 32)) = 1#1 := hl
    rw [WordCmp.andi_sge_zero_slt_ofNat (by decide), WordCmp.ofBool_decide_eq_one_iff] at hl'
    exact ⟨hl', _, one_le_of_sge _ hr⟩
  refine ⟨fun x => (key x).1, fun x => ?_⟩
  obtain ⟨y, hy⟩ := (key fun _ => ⟨0, by decide +revert⟩).2
  obtain rfl : x = y := funext fun a => Fin.ext (by
    obtain rfl : a = 0 := Subsingleton.elim _ _
    have h1 : (x 0).val < 1 := (x 0).isLt
    have h2 : (y 0).val < 1 := (y 0).isLt
    omega)
  exact hy
end up

end Cert.Range
-- ==== Proof.DownIdealLaunch.lean ====
/-
  How the down projection of the experts runs, for the program the value claims read. The grid walks 288 tiles of 256 rows; a table names the expert
  of each tile, a second table of one word names how many tiles are in use. In a tile that is in use the body
  writes tile × weights + bias, in any other tile it writes zeros. Here: the arrays as the region finds them,
  the body's two runs, the proof data that name what each tile's result is, the launch, and the frame.
-/
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp
public import Idealize.ShloMosaic.Lib.Claim

@[expose] public section

set_option maxRecDepth 16384

noncomputable section

namespace Cert.DownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- A TensorCore buffer of core `c` when the region is entered: after the cast and the reshape of the host. -/
abbrev V (c : Dev nD) (b : Ref sig .tc) : Buf (Elt F) ((c : Thread nD τ).loc b) :=
  StableHlo.after hostOps0 (fun b => m (c, b)) b

/-- The host operations allocate nothing. -/
theorem host_fresh : (hostOps0 : List (HloOp τ sig (Elt F))).Forall fun op => op.fresh = ∅ := by
  simp only [List.Forall]; repeat' constructor

set_option maxHeartbeats 800000 in
/-- The program up to the region is its two host operations. -/
theorem upto (𝒱₀ : Variants) : Pipeline.HMainP (Ix := Unit) (Name := ℕ) (U := UR sig nD τ) (Lvl := ℕ)
    pcfgs 0 defs₀ 𝒱₀ m (main (F := F)) (V m) :=
  Pipeline.hmainP_prefix pcfgs 0 defs₀ 𝒱₀ m main hostOps0 hostOps0_sub host_fresh main_chain

/-- A buffer that is neither of the host's two results is found as launched. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

/-- The tables as the region reads them. -/
def tbl : pre0.Contents (Elt F) := fun j => V m (0 : Dev nD) (pre0.ref j)

/-- The tables are the buffers the region reads them from. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The one position of a table of one word. -/
abbrev first : S1.Idx := fun _ => ⟨0, by decide +revert⟩

/-- How many tiles are in use: the one word of the second table. -/
def used : BitVec 32 := tbl m 1 first

/-- The two tables as memrefs. -/
abbrev tabE : Memref sig .tc .smem S288 .i32 := Memref.whole main_arg0
abbrev tabE_whole : tabE.IsWhole := Memref.isWhole_whole _
abbrev tabN : Memref sig .tc .smem S1 .i32 := Memref.whole main_arg1
abbrev tabN_whole : tabN.IsWhole := Memref.isWhole_whole _

/-- A table's contents on a core, and the half of it the body holds. -/
abbrev TabBuf (c : Dev nD) {S : Shape} {e : EltTy} (M : Memref sig .tc .smem S e) : Type :=
  Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The region hands the body the halves of the two tables. -/
theorem tables_eq (c : Dev nD) : (Pipeline.ΦT pre0 (tbl m) c : sProp 𝕄)
    = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

/-- An input's staging buffer holds its block at every point: the rows, -/
theorem before_rows (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- the expert's matrix, -/
theorem before_mat (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- and the expert's bias. -/
theorem before_bias (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
end before

/-! ## The body's two runs -/

/-- What the body leaves in the result's block: the product with the bias in a tile that is in use, else zeros. -/
def tile (i : grid0.Coords) (n : BitVec 32) (x0 : Vec F S256x2048 .bf16) (x1 : Vec F S1x2048x2048 .bf16)
    (x2 : Vec F S1x1x2048 .f32) : Vec F S256x2048 .f32 :=
  if k0_cond1 i n = 1#1 then k0_pay1 x0 x1 x2 else k0_pay2

/-- The second condition is the first one's opposite. -/
theorem cond2_iff (i : grid0.Coords) (n : BitVec 32) : k0_cond2 i n = 1#1 ↔ ¬ k0_cond1 i n = 1#1 := by
  have e : n.sle (BitVec.ofNat 32 (i 0).val) = !(BitVec.ofNat 32 (i 0).val).slt n := by
    simp only [BitVec.sle, BitVec.slt, ← decide_not, not_lt]
  simp only [k0_cond1, k0_cond2, Scalar.cmpi, IntOp.cmpi, e]
  cases (BitVec.ofNat 32 (i 0).val).slt n <;> decide

set_option maxHeartbeats 1000000 in
/-- The body run on whole staging memrefs: it leaves the inputs and tables as they were and `tile` in the result. -/
theorem body_run (c : Dev nD) (i : grid0.Coords)
    (arg3 : Memref sig .tc .vmem S256x2048 .bf16) (h3 : arg3.IsWhole)
    (arg4 : Memref sig .tc .vmem S1x2048x2048 .bf16) (h4 : arg4.IsWhole)
    (arg5 : Memref sig .tc .vmem S1x1x2048 .f32) (h5 : arg5.IsWhole)
    (arg6 : Memref sig .tc .vmem S256x2048 .f32) (h6 : arg6.IsWhole)
    (x0 : Vec F S256x2048 .bf16) (x1 : Vec F S1x2048x2048 .bf16) (x2 : Vec F S1x1x2048 .f32)
    (te : TabBuf (F := F) c tabE) (tn : TabBuf (F := F) c tabN) (n : BitVec 32) (hn : tn first = n)
    (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ tabPt c tabE te ∗ tabPt c tabN tn
        ∗ (iprop(owns (c : Thread nD τ) arg3 fullShare x0 ∗ owns (c : Thread nD τ) arg4 fullShare x1
            ∗ owns (c : Thread nD τ) arg5 fullShare x2 ∗ owns (c : Thread nD τ) arg6 fullShare (tile i n x0 x1 x2)
            ∗ tabPt c tabE te ∗ tabPt c tabN tn) -∗ K ⟨⟩))
      ⊢ wp frame (wpE (defs₀ (F := F)) Variants.none c none) E
          (cc0_expert_down i tabE tabE_whole tabN tabN_whole arg3 h3 arg4 h4 arg5 h5 arg6 h6) K := by
  simp only [cc0_expert_down_eq_skeleton]; unfold cc0_expert_down_skel
  unfold owns
  iintro ⟨⟨%f0, %hf0, H0⟩, ⟨%f1, %hf1, H1⟩, ⟨%f2, %hf2, H2⟩, ⟨%d3, %f3, -, H3⟩, HT0, HT1, Hk⟩
  obtain rfl := h3.eq_unread hf0; obtain rfl := h4.eq_unread hf1; obtain rfl := h5.eq_unread hf2
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; swap; · iexact H3
    ipureintro
    have hw : body_run.sl.r c tn = n :=
      (congrArg tn (funext fun a => Fin.ext (by obtain rfl : a = 0 := Subsingleton.elim _ _; rfl) : (_ : S1.Idx) = first)).trans hn
    rw [hw]
    by_cases hc : k0_cond1 i n = 1#1
    · have hc2 : ¬ k0_cond2 i n = 1#1 := fun h => (cond2_iff i n).mp h hc
      rw [dif_neg hc2, dif_pos hc, tile, if_pos hc]
      rw [View.read_writes_full, View.readAt_full, View.readAt_full, View.readAt_full,
        h3.read_unread, h4.read_unread, h5.read_unread]
    · have hc2 : k0_cond2 i n = 1#1 := (cond2_iff i n).mpr hc
      rw [dif_pos hc2, tile, if_neg hc, View.read_writes_full]
  isplitl [HT0]; · iexact HT0
  iexact HT1

/-! ## The pipeline's proof data -/

/-- After the body at point `t`: each input's buffer at its block, the result's at the tile. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => tile (grid0.coords t) (used m) (iblk m hO c 0 t) (iblk m hO c 1 t) (iblk m hO c 2 t)
  Φ _ := iprop(Pipeline.ΦA spec0 c ∗ Pipeline.ΦT pre0 (tbl m) c)
  q _ := fullShare
  owed _ := 0

/-- A window's array is what the region finds in its buffer. -/
theorem A_eq (hO : Ok m) (c : Dev nD) (w : Fin (cfgM m hO).W) :
    (dats m hO 0 c).A w = V m c (Pipeline.arrRef spec0 w) := by dsimp only [dats]

/-- The body leaves an input's block as it was. -/
theorem after_rows (hO : Ok m) (c : Dev nD) (t : Fin (cfgM m hO).N) :
    (dats m hO 0 c).after 0 t = iblk m hO c 0 t := by dsimp only [dats]; try rfl
/-- The body leaves an input's block as it was. -/
theorem after_mat (hO : Ok m) (c : Dev nD) (t : Fin (cfgM m hO).N) :
    (dats m hO 0 c).after 1 t = iblk m hO c 1 t := by dsimp only [dats]; try rfl
/-- The body leaves an input's block as it was. -/
theorem after_bias (hO : Ok m) (c : Dev nD) (t : Fin (cfgM m hO).N) :
    (dats m hO 0 c).after 2 t = iblk m hO c 2 t := by dsimp only [dats]; try rfl
/-- What the body leaves in the result's block. -/
theorem after_out (hO : Ok m) (c : Dev nD) (t : Fin (cfgM m hO).N) : (dats m hO 0 c).after 3 t
    = tile (grid0.coords t) (used m) (iblk m hO c 0 t) (iblk m hO c 1 t) (iblk m hO c 2 t) := by dsimp only [dats]; try rfl

/-- A point starts with the block its window fetches. -/
theorem rows_at (hO : Ok m) (c : Dev nD) (t : Fin (cfgM m hO).N) (d) : (dats m hO 0 c).before 0 t d = iblk m hO c 0 t :=
  before_rows m hO (dats m hO 0 c) (A_eq m hO c 0) (after_rows m hO c) t d
/-- A point starts with the block its window fetches. -/
theorem mat_at (hO : Ok m) (c : Dev nD) (t : Fin (cfgM m hO).N) (d) : (dats m hO 0 c).before 1 t d = iblk m hO c 1 t :=
  before_mat m hO (dats m hO 0 c) (A_eq m hO c 1) (after_mat m hO c) t d
/-- A point starts with the block its window fetches. -/
theorem bias_at (hO : Ok m) (c : Dev nD) (t : Fin (cfgM m hO).N) (d) : (dats m hO 0 c).before 2 t d = iblk m hO c 2 t :=
  before_bias m hO (dats m hO 0 c) (A_eq m hO c 2) (after_bias m hO c) t d

/-- The body stores to the result at every point: one of its two conditions holds. -/
theorem busy (i : grid0.Coords) (n : BitVec 32) : (!(k0_cond1 i n == 1#1) && !(k0_cond2 i n == 1#1)) = false := by
  by_cases h : k0_cond1 i n = 1#1
  · rw [h]; rfl
  · rw [(cond2_iff i n).mpr h]; exact Bool.and_false _
/-- The result's window is written at every point. -/
theorem out_busy (hO : Ok m) (t : Fin (cfgM m hO).N) :
    (cfgM m hO).idle (3 : Fin 4) ((cfgM m hO).grid.coords t) = false := busy (grid0.coords t) _

/-! ## The body obligation -/

/-- Each window's staging memref at point `t`. -/
abbrev st0 (hO : Ok m) (t : Fin (cfgM m hO).N) : Memref sig .tc .vmem S256x2048 .bf16 := spec0_0.stage ((cfgM m hO).slots t 0)
abbrev st1 (hO : Ok m) (t : Fin (cfgM m hO).N) : Memref sig .tc .vmem S1x2048x2048 .bf16 := spec0_1.stage ((cfgM m hO).slots t 1)
abbrev st2 (hO : Ok m) (t : Fin (cfgM m hO).N) : Memref sig .tc .vmem S1x1x2048 .f32 := spec0_2.stage ((cfgM m hO).slots t 2)
abbrev st3 (hO : Ok m) (t : Fin (cfgM m hO).N) : Memref sig .tc .vmem S256x2048 .f32 := spec0_3.stage ((cfgM m hO).slots t 3)

/-- The body as the pipeline calls it at point `t`. -/
abbrev bodyAt (hO : Ok m) (t : Fin (cfgM m hO).N) : Prog (TpuEff nD τ sig (Elt F) Λ₀ .tc) PUnit :=
  cc0_expert_down (grid0.coords t) tabE tabE_whole tabN tabN_whole
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))

/-- What the body holds when a point starts. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

/-- What the body hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

/-- The body at any point, between what the pipeline hands it and takes back. -/
theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [rows_at, mat_at, bias_at]
  rw [show (dats m hO 0 c).Φ t.succ = (dats m hO 0 c).Φ t.castSucc from rfl,
    show (dats m hO 0 c).owesAt () t.succ = (dats m hO 0 c).owesAt () t.castSucc from rfl,
    after_rows, after_mat, after_bias, after_out]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩⟩
  iapply (body_run c (grid0.coords t) _ _ _ _ _ _ _ _ (iblk m hO c 0 t) (iblk m hO c 1 t) (iblk m hO c 2 t)
    (tbl m 0) (tbl m 1) (used m) rfl Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- The bundle of windows is the separate pieces. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of the body, at every point. -/
theorem body_obligation (hO : Ok m) (c : Dev nD) :
    BodyObligation (dats (F := F) m hO 0 c) (defs₀ (F := F)) Variants.none () Set.univ := fun t => by
  rw [bigSep_W0, bigSep_W0, row_eq m hO, out_busy m hO t]
  exact triple_restated (body_sound m hO c t) rfl .rfl fun _ => .rfl

/-! ## The run and the frame -/

set_option backward.isDefEq.respectTransparency.types false in
/-- The launch: every fair execution ends, every array holds what the proof data name, every counter is zero. -/
theorem run (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := upto m Variants.none) (hA := A_eq m hO) (hpf := V_pre m) (hΦ := fun _ _ => rfl)

/-- The arguments end as they were launched, and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0)).trans (V_kept m c _ (by decide) (by decide)),
      ((h.1 c).2 main_arg1 (by decide : main_arg1 ∈ Pipeline.restRefs sig spec0)).trans (V_kept m c _ (by decide) (by decide)),
      (((h.1 c).1 0).trans ((dats m hO 0 c).arrAt_in 0 rfl _)).trans (V_kept m c main_arg2 (by decide) (by decide)),
      ((h.1 c).2 main_arg3 (by decide : main_arg3 ∈ Pipeline.restRefs sig spec0)).trans (V_kept m c _ (by decide) (by decide)),
      ((h.1 c).2 main_arg4 (by decide : main_arg4 ∈ Pipeline.restRefs sig spec0)).trans (V_kept m c _ (by decide) (by decide))⟩, h.2⟩) (run m ρ hO)

end Cert.DownIdeal.Tiles
-- ==== Proof.DownIdealOk.lean ====
/-
  Under the precondition every block of the down projection lies inside its array: the rows' block is a used tile's,
  the weights' and the bias's are an expert's below 32. The index maps in closed form.
-/
module

public import proofs.«01_k».proof.Defs
public import proofs.«01_k».proof.Proof.DownIdealLaunch
public import proofs.«01_k».proof.Proof.Range
public import Idealize.ShloMosaic.Lib.Affine

@[expose] public section

set_option maxRecDepth 16384

noncomputable section

namespace Cert.DownIdeal.Tiles

open Idealize.ShloMosaic Idealize.ShloMosaic.TcCoe
open Cert.DownIdeal.Gen

variable {F : FTy → Type} [FloatOps F]
variable (m : (ℓ : Loc nD τ sig) → Buf (Elt F) ℓ)

/-- The tables hold experts below 32 and a number of tiles in use that is at least one. -/
structure InRange : Prop where
  expert : ∀ x, (tbl m 0 x : BitVec 32).toNat < 32
  pos : 1 ≤ (used m).toNat
  small : (used m).toNat < 2 ^ 31

/-- The position of a grid point's tile in the table of experts. -/
abbrev tileIx (i : grid0.Coords) : S288.Idx := fun a => match a with | ⟨0, _⟩ => ⟨(i 0).val, (i 0).isLt⟩

/-- The expert of a grid point's tile. -/
def expert (i : grid0.Coords) : ℕ := (tbl m 0 (tileIx i) : BitVec 32).toNat

variable {m}

/-- The rows' block: the tile, or the last one in use. -/
theorem rows_ix (h : InRange m) (i : grid0.Coords) :
    cc0_transform_0 inb_S1_S1_0 numel1_S1 (tbl m) i = ![min (i 0).val ((used m).toNat - 1), 0] := by
  have hi : (i 0).val < 288 := (i 0).isLt
  have e : ((tbl m).at 1 (Rect.unit (s := S1) ![0] S1.size inb_S1_S1_0) numel1_S1 : BitVec 32) = used m :=
    congrArg (tbl m 1) (funext fun a => Fin.ext (by obtain rfl : a = 0 := Subsingleton.elim _ _; rfl) : (_ : S1.Idx) = first)
  unfold cc0_transform_0
  simp only [e, Range.last_or_self _ _ hi h.pos h.small]
  rfl

/-- The word the index maps read of the table of experts. -/
theorem expert_word (i : grid0.Coords) : ((tbl m).at 0 (Rect.unit (s := S288)
      ![(Scalar.indexCast (BitVec.ofNat 32 (i 0).val) : Index).toNat] S1.size (k0_off1_inb i)) numel1_S1 : BitVec 32)
    = tbl m 0 (tileIx i) :=
  congrArg (tbl m 0) (funext fun a => Fin.ext (by
    obtain rfl : a = 0 := Subsingleton.elim _ _
    have hi : (i 0).val < 288 := (i 0).isLt
    show (BitVec.ofNat 32 (i 0).val).toNat + 1 * 0 = (i 0).val
    rw [BitVec.toNat_ofNat]; omega) : (_ : S288.Idx) = tileIx i)

/-- The weights' block: the expert's, whole. -/
theorem mat_ix (i : grid0.Coords) :
    cc0_transform_1 k0_off1_inb numel1_S1 (tbl m) i = ![expert m i, 0, 0] := by
  exact congrArg (fun w : BitVec 32 => (![w.toNat, 0, 0] : Fin 3 → ℕ)) (expert_word i)

/-- The bias's block: the expert's, whole. -/
theorem bias_ix (i : grid0.Coords) :
    cc0_transform_2 k0_off1_inb numel1_S1 (tbl m) i = ![expert m i, 0, 0] := by
  exact congrArg (fun w : BitVec 32 => (![w.toNat, 0, 0] : Fin 3 → ℕ)) (expert_word i)

/-- Every block lies inside its array, and its transfers move whole words. -/
theorem ok_of_range (h : InRange m) : Ok m := by
  have he : ∀ i : grid0.Coords, expert m i < 32 := fun i => h.expert _
  refine ⟨fun i => ⟨fun a => ?_, ?_⟩, fun i => ⟨fun a => ?_, ?_⟩, fun i => ⟨fun a => ?_, ?_⟩⟩
  · rw [rows_ix h i]
    have hi : (i 0).val < 288 := (i 0).isLt
    match a with
    | ⟨0, _⟩ => show (min (i 0).val ((used m).toNat - 1) + 1) * 256 ≤ 73728; omega
    | ⟨1, _⟩ => show (0 + 1) * 2048 ≤ 2048; omega
  · exact .inr (Affine.block_words_dvd (of_decide_eq_true rfl) (by decide))
  · rw [mat_ix i]
    have := he i
    match a with
    | ⟨0, _⟩ => show (expert m i + 1) * 1 ≤ 32; omega
    | ⟨1, _⟩ => show (0 + 1) * 2048 ≤ 2048; omega
    | ⟨2, _⟩ => show (0 + 1) * 2048 ≤ 2048; omega
  · exact .inr (Affine.block_words_dvd (of_decide_eq_true rfl) (by decide))
  · rw [bias_ix i]
    have := he i
    match a with
    | ⟨0, _⟩ => show (expert m i + 1) * 1 ≤ 32; omega
    | ⟨1, _⟩ => show (0 + 1) * 1 ≤ 1; omega
    | ⟨2, _⟩ => show (0 + 1) * 2048 ≤ 2048; omega
  · exact .inl rfl

/-- The precondition puts the tables in range. -/
theorem range_of_pre (m : (ℓ : Loc nD τ sig) → Buf (Elt Ideal) ℓ) (h : Cert.Pre_DownIdeal m) : InRange m := by
  obtain ⟨h0, h1⟩ := Range.down _ _ _ _ _ (h 0)
  have e0 : (tbl m 0 : S288.Idx → BitVec 32) = m (((0 : Dev nD).tc : Thread nD τ).loc main_arg0) :=
    V_kept m 0 main_arg0 (by decide) (by decide)
  have e1 : (tbl m 1 : S1.Idx → BitVec 32) = m (((0 : Dev nD).tc : Thread nD τ).loc main_arg1) :=
    V_kept m 0 main_arg1 (by decide) (by decide)
  refine ⟨fun x => ?_, ?_, ?_⟩
  · rw [e0]; exact h0 x
  · show 1 ≤ (tbl m 1 first : BitVec 32).toNat
    rw [e1]; exact (h1 first).1
  · show (tbl m 1 first : BitVec 32).toNat < 2 ^ 31
    rw [e1]; exact (h1 first).2

end Cert.DownIdeal.Tiles
-- ==== Proof.Take.lean ====
/-
  A table of row numbers picks slices of an array: the host's `x[table]` read at an index, for a three-dimensional
  array (a matrix per entry) and for a two-dimensional one (a vector per entry). The host first adds the number of
  slices to negative entries; entries that are in range are left as they are.
-/
module

public import Idealize.ShloMosaic.PureOps
public import Idealize.ShloMosaic.Lib.ValueIdx
public import Idealize.ShloMosaic.Lib.WordCmp

@[expose] public section

set_option maxRecDepth 16384

noncomputable section

namespace Cert.Take

open Idealize.ShloMosaic
open Idealize.ShloMosaic.ValueIdx

variable {α : Type}

/-- The slice number an entry of the table names, below `n`. -/
def pick (n : ℕ) (hn : 0 < n) (b : BitVec 32) : Fin n := ⟨min b.toInt.toNat (n - 1), by omega⟩

/-- An entry in range names itself. -/
theorem pick_of_lt (n : ℕ) (hn : 0 < n) (b : BitVec 32) (h : b.toNat < n) (hs : n < 2 ^ 31) : (pick n hn b).val = b.toNat := by
  have e : b.toInt = (b.toNat : ℤ) := by rw [BitVec.toInt_eq_toNat_cond, if_pos (by omega)]
  show min b.toInt.toNat (n - 1) = b.toNat
  rw [e, Int.toNat_natCast]; omega

/-- Of a matrix per entry: operand `[N, R, C]`, table `[T, 1]`, result `[T, R, C]`. -/
abbrev matDims (N R C T : ℕ)
    (wf : GatherDims.WF ⟨3, ![N, R, C]⟩ ⟨2, ![T, 1]⟩ ⟨3, ![T, R, C]⟩ [1, 2] [0] [] [0] [] 1 ![1, R, C]) :
    GatherDims ⟨3, ![N, R, C]⟩ ⟨2, ![T, 1]⟩ ⟨3, ![T, R, C]⟩ where
  offsetDims := [1, 2]
  collapsedSliceDims := [0]
  operandBatchingDims := []
  startIndicesBatchingDims := []
  startIndexMap := [0]
  indexVectorDim := 1
  sliceSizes := ![1, R, C]
  wf := wf

/-- Entry `(t, r, c)` of the result is entry `(r, c)` of the matrix entry `t` of the table names. -/
theorem mat_apply {N R C T : ℕ} (hN : 0 < N)
    (wf : GatherDims.WF ⟨3, ![N, R, C]⟩ ⟨2, ![T, 1]⟩ ⟨3, ![T, R, C]⟩ [1, 2] [0] [] [0] [] 1 ![1, R, C])
    (x : (⟨3, ![N, R, C]⟩ : Shape).Idx → α) (idx : IVec ⟨2, ![T, 1]⟩ 32) (t : Fin T) (r : Fin R) (c : Fin C) :
    Host.gather (matDims N R C T wf) x idx (ix3 t r c) = x (ix3 (pick N hN (idx (ix2 t (0 : Fin 1)))) r c) := by
  unfold Host.gather
  refine congrArg x (funext fun a => Fin.ext ?_)
  show (matDims N R C T wf).start (ix3 t r c) idx a + (matDims N R C T wf).batchCoord (ix3 t r c) a
    + (matDims N R C T wf).offCoord (ix3 t r c) a = _
  rw [GatherDims.batchCoord_eq_zero _ _ _ List.not_mem_nil, Nat.add_zero]
  match a with
  | ⟨0, _⟩ =>
    have hsi : (matDims N R C T wf).siIdx (ix3 t r c) ⟨List.idxOf (0 : Fin 3) (matDims N R C T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    have ho : (matDims N R C T wf).offCoord (ix3 t r c) (0 : Fin 3) = 0 :=
      GatherDims.offCoord_eq_zero _ _ _ (fun h => ((GatherDims.mem_sKept _ _).mp h).1 (List.mem_singleton.mpr rfl))
    have hs : (matDims N R C T wf).start (ix3 t r c) idx (0 : Fin 3) = (pick N hN (idx (ix2 t (0 : Fin 1)))).val := by
      unfold GatherDims.start
      rw [dif_pos (show (0 : Fin 3) ∈ (matDims N R C T wf).startIndexMap from List.mem_singleton.mpr rfl), hsi]
      rfl
    exact (congrArg₂ (· + ·) hs ho).trans (Nat.add_zero _)
  | ⟨1, _⟩ => exact Nat.zero_add _
  | ⟨2, _⟩ => exact Nat.zero_add _

/-- Of a vector per entry: operand `[N, C]`, table `[T, 1]`, result `[T, C]`. -/
abbrev vecDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- Entry `(t, c)` of the result is entry `c` of the vector entry `t` of the table names. -/
theorem vec_apply {N C T : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ 32) (t : Fin T) (c : Fin C) :
    Host.gather (vecDims N C T wf) x idx (ix2 t c) = x (ix2 (pick N hN (idx (ix2 t (0 : Fin 1)))) c) := by
  unfold Host.gather
  refine congrArg x (funext fun a => Fin.ext ?_)
  show (vecDims N C T wf).start (ix2 t c) idx a + (vecDims N C T wf).batchCoord (ix2 t c) a
    + (vecDims N C T wf).offCoord (ix2 t c) a = _
  rw [GatherDims.batchCoord_eq_zero _ _ _ List.not_mem_nil, Nat.add_zero]
  match a with
  | ⟨0, _⟩ =>
    have hsi : (vecDims N C T wf).siIdx (ix2 t c) ⟨List.idxOf (0 : Fin 2) (vecDims N C T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    have ho : (vecDims N C T wf).offCoord (ix2 t c) (0 : Fin 2) = 0 :=
      GatherDims.offCoord_eq_zero _ _ _ (fun h => ((GatherDims.mem_sKept _ _).mp h).1 (List.mem_singleton.mpr rfl))
    have hs : (vecDims N C T wf).start (ix2 t c) idx (0 : Fin 2) = (pick N hN (idx (ix2 t (0 : Fin 1)))).val := by
      unfold GatherDims.start
      rw [dif_pos (show (0 : Fin 2) ∈ (vecDims N C T wf).startIndexMap from List.mem_singleton.mpr rfl), hsi]
      rfl
    exact (congrArg₂ (· + ·) hs ho).trans (Nat.add_zero _)
  | ⟨1, _⟩ => exact Nat.zero_add _

/-- The table after its negative entries are wrapped: an entry in range is itself. -/
theorem wrap (b : BitVec 32) (n : BitVec 32) (h : b.toNat < 2 ^ 31) :
    Scalar.select (IntOp.cmpi .slt b 0#32) (IntOp.addi b n) b = b := by
  have e : b.slt 0#32 = false := by
    simp only [BitVec.slt, BitVec.toInt_eq_toNat_cond, BitVec.toNat_ofNat]
    rw [if_pos (by omega)]
    simp
  show Scalar.select (BitVec.ofBool (b.slt 0#32)) _ _ = _
  rw [e]; rfl

end Cert.Take

end
-- ==== Proof.DownValue.lean ====
/-
  What the down projection of the experts leaves: row `256 t + a` of the result is row `256 t + a` of the hidden rows
  times the matrix of tile `t`'s expert plus that expert's bias where tile `t` is in use, and zero elsewhere.
-/
module

public import proofs.«01_k».proof.Proof.DownIdealOk
public import proofs.«01_k».proof.Proof.Take
public import Idealize.ShloMosaic.Lib.MatmulPlain
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.DownIdeal.Tiles

open Idealize.ShloMosaic hiding ix1 ix2 ix3
open Idealize.ShloMosaic.TcCoe Idealize.SL.Sem Idealize.ShloMosaic.ValueIdx
open Cert.DownIdeal.Gen

/-! ## One tile -/

/-- The product of a tile with its expert's matrix is the plain one. -/
theorem dot_plain : dot_S256x2048_S2048x2048_S256x2048_1_0_0_1_n_n = DotDims.plain 256 2048 2048 := rfl

/-- The expert's matrix without its leading axis of one. -/
theorem mat_cast (x1 : Vec Ideal S1x2048x2048 .bf16) (k f : Fin 2048) :
    (shapeCast S2048x2048 x1 shapeCasts_S1x2048x2048_S2048x2048 : Vec Ideal S2048x2048 .bf16) (ix2 k f) = x1 (ix3 (0 : Fin 1) k f) :=
  shapeCast_apply x1 shapeCasts_S1x2048x2048_S2048x2048 (ix2 k f) (ix3 (0 : Fin 1) k f)
    (by rewrite [Shape.rowMajor_val_two, Shape.rowMajor_val_three]; show (0 * 2048 + k.val) * 2048 + f.val = k.val * 2048 + f.val; omega)

/-- The bias without its leading axes, spread over the tile's rows. -/
theorem bias_cast (x2 : Vec Ideal S1x1x2048 .f32) (a : Fin 256) (f : Fin 2048) :
    (broadcastTo S256x2048 (shapeCast S1x2048 x2 shapeCasts_S1x1x2048_S1x2048) broadcasts_S1x2048_S256x2048 : Vec Ideal S256x2048 .f32)
      (ix2 a f) = x2 (ix3 (0 : Fin 1) (0 : Fin 1) f) := by
  refine (broadcastTo_apply _ broadcasts_S1x2048_S256x2048 (ix2 a f) (ix2 (0 : Fin 1) f) (fun b => ?_)).trans ?_
  · match b with
    | ⟨0, _⟩ => show 0 = if (1 : ℕ) = 1 then 0 else _; rw [if_pos rfl]
    | ⟨1, _⟩ => show f.val = if (2048 : ℕ) = 1 then 0 else f.val; rw [if_neg (by decide)]
  · exact shapeCast_apply x2 shapeCasts_S1x1x2048_S1x2048 (ix2 (0 : Fin 1) f) (ix3 (0 : Fin 1) (0 : Fin 1) f)
      (by rewrite [Shape.rowMajor_val_two, Shape.rowMajor_val_three]; show (0 * 1 + 0) * 2048 + f.val = 0 * 2048 + f.val; omega)

/-- A product at a row and a column. -/
theorem product_apply (x0 : FVec Ideal S256x2048 .bf16) (w : FVec Ideal S2048x2048 .bf16) (a : Fin 256) (f : Fin 2048) :
    (matmul dot_S256x2048_S2048x2048_S256x2048_1_0_0_1_n_n none x0 w (constant S256x2048 .f32 0x00000000#32 : FVec Ideal S256x2048 .f32)
      : FVec Ideal S256x2048 .f32) (ix2 a f) = ∑ k : Fin 2048, x0 (ix2 a k) * w (ix2 k f) := by
  show FloatOps.matmul (F := Ideal) _ none _ _ _ (ix2 a f) = _
  rw [dot_plain, Ideal.matmul_plain_apply]
  show Ideal.ofBits .f32 0x00000000#32 + _ = _
  rw [Ideal.ofBits_zero_f32, zero_add]

/-- The tile's product with the bias, at a row and a column. -/
theorem pay_apply (x0 : Vec Ideal S256x2048 .bf16) (x1 : Vec Ideal S1x2048x2048 .bf16) (x2 : Vec Ideal S1x1x2048 .f32)
    (a : Fin 256) (f : Fin 2048) :
    k0_pay1 x0 x1 x2 (ix2 a f) = ∑ k : Fin 2048, x0 (ix2 a k) * x1 (ix3 (0 : Fin 1) k f) + x2 (ix3 (0 : Fin 1) (0 : Fin 1) f) := by
  refine congrArg₂ (fun p q : EReal => p + q) ((product_apply x0 _ a f).trans ?_) (bias_cast x2 a f)
  exact Finset.sum_congr rfl fun k _ => by rw [mat_cast]

/-- The zeros of a tile that is not in use. -/
theorem zero_apply (y : S256x2048.Idx) : (k0_pay2 (F := Ideal)) y = 0 := Ideal.ofBits_zero_f32

/-- A tile is in use when its number is below the number of tiles in use. -/
theorem cond_iff (i : grid0.Coords) (n : BitVec 32) : k0_cond1 i n = 1#1 ↔ (BitVec.ofNat 32 (i 0).val).slt n = true := by
  simp only [k0_cond1, Scalar.cmpi, IntOp.cmpi]
  cases (BitVec.ofNat 32 (i 0).val).slt n <;> decide

/-! ## The whole result -/

/-- The rows times each tile's expert, plus its bias, in the tiles that are in use. -/
def outDown (be : S288.Idx → BitVec 32) (n : BitVec 32) (x : S73728x2048.Idx → EReal) (w : S32x2048x2048.Idx → EReal)
    (b : S32x2048.Idx → EReal) (t : Fin 288) (a : Fin 256) (f : Fin 2048) : EReal :=
  if (BitVec.ofNat 32 t.val).slt n = true then
    ∑ k : Fin 2048, x (ix2 (⟨256 * t.val + a.val, by omega⟩ : Fin 73728) k) * w (ix3 (Take.pick 32 (by decide) (be (ix1 t))) k f)
      + b (ix2 (Take.pick 32 (by decide) (be (ix1 t))) f)
  else 0

/-- The same at an index of the result: row `r` lies in tile `r / 256`. -/
def outAt (be : S288.Idx → BitVec 32) (n : BitVec 32) (x : S73728x2048.Idx → EReal) (w : S32x2048x2048.Idx → EReal)
    (b : S32x2048.Idx → EReal) (i : S73728x2048.Idx) : EReal :=
  outDown be n x w b ⟨(i 0).val / 256, by have : (i 0).val < 73728 := (i 0).isLt; omega⟩ ⟨(i 0).val % 256, by omega⟩ (i 1)

variable (m : (ℓ : Loc nD τ sig) → Buf (Elt Ideal) ℓ) (ρ : Dev nD → PrngReg)

/-- The arguments: experts, tiles in use, rows, matrices, biases. -/
abbrev argE (c : Dev nD) : S288.Idx → BitVec 32 := m ((c : Thread nD τ).loc main_arg0)
abbrev argN (c : Dev nD) : BitVec 32 := (m ((c : Thread nD τ).loc main_arg1) : S1.Idx → BitVec 32) first
abbrev argX (c : Dev nD) : S73728x2048.Idx → EReal := m ((c : Thread nD τ).loc main_arg2)
abbrev argW (c : Dev nD) : S32x2048x2048.Idx → EReal := m ((c : Thread nD τ).loc main_arg3)
abbrev argB (c : Dev nD) : S32x2048.Idx → EReal := m ((c : Thread nD τ).loc main_arg4)

/-- The tables the region reads are the arguments. -/
theorem table_expert : (tbl m 0 : S288.Idx → BitVec 32) = argE m 0 := V_kept m 0 main_arg0 (by decide) (by decide)
/-- Likewise the number of tiles in use. -/
theorem table_used : used m = argN m 0 := congrFun (V_kept m 0 main_arg1 (by decide) (by decide)) first

/-- The matrices the region finds are the argument's: the host's rounding is exact here. -/
theorem found_w (c : Dev nD) : (V m c main_v0 : S32x2048x2048.Idx → EReal) = argW m c := by
  show StableHlo.after _ _ _ = _
  after_results
  rfl

/-- The biases the region finds are the argument's, with an axis of one between. -/
theorem found_b (c : Dev nD) : (V m c main_v1 : S32x1x2048.Idx → EReal) = shapeCast S32x1x2048 (argB m c) shapeCasts_S32x2048_S32x1x2048 := by
  show StableHlo.after _ _ _ = _
  after_results
  rfl

/-- A grid point's coordinate is its number. -/
theorem coord : ∀ t : Fin grid0.N, (grid0.coords t 0).val = t.val := by decide +kernel

variable {m}

/-- Point `t`'s block of rows, where the tile is in use. -/
theorem blk_rows (hO : Ok m) (h : InRange m) (c : Dev nD) (t : Fin (cfgM m hO).N) (T : Fin 288) (hT : (grid0.coords t 0).val = T.val)
    (hu : T.val < (used m).toNat) (a : Fin 256) (k : Fin 2048) :
    (iblk m hO c 0 t : Vec Ideal S256x2048 .bf16) (ix2 a k) = argX m c (ix2 (⟨256 * T.val + a.val, by omega⟩ : Fin 73728) k) := by
  refine Eq.trans (b := (V m c main_arg2 : S73728x2048.Idx → EReal) (ix2 (⟨256 * T.val + a.val, by omega⟩ : Fin 73728) k)) ?_
    (congrFun (V_kept m c main_arg2 (by decide) (by decide)) _)
  refine congrArg (V m c main_arg2 : S73728x2048.Idx → EReal) (funext fun b => Fin.ext ?_)
  match b with
  | ⟨0, _⟩ =>
    show cc0_transform_0 inb_S1_S1_0 numel1_S1 (tbl m) (grid0.coords t) 0 * 256 + 1 * a.val = 256 * T.val + a.val
    rw [rows_ix h]
    show min (grid0.coords t 0).val ((used m).toNat - 1) * 256 + 1 * a.val = _
    rw [hT]; omega
  | ⟨1, _⟩ =>
    show cc0_transform_0 inb_S1_S1_0 numel1_S1 (tbl m) (grid0.coords t) 1 * 2048 + 1 * k.val = k.val
    rw [rows_ix h]
    show 0 * 2048 + 1 * k.val = _; omega

/-- Point `t`'s expert. -/
theorem expert_pick (h : InRange m) (i : grid0.Coords) (T : Fin 288) (hT : (i 0).val = T.val) :
    expert m i = (Take.pick 32 (by decide) (argE m 0 (ix1 T))).val := by
  have e : tileIx i = ix1 T := funext fun a => Fin.ext (by obtain rfl : a = 0 := Subsingleton.elim _ _; exact hT)
  unfold expert
  rw [Take.pick_of_lt 32 (by decide) _ (by rw [← table_expert]; exact h.expert _) (by decide), e, table_expert]

/-- Point `t`'s block of matrices: its expert's. -/
theorem blk_mat (hO : Ok m) (h : InRange m) (c : Dev nD) (t : Fin (cfgM m hO).N) (T : Fin 288) (hT : (grid0.coords t 0).val = T.val)
    (k f : Fin 2048) :
    (iblk m hO c 1 t : Vec Ideal S1x2048x2048 .bf16) (ix3 (0 : Fin 1) k f)
      = argW m c (ix3 (Take.pick 32 (by decide) (argE m 0 (ix1 T))) k f) := by
  refine Eq.trans (b := (V m c main_v0 : S32x2048x2048.Idx → EReal) (ix3 (Take.pick 32 (by decide) (argE m 0 (ix1 T))) k f)) ?_
    (congrFun (found_w m c) _)
  refine congrArg (V m c main_v0 : S32x2048x2048.Idx → EReal) (funext fun b => Fin.ext ?_)
  match b with
  | ⟨0, _⟩ =>
    show cc0_transform_1 k0_off1_inb numel1_S1 (tbl m) (grid0.coords t) 0 * 1 + 1 * 0 = _
    rw [mat_ix]
    show expert m (grid0.coords t) * 1 + 1 * 0 = (Take.pick 32 (by decide) (argE m 0 (ix1 T))).val
    rw [expert_pick h _ T hT]; omega
  | ⟨1, _⟩ =>
    show cc0_transform_1 k0_off1_inb numel1_S1 (tbl m) (grid0.coords t) 1 * 2048 + 1 * k.val = k.val
    rw [mat_ix]
    show 0 * 2048 + 1 * k.val = _; omega
  | ⟨2, _⟩ =>
    show cc0_transform_1 k0_off1_inb numel1_S1 (tbl m) (grid0.coords t) 2 * 2048 + 1 * f.val = f.val
    rw [mat_ix]
    show 0 * 2048 + 1 * f.val = _; omega

/-- Point `t`'s block of biases: its expert's. -/
theorem blk_bias (hO : Ok m) (h : InRange m) (c : Dev nD) (t : Fin (cfgM m hO).N) (T : Fin 288) (hT : (grid0.coords t 0).val = T.val)
    (f : Fin 2048) :
    (iblk m hO c 2 t : Vec Ideal S1x1x2048 .f32) (ix3 (0 : Fin 1) (0 : Fin 1) f)
      = argB m c (ix2 (Take.pick 32 (by decide) (argE m 0 (ix1 T))) f) := by
  refine Eq.trans (b := (V m c main_v1 : S32x1x2048.Idx → EReal) (ix3 (Take.pick 32 (by decide) (argE m 0 (ix1 T))) (0 : Fin 1) f)) ?_
    ((congrFun (found_b m c) _).trans ?_)
  · refine congrArg (V m c main_v1 : S32x1x2048.Idx → EReal) (funext fun b => Fin.ext ?_)
    match b with
    | ⟨0, _⟩ =>
      show cc0_transform_2 k0_off1_inb numel1_S1 (tbl m) (grid0.coords t) 0 * 1 + 1 * 0 = _
      rw [bias_ix]
      show expert m (grid0.coords t) * 1 + 1 * 0 = (Take.pick 32 (by decide) (argE m 0 (ix1 T))).val
      rw [expert_pick h _ T hT]; omega
    | ⟨1, _⟩ =>
      show cc0_transform_2 k0_off1_inb numel1_S1 (tbl m) (grid0.coords t) 1 * 1 + 1 * 0 = 0
      rw [bias_ix]
      rfl
    | ⟨2, _⟩ =>
      show cc0_transform_2 k0_off1_inb numel1_S1 (tbl m) (grid0.coords t) 2 * 2048 + 1 * f.val = f.val
      rw [bias_ix]
      show 0 * 2048 + 1 * f.val = _; omega
  · generalize Take.pick 32 _ (argE m 0 (ix1 T)) = e
    exact shapeCast_apply (argB m c) shapeCasts_S32x2048_S32x1x2048 (ix3 e (0 : Fin 1) f) (ix2 e f)
      (by rewrite [Shape.rowMajor_val_two, Shape.rowMajor_val_three]; show e.val * 2048 + f.val = (e.val * 1 + 0) * 2048 + f.val; omega)

/-- A tile number below the word of tiles in use is below its value. -/
theorem lt_of_slt (k : ℕ) (n : BitVec 32) (hk : k < 288) (hn : n.toNat < 2 ^ 31) : (BitVec.ofNat 32 k).slt n = true ↔ k < n.toNat := by
  simp only [BitVec.slt, BitVec.toInt_eq_toNat_cond, BitVec.toNat_ofNat, decide_eq_true_eq]
  rw [if_pos (by omega), if_pos (by omega)]
  omega

/-- What point `t` leaves in its block of the result. -/
theorem tile_at (hO : Ok m) (h : InRange m) (c : Dev nD) (t : Fin (cfgM m hO).N) (T : Fin 288) (hT : (grid0.coords t 0).val = T.val)
    (a : Fin 256) (f : Fin 2048) :
    (tile (grid0.coords t) (used m) (iblk m hO c 0 t) (iblk m hO c 1 t) (iblk m hO c 2 t) : Vec Ideal S256x2048 .f32) (ix2 a f)
      = outDown (argE m 0) (argN m 0) (argX m c) (argW m c) (argB m c) T a f := by
  unfold tile outDown
  rw [← table_used]
  by_cases hc : (BitVec.ofNat 32 T.val).slt (used m) = true
  · rw [if_pos ((cond_iff _ _).mpr (by rw [hT]; exact hc)), if_pos hc]
    refine (pay_apply _ _ _ a f).trans (congrArg₂ (fun p q : EReal => p + q) (Finset.sum_congr rfl fun k _ => ?_) (blk_bias hO h c t T hT f))
    exact congrArg₂ (fun p q : EReal => p * q) (blk_rows hO h c t T hT ((lt_of_slt _ _ T.isLt h.small).mp hc) a k) (blk_mat hO h c t T hT k f)
  · rw [if_neg (fun h' => hc (by have := (cond_iff _ _).mp h'; rwa [hT] at this)), if_neg hc]
    exact zero_apply _

/-- Every point writes its block back, and the blocks make up the result. -/
theorem out_flush (hO : Ok m) (t : Fin (cfgM m hO).N) : ((cfgM m hO).win (3 : Fin 4)).flush t = true := by
  rw [Pipeline.Window.flush_eq_flushOf]
  exact (Pipeline.Window.flushOf_reads (G := grid0) cc0_transform_3 reads0_3 hreads0_3 0 (by decide) (by decide)
    (Pipeline.Window.sep_of_coord cc0_transform_3 0 0 (fun _ => rfl) (by decide)) (P := 1) (m := 0) (by decide) rfl t).mpr (Nat.mod_one _)

/-- The block written at point `t` holds rows `256 t …`, all columns. -/
theorem out_index (hO : Ok m) (t : Fin (cfgM m hO).N) : ((cfgM m hO).win (3 : Fin 4)).index t = ![(grid0.coords t 0).val, 0] := by
  have ht : (grid0.coords t 0).val < 288 := (grid0.coords t 0).isLt
  show cc0_transform_3 (grid0.coords t) = _
  show ![(BitVec.ofNat 32 (grid0.coords t 0).val).toNat, 0] = _
  rw [BitVec.toNat_ofNat, Nat.mod_eq_of_lt (by omega)]

/-- The blocks cover the result. -/
theorem out_covers (hO : Ok m) : ((cfgM m hO).win (3 : Fin 4)).Covers := by
  refine ⟨(by decide : ∀ a : Fin 2, 0 < S256x2048.size a), fun β => ?_⟩
  have hβ : (β (0 : Fin 2)).val < 288 := lt_of_lt_of_eq (β (0 : Fin 2)).isLt (by show (73728 + 256 - 1) / 256 = 288; omega)
  have hβ1 : (β (1 : Fin 2)).val < 1 := lt_of_lt_of_eq (β (1 : Fin 2)).isLt (by show (2048 + 2048 - 1) / 2048 = 1; omega)
  refine ⟨(⟨(β (0 : Fin 2)).val, lt_of_lt_of_eq hβ (N_0.symm)⟩ : Fin grid0.N), out_flush hO _, fun a => ⟨?_, .inl ?_⟩⟩
  · rw [out_index]
    match a with
    | ⟨0, _⟩ => exact coord _
    | ⟨1, _⟩ => show 0 = (β (1 : Fin 2)).val; omega
  · rfl

/-- THE RESULT AFTER THE RUN. -/
theorem arr_out (hO : Ok m) (h : InRange m) (c : Dev nD) : (dats m hO 0 c).arrAt (3 : Fin 4) (cfgM m hO).N
    = outAt (argE m 0) (argN m 0) (argX m c) (argW m c) (argB m c) := by
  refine (dats m hO 0 c).arrAt_eq_of_covers (3 : Fin 4) _ (out_covers hO) fun t hf y => ?_
  have hT : (grid0.coords t 0).val < 288 := (grid0.coords t 0).isLt
  have hy0 : ((y (0 : Fin 2)) : ℕ) < 256 := (y (0 : Fin 2)).isLt
  have hy1 : ((y (1 : Fin 2)) : ℕ) < 2048 := (y (1 : Fin 2)).isLt
  rw [after_out]
  refine Eq.trans ?_ ((tile_at hO h c t ⟨(grid0.coords t 0).val, hT⟩ rfl ⟨(y (0 : Fin 2)).val, hy0⟩ ⟨(y (1 : Fin 2)).val, hy1⟩).trans ?_)
  · refine congrArg (tile (grid0.coords t) (used m) (iblk m hO c 0 t) (iblk m hO c 1 t) (iblk m hO c 2 t) : Vec Ideal S256x2048 .f32)
      (funext fun b => Fin.ext ?_)
    match b with
    | ⟨0, _⟩ => rfl
    | ⟨1, _⟩ => rfl
  · have e0 : ((((cfgM m hO).win (3 : Fin 4)).blk t).view.emb y (0 : Fin 2)).val = 256 * (grid0.coords t 0).val + (y (0 : Fin 2)).val := by
      show ((cfgM m hO).win (3 : Fin 4)).index t (0 : Fin 2) * 256 + 1 * (y (0 : Fin 2)).val = _
      rw [out_index]
      show (grid0.coords t 0).val * 256 + 1 * (y (0 : Fin 2)).val = _; omega
    have e1 : ((((cfgM m hO).win (3 : Fin 4)).blk t).view.emb y (1 : Fin 2)).val = (y (1 : Fin 2)).val := by
      show ((cfgM m hO).win (3 : Fin 4)).index t (1 : Fin 2) * 2048 + 1 * (y (1 : Fin 2)).val = _
      rw [out_index]
      show 0 * 2048 + 1 * (y (1 : Fin 2)).val = _; omega
    unfold outAt
    have r0 : (⟨((((cfgM m hO).win (3 : Fin 4)).blk t).view.emb y (0 : Fin 2)).val / 256, by rw [e0]; omega⟩ : Fin 288) = ⟨(grid0.coords t 0).val, hT⟩ :=
      Fin.ext (by show _ / 256 = (grid0.coords t 0).val; rw [e0]; omega)
    have r1 : (⟨((((cfgM m hO).win (3 : Fin 4)).blk t).view.emb y (0 : Fin 2)).val % 256, by omega⟩ : Fin 256) = ⟨(y (0 : Fin 2)).val, hy0⟩ :=
      Fin.ext (by show _ % 256 = (y (0 : Fin 2)).val; rw [e0]; omega)
    have r2 : (((cfgM m hO).win (3 : Fin 4)).blk t).view.emb y (1 : Fin 2) = (⟨(y (1 : Fin 2)).val, hy1⟩ : Fin 2048) := Fin.ext e1
    exact ((congrArg₂ (fun T a => outDown (argE m 0) (argN m 0) (argX m c) (argW m c) (argB m c) T a _) r0 r1).trans
      (congrArg (outDown (argE m 0) (argN m 0) (argX m c) (argW m c) (argB m c) _ _) r2)).symm

/-- The kernel's run: the result is the projection of the arguments, which are unchanged. -/
theorem run_value (h : InRange m) : θ_run defs (onTc (τ := τ) (main (F := Ideal))) ⟨m, fun _ => 0, ρ⟩ fun r => ∀ c : Dev nD,
      r.2.mem ((c.tc : Thread nD τ).loc main_v2) = outAt (argE m 0) (argN m 0) (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hO := ok_of_range h
  exact (θ_run defs _ _).mono (fun r h' c =>
    ⟨((h'.1 c).1 3).trans (arr_out hO h c),
      ((h'.1 c).2 main_arg0 (by decide : main_arg0 ∈ Pipeline.restRefs sig spec0)).trans (V_kept m c _ (by decide) (by decide)),
      ((h'.1 c).2 main_arg1 (by decide : main_arg1 ∈ Pipeline.restRefs sig spec0)).trans (V_kept m c _ (by decide) (by decide)),
      (((h'.1 c).1 0).trans ((dats m hO 0 c).arrAt_in 0 rfl _)).trans (V_kept m c main_arg2 (by decide) (by decide)),
      ((h'.1 c).2 main_arg3 (by decide : main_arg3 ∈ Pipeline.restRefs sig spec0)).trans (V_kept m c _ (by decide) (by decide)),
      ((h'.1 c).2 main_arg4 (by decide : main_arg4 ∈ Pipeline.restRefs sig spec0)).trans (V_kept m c _ (by decide) (by decide))⟩) (run m ρ hO)

end Cert.DownIdeal.Tiles

end
-- ==== Proof.DownRef.lean ====
/-
  What the reference's plain down projection computes, element by element: the same formula of the same arguments.
-/
module

public import proofs.«01_k».proof.Proof.DownValue
public import proofs.«01_k».proof.Proof.Gen.DownRefIdeal.Run
public import proofs.«01_k».proof.Proof.Gen.DownRefIdeal.Read

@[expose] public section

set_option maxRecDepth 16384

noncomputable section

namespace Cert.DownRef

open Idealize.ShloMosaic hiding ix1 ix2 ix3
open Idealize.ShloMosaic.TcCoe Idealize.SL.Sem Idealize.ShloMosaic.ValueIdx
open Cert.DownRefIdeal Cert.DownRefIdeal.Gen Cert.DownRefIdeal.Read

variable (be : S288.Idx → BitVec 32) (nu : S1.Idx → BitVec 32) (x : S73728x2048.Idx → EReal) (w : S32x2048x2048.Idx → EReal)
  (b : S32x2048.Idx → EReal)

/-- The table of experts as the two reads take it: an entry in range is itself. -/
theorem table_at (h : ∀ i, (be i).toNat < 32) (t : Fin 288) :
    val_main_v7 (F := Ideal) be (ix2 t (0 : Fin 1)) = be (ix1 t) ∧ val_main_v15 (F := Ideal) be (ix2 t (0 : Fin 1)) = be (ix1 t) := by
  have e : idx_main_v7 (ix2 t (0 : Fin 1)) = ix1 t := funext fun a => match a with | ⟨0, _⟩ => rfl
  have e' : idx_main_v15 (ix2 t (0 : Fin 1)) = ix1 t := funext fun a => match a with | ⟨0, _⟩ => rfl
  have hw := Take.wrap (be (ix1 t)) 32#32 (by have := h (ix1 t); omega)
  constructor
  · rw [val_main_v7_apply, e, val_main_v6_apply, val_main_v3_apply, val_main_v5_apply, val_main_v2_apply, val_main_v4_apply,
      val_main_c_apply, val_main_c_0_apply]
    exact hw
  · rw [val_main_v15_apply, e', val_main_v14_apply, val_main_v11_apply, val_main_v13_apply, val_main_v10_apply, val_main_v12_apply,
      val_main_c_1_apply, val_main_c_2_apply]
    exact hw

/-- The matrices taken by the table. -/
theorem mat_at (h : ∀ i, (be i).toNat < 32) (t : Fin 288) (k f : Fin 2048) :
    val_main_v8 (F := Ideal) be w (ix3 t k f) = w (ix3 (Take.pick 32 (by decide) (be (ix1 t))) k f) := by
  refine (Take.mat_apply (N := 32) (R := 2048) (C := 2048) (T := 288) (by decide)
    gather_S32x2048x2048_S288x1_S288x2048x2048_12_0_n_n_0_1_120482048_wf w (val_main_v7 (F := Ideal) be) t k f).trans ?_
  rw [(table_at be h t).1]

/-- The biases taken by the table. -/
theorem bias_at (h : ∀ i, (be i).toNat < 32) (t : Fin 288) (f : Fin 2048) :
    val_main_v16 (F := Ideal) be b (ix2 t f) = b (ix2 (Take.pick 32 (by decide) (be (ix1 t))) f) := by
  refine (Take.vec_apply (N := 32) (C := 2048) (T := 288) (by decide)
    gather_S32x2048_S288x1_S288x2048_1_0_n_n_0_1_12048_wf b (val_main_v15 (F := Ideal) be) t f).trans ?_
  rw [(table_at be h t).2]

/-- The rows, regrouped by tile. -/
theorem rows_at (t : Fin 288) (a : Fin 256) (k : Fin 2048) :
    val_main_v1 (F := Ideal) x (ix3 t a k) = x (ix2 (⟨256 * t.val + a.val, by omega⟩ : Fin 73728) k) := by
  rw [val_main_v1_apply, val_main_v0_apply]
  refine congrArg x (funext fun d => Fin.ext ?_)
  match d with
  | ⟨0, _⟩ => show ((t.val * 256 + a.val) * 2048 + k.val) / 2048 = 256 * t.val + a.val; omega
  | ⟨1, _⟩ => show ((t.val * 256 + a.val) * 2048 + k.val) % 2048 = k.val; omega

/-- Where the product reads its rows, -/
theorem left_ix (t : Fin 288) (a : Fin 256) (f k : Fin 2048) : lidx_main_v9 (ix3 t a f) k = ix3 t a k := by
  funext d; match d with | ⟨0, _⟩ => rfl | ⟨1, _⟩ => rfl | ⟨2, _⟩ => rfl
/-- its matrix, -/
theorem right_ix (t : Fin 288) (a : Fin 256) (f k : Fin 2048) : ridx_main_v9 (ix3 t a f) k = ix3 t k f := by
  funext d; match d with | ⟨0, _⟩ => rfl | ⟨1, _⟩ => rfl | ⟨2, _⟩ => rfl
/-- and where the sum reads its bias. -/
theorem bias_ix (t : Fin 288) (a : Fin 256) (f : Fin 2048) : idx_main_v17 (idx_main_v18 (ix3 t a f)) = ix2 t f := by
  funext d; match d with | ⟨0, _⟩ => rfl | ⟨1, _⟩ => rfl

/-- Products with the bias, before the tiles that are not in use are cleared. -/
theorem sum_at (h : ∀ i, (be i).toNat < 32) (t : Fin 288) (a : Fin 256) (f : Fin 2048) :
    val_main_v19 (F := Ideal) be x w b (ix3 t a f)
      = ∑ k : Fin 2048, x (ix2 (⟨256 * t.val + a.val, by omega⟩ : Fin 73728) k) * w (ix3 (Take.pick 32 (by decide) (be (ix1 t))) k f)
        + b (ix2 (Take.pick 32 (by decide) (be (ix1 t))) f) := by
  rw [val_main_v19_apply, val_main_v9_apply, val_main_v18_apply, val_main_v17_apply, bias_ix, bias_at be b h]
  refine congrArg (fun p : EReal => p + _) (Finset.sum_congr rfl fun k _ => ?_)
  rw [left_ix, right_ix, rows_at, mat_at be w h]

/-- Whether a tile is in use. -/
theorem used_at (t : Fin 288) (a : Fin 256) (f : Fin 2048) :
    val_main_call0_v1 (F := Ideal) nu (ix3 t a f) = BitVec.ofBool ((BitVec.ofNat 32 t.val).slt (nu Cert.DownIdeal.Tiles.first)) := by
  rw [val_main_call0_v1_apply, val_main_v24_apply, val_main_v21_apply, val_main_v20_apply, val_main_v23_apply]
  have e : val_main_v22 (F := Ideal) nu (idx_main_v23 (idx_main_call0_v1 (ix3 t a f))) = nu Cert.DownIdeal.Tiles.first :=
    congrArg nu (funext fun d => Fin.ext (by
      obtain rfl : d = 0 := Subsingleton.elim _ _
      have h1 : ((Shape.reshapeEquiv shapeCasts_S1_S_ (idx_main_v23 (idx_main_call0_v1 (ix3 t a f)))) 0 : ℕ) < 1 := Fin.isLt _
      show ((Shape.reshapeEquiv shapeCasts_S1_S_ (idx_main_v23 (idx_main_call0_v1 (ix3 t a f)))) 0 : ℕ) = 0
      omega))
  rw [e]
  rfl

/-- THE REFERENCE'S RESULT is the projection of the arguments. -/
theorem result (h : ∀ i, (be i).toNat < 32) :
    val_main_v26 (F := Ideal) be nu x w b = Cert.DownIdeal.Tiles.outAt be (nu Cert.DownIdeal.Tiles.first) x w b := by
  funext i
  have h0 : (i 0).val < 73728 := (i 0).isLt
  have h1 : (i 1).val < 2048 := (i 1).isLt
  rw [val_main_v26_apply]
  have e : idx_main_v26 i = ix3 (⟨(i 0).val / 256, by omega⟩ : Fin 288) (⟨(i 0).val % 256, by omega⟩ : Fin 256) (⟨(i 1).val, h1⟩ : Fin 2048) := by
    funext d; refine Fin.ext ?_
    match d with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => show ((i 0).val * 2048 + (i 1).val) % 2048 = (i 1).val; omega
  rw [e, val_main_v25_apply, used_at, sum_at be x w b h]
  unfold Cert.DownIdeal.Tiles.outAt Cert.DownIdeal.Tiles.outDown
  cases (BitVec.ofNat 32 ((i 0).val / 256)).slt (nu Cert.DownIdeal.Tiles.first)
  · exact Ideal.ofBits_zero_f32
  · rfl

end Cert.DownRef

end
-- ==== Proof.UpIdealLaunch.lean ====
/-
  How the up projection of the experts runs, for the program the value claims read. The grid walks two halves of the columns, in each the 288 tiles of
  256 rows; a table names the expert of each tile, a second table of one word names how many tiles are in use.
  In a tile that is in use the body multiplies the rows by the gate's and the linear half's weights and writes
  the clipped swish of the one times the clipped other; in any other tile it writes zeros. Here: the arrays as
  the region finds them, the body's two runs, the proof data that name each tile's result, the launch, the frame.
-/
module

public import proofs.«01_k».proof.Proof.Gen.UpIdeal.Launch
public import proofs.«01_k».proof.Proof.Gen.UpIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp
public import Idealize.ShloMosaic.Lib.Claim

@[expose] public section

set_option maxRecDepth 16384

noncomputable section

namespace Cert.UpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- A TensorCore buffer of core `c` when the region is entered: after the slices, casts and reshapes of the host. -/
abbrev V (c : Dev nD) (b : Ref sig .tc) : Buf (Elt F) ((c : Thread nD τ).loc b) :=
  StableHlo.after hostOps0 (fun b => m (c, b)) b

/-- The host operations allocate nothing. -/
theorem host_fresh : (hostOps0 : List (HloOp τ sig (Elt F))).Forall fun op => op.fresh = ∅ := by
  simp only [List.Forall]; repeat' constructor

set_option maxHeartbeats 800000 in
/-- The program up to the region is its eight host operations. -/
theorem upto (𝒱₀ : Variants) : Pipeline.HMainP (Ix := Unit) (Name := ℕ) (U := UR sig nD τ) (Lvl := ℕ)
    pcfgs 0 defs₀ 𝒱₀ m (main (F := F)) (V m) :=
  Pipeline.hmainP_prefix pcfgs 0 defs₀ 𝒱₀ m main hostOps0 hostOps0_sub host_fresh main_chain

/-- A buffer that is none of the host's eight results is found as launched. -/
theorem V_kept (c : Dev nD) (b : Ref sig .tc) (h : b ∉ [main_v0, main_v1, main_v2, main_v3, main_v4, main_v5, main_v6, main_v7]) :
    V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5, h6, h7⟩ := h
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

/-- The tables as the region reads them. -/
def tbl : pre0.Contents (Elt F) := fun j => V m (0 : Dev nD) (pre0.ref j)

/-- The tables are the buffers the region reads them from. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The one position of a table of one word. -/
abbrev first : S1.Idx := fun _ => ⟨0, by decide +revert⟩

/-- How many tiles are in use: the one word of the second table. -/
def used : BitVec 32 := tbl m 1 first

/-- The two tables as memrefs. -/
abbrev tabE : Memref sig .tc .smem S288 .i32 := Memref.whole main_arg0
abbrev tabE_whole : tabE.IsWhole := Memref.isWhole_whole _
abbrev tabN : Memref sig .tc .smem S1 .i32 := Memref.whole main_arg1
abbrev tabN_whole : tabN.IsWhole := Memref.isWhole_whole _

/-- A table's contents on a core, and the half of it the body holds. -/
abbrev TabBuf (c : Dev nD) {S : Shape} {e : EltTy} (M : Memref sig .tc .smem S e) : Type :=
  Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The region hands the body the halves of the two tables. -/
theorem tables_eq (c : Dev nD) : (Pipeline.ΦT pre0 (tbl m) c : sProp 𝕄)
    = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section before
variable (hO : Ok m) {c : Dev nD} (dat : Dat τ (Elt F) Unit ℕ (UR sig nD τ) ℕ (cfgM m hO) c)

/-- An input's staging buffer holds its block at every point: the rows, -/
theorem before_rows (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- the gate's weights, -/
theorem before_gate (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- the linear half's weights, -/
theorem before_lin (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- the gate's bias, -/
theorem before_gbias (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- and the linear half's bias. -/
theorem before_lbias (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
end before

/-! ## The body's two runs -/

/-- What the body leaves in the result's block: the gated product in a tile that is in use, else zeros. -/
def tile (i : grid0.Coords) (n : BitVec 32) (x0 : Vec F S256x2048 .f32) (x1 x2 : Vec F S1x2048x1024 .bf16)
    (x3 x4 : Vec F S1x1x1024 .f32) : Vec F S256x1024 .bf16 :=
  if k0_cond1 i n = 1#1 then k0_pay1 x0 x1 x3 x2 x4 else k0_pay2

/-- The second condition is the first one's opposite. -/
theorem cond2_iff (i : grid0.Coords) (n : BitVec 32) : k0_cond2 i n = 1#1 ↔ ¬ k0_cond1 i n = 1#1 := by
  have e : n.sle (BitVec.ofNat 32 (i 1).val) = !(BitVec.ofNat 32 (i 1).val).slt n := by
    simp only [BitVec.sle, BitVec.slt, ← decide_not, not_lt]
  simp only [k0_cond1, k0_cond2, Scalar.cmpi, IntOp.cmpi, e]
  cases (BitVec.ofNat 32 (i 1).val).slt n <;> decide

set_option maxHeartbeats 1000000 in
/-- The body run on whole staging memrefs: it leaves the inputs and tables as they were and `tile` in the result. -/
theorem body_run (c : Dev nD) (i : grid0.Coords)
    (arg4 : Memref sig .tc .vmem S256x2048 .f32) (h4 : arg4.IsWhole)
    (arg5 : Memref sig .tc .vmem S1x2048x1024 .bf16) (h5 : arg5.IsWhole)
    (arg6 : Memref sig .tc .vmem S1x2048x1024 .bf16) (h6 : arg6.IsWhole)
    (arg7 : Memref sig .tc .vmem S1x1x1024 .f32) (h7 : arg7.IsWhole)
    (arg8 : Memref sig .tc .vmem S1x1x1024 .f32) (h8 : arg8.IsWhole)
    (arg9 : Memref sig .tc .vmem S256x1024 .bf16) (h9 : arg9.IsWhole)
    (x0 : Vec F S256x2048 .f32) (x1 x2 : Vec F S1x2048x1024 .bf16) (x3 x4 : Vec F S1x1x1024 .f32)
    (te : TabBuf (F := F) c tabE) (tn : TabBuf (F := F) c tabN) (n : BitVec 32) (hn : tn first = n)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
        ∗ (∃ d, owns (c : Thread nD τ) arg9 fullShare d) ∗ tabPt c tabE te ∗ tabPt c tabN tn
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4
            ∗ owns (c : Thread nD τ) arg9 fullShare (tile i n x0 x1 x2 x3 x4) ∗ tabPt c tabE te ∗ tabPt c tabN tn) -∗ K ⟨⟩))
      ⊢ wp frame (wpE (defs₀ (F := F)) Variants.none c none) E
          (cc0_expert_up i tabE tabE_whole tabN tabN_whole arg4 h4 arg5 h5 arg6 h6 arg7 h7 arg8 h8 arg9 h9) K := by
  simp only [cc0_expert_up_eq_skeleton]; unfold cc0_expert_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := h4.eq_unread hf0; obtain rfl := h5.eq_unread hf1; obtain rfl := h6.eq_unread hf2; obtain rfl := h7.eq_unread hf3; obtain rfl := h8.eq_unread hf4
  sl_exec
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; swap; · iexact H5
    ipureintro
    have hw : body_run.sl.r c tn = n :=
      (congrArg tn (funext fun a => Fin.ext (by obtain rfl : a = 0 := Subsingleton.elim _ _; rfl) : (_ : S1.Idx) = first)).trans hn
    rw [hw]
    by_cases hc : k0_cond1 i n = 1#1
    · have hc2 : ¬ k0_cond2 i n = 1#1 := fun h => (cond2_iff i n).mp h hc
      rw [dif_neg hc2, dif_pos hc, tile, if_pos hc]
      rw [View.read_writes_full, View.readAt_full, View.readAt_full, View.readAt_full, View.readAt_full, View.readAt_full,
        h4.read_unread, h5.read_unread, h6.read_unread, h7.read_unread, h8.read_unread]
    · have hc2 : k0_cond2 i n = 1#1 := (cond2_iff i n).mpr hc
      rw [dif_pos hc2, tile, if_neg hc, View.read_writes_full]
  isplitl [HT0]; · iexact HT0
  iexact HT1

/-! ## The pipeline's proof data -/

/-- After the body at point `t`: each input's buffer at its block, the result's at the tile. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => tile (grid0.coords t) (used m) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

/-- A window's array is what the region finds in its buffer. -/
theorem A_eq (hO : Ok m) (c : Dev nD) (w : Fin (cfgM m hO).W) :
    (dats m hO 0 c).A w = V m c (Pipeline.arrRef spec0 w) := by dsimp only [dats]

/-- The body leaves an input's block as it was. -/
theorem after_rows (hO : Ok m) (c : Dev nD) (t : Fin (cfgM m hO).N) :
    (dats m hO 0 c).after 0 t = iblk m hO c 0 t := by dsimp only [dats]; try rfl
/-- The body leaves an input's block as it was. -/
theorem after_gate (hO : Ok m) (c : Dev nD) (t : Fin (cfgM m hO).N) :
    (dats m hO 0 c).after 1 t = iblk m hO c 1 t := by dsimp only [dats]; try rfl
/-- The body leaves an input's block as it was. -/
theorem after_lin (hO : Ok m) (c : Dev nD) (t : Fin (cfgM m hO).N) :
    (dats m hO 0 c).after 2 t = iblk m hO c 2 t := by dsimp only [dats]; try rfl
/-- The body leaves an input's block as it was. -/
theorem after_gbias (hO : Ok m) (c : Dev nD) (t : Fin (cfgM m hO).N) :
    (dats m hO 0 c).after 3 t = iblk m hO c 3 t := by dsimp only [dats]; try rfl
/-- The body leaves an input's block as it was. -/
theorem after_lbias (hO : Ok m) (c : Dev nD) (t : Fin (cfgM m hO).N) :
    (dats m hO 0 c).after 4 t = iblk m hO c 4 t := by dsimp only [dats]; try rfl
/-- What the body leaves in the result's block. -/
theorem after_out (hO : Ok m) (c : Dev nD) (t : Fin (cfgM m hO).N) : (dats m hO 0 c).after 5 t
    = tile (grid0.coords t) (used m) (iblk m hO c 0 t) (iblk m hO c 1 t) (iblk m hO c 2 t) (iblk m hO c 3 t) (iblk m hO c 4 t) := by dsimp only [dats]; try rfl

/-- A point starts with the block its window fetches. -/
theorem rows_at (hO : Ok m) (c : Dev nD) (t : Fin (cfgM m hO).N) (d) : (dats m hO 0 c).before 0 t d = iblk m hO c 0 t :=
  before_rows m hO (dats m hO 0 c) (A_eq m hO c 0) (after_rows m hO c) t d
/-- A point starts with the block its window fetches. -/
theorem gate_at (hO : Ok m) (c : Dev nD) (t : Fin (cfgM m hO).N) (d) : (dats m hO 0 c).before 1 t d = iblk m hO c 1 t :=
  before_gate m hO (dats m hO 0 c) (A_eq m hO c 1) (after_gate m hO c) t d
/-- A point starts with the block its window fetches. -/
theorem lin_at (hO : Ok m) (c : Dev nD) (t : Fin (cfgM m hO).N) (d) : (dats m hO 0 c).before 2 t d = iblk m hO c 2 t :=
  before_lin m hO (dats m hO 0 c) (A_eq m hO c 2) (after_lin m hO c) t d
/-- A point starts with the block its window fetches. -/
theorem gbias_at (hO : Ok m) (c : Dev nD) (t : Fin (cfgM m hO).N) (d) : (dats m hO 0 c).before 3 t d = iblk m hO c 3 t :=
  before_gbias m hO (dats m hO 0 c) (A_eq m hO c 3) (after_gbias m hO c) t d
/-- A point starts with the block its window fetches. -/
theorem lbias_at (hO : Ok m) (c : Dev nD) (t : Fin (cfgM m hO).N) (d) : (dats m hO 0 c).before 4 t d = iblk m hO c 4 t :=
  before_lbias m hO (dats m hO 0 c) (A_eq m hO c 4) (after_lbias m hO c) t d

/-- The body stores to the result at every point: one of its two conditions holds. -/
theorem busy (i : grid0.Coords) (n : BitVec 32) : (!(k0_cond1 i n == 1#1) && !(k0_cond2 i n == 1#1)) = false := by
  by_cases h : k0_cond1 i n = 1#1
  · rw [h]; rfl
  · rw [(cond2_iff i n).mpr h]; exact Bool.and_false _
/-- One of the two conditions holds at every point. -/
theorem never_idle (pf : pre0.Contents (Elt F)) (i : grid0.Coords) : idle0 pf (5 : Fin 6) i = false := busy i _
set_option maxHeartbeats 2000000 in
/-- The output window is written at every point of the launch. -/
theorem out_busy (hO : Ok m) (t : Fin (cfgM m hO).N) :
    (cfgM m hO).idle (5 : Fin 6) ((cfgM m hO).grid.coords t) = false := never_idle (tbl m) (grid0.coords t)

/-! ## The body obligation -/

/-- Each window's staging memref at point `t`. -/
abbrev st0 (hO : Ok m) (t : Fin (cfgM m hO).N) : Memref sig .tc .vmem S256x2048 .f32 := spec0_0.stage ((cfgM m hO).slots t 0)
abbrev st1 (hO : Ok m) (t : Fin (cfgM m hO).N) : Memref sig .tc .vmem S1x2048x1024 .bf16 := spec0_1.stage ((cfgM m hO).slots t 1)
abbrev st2 (hO : Ok m) (t : Fin (cfgM m hO).N) : Memref sig .tc .vmem S1x2048x1024 .bf16 := spec0_2.stage ((cfgM m hO).slots t 2)
abbrev st3 (hO : Ok m) (t : Fin (cfgM m hO).N) : Memref sig .tc .vmem S1x1x1024 .f32 := spec0_3.stage ((cfgM m hO).slots t 3)
abbrev st4 (hO : Ok m) (t : Fin (cfgM m hO).N) : Memref sig .tc .vmem S1x1x1024 .f32 := spec0_4.stage ((cfgM m hO).slots t 4)
abbrev st5 (hO : Ok m) (t : Fin (cfgM m hO).N) : Memref sig .tc .vmem S256x1024 .bf16 := spec0_5.stage ((cfgM m hO).slots t 5)

/-- The body as the pipeline calls it at point `t`. -/
abbrev bodyAt (hO : Ok m) (t : Fin (cfgM m hO).N) : Prog (TpuEff nD τ sig (Elt F) Λ₀ .tc) PUnit :=
  cc0_expert_up (grid0.coords t) tabE tabE_whole tabN tabN_whole
    (st0 m hO t) (hstage0_0 (((cfgM m hO).slots t 0).cast nbuf0_0))
    (st1 m hO t) (hstage0_1 (((cfgM m hO).slots t 1).cast nbuf0_1))
    (st2 m hO t) (hstage0_2 (((cfgM m hO).slots t 2).cast nbuf0_2))
    (st3 m hO t) (hstage0_3 (((cfgM m hO).slots t 3).cast nbuf0_3))
    (st4 m hO t) (hstage0_4 (((cfgM m hO).slots t 4).cast nbuf0_4))
    (st5 m hO t) (hstage0_5 (((cfgM m hO).slots t 5).cast nbuf0_5))

/-- What the body holds when a point starts. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))

/-- What the body hands back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t))

/-- The body at any point, between what the pipeline hands it and takes back. -/
theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [rows_at, gate_at, lin_at, gbias_at, lbias_at]
  rw [show (dats m hO 0 c).Φ t.succ = (dats m hO 0 c).Φ t.castSucc from rfl,
    show (dats m hO 0 c).owesAt () t.succ = (dats m hO 0 c).owesAt () t.castSucc from rfl,
    after_rows, after_gate, after_lin, after_gbias, after_lbias, after_out]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t)
    (tbl m 0) (tbl m 1) (used m) rfl Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The bundle of windows is the separate pieces. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of the body, at every point. -/
theorem body_obligation (hO : Ok m) (c : Dev nD) :
    BodyObligation (dats (F := F) m hO 0 c) (defs₀ (F := F)) Variants.none () Set.univ := fun t => by
  rw [bigSep_W0, bigSep_W0, row_eq m hO, out_busy m hO t]
  exact triple_restated (body_sound m hO c t) rfl .rfl fun _ => .rfl

/-! ## The run and the frame -/

set_option backward.isDefEq.respectTransparency.types false in
/-- The launch: every fair execution ends, every array holds what the proof data name, every counter is zero. -/
theorem run (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := upto m Variants.none) (hA := A_eq m hO) (hpf := V_pre m) (hΦ := fun _ _ => rfl)

/-- The arguments end as they were launched, and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (by decide : main_arg0 ∈ Pipeline.restRefs sig spec0)).trans (V_kept m c _ (by decide)),
      ((h.1 c).2 main_arg1 (by decide : main_arg1 ∈ Pipeline.restRefs sig spec0)).trans (V_kept m c _ (by decide)),
      (((h.1 c).1 0).trans ((dats m hO 0 c).arrAt_in 0 rfl _)).trans (V_kept m c main_arg2 (by decide)),
      ((h.1 c).2 main_arg3 (by decide : main_arg3 ∈ Pipeline.restRefs sig spec0)).trans (V_kept m c _ (by decide)),
      ((h.1 c).2 main_arg4 (by decide : main_arg4 ∈ Pipeline.restRefs sig spec0)).trans (V_kept m c _ (by decide))⟩, h.2⟩) (run m ρ hO)

end Cert.UpIdeal.Tiles
-- ==== Proof.UpIdealOk.lean ====
/-
  Under the precondition every block of the up projection lies inside its array: the rows' block is a used tile's,
  the weights' and the biases' are half an expert's, of an expert below 32. The index maps in closed form.
-/
module

public import proofs.«01_k».proof.Defs
public import proofs.«01_k».proof.Proof.UpIdealLaunch
public import proofs.«01_k».proof.Proof.Range
public import Idealize.ShloMosaic.Lib.Affine

@[expose] public section

set_option maxRecDepth 16384

noncomputable section

namespace Cert.UpIdeal.Tiles

open Idealize.ShloMosaic Idealize.ShloMosaic.TcCoe
open Cert.UpIdeal.Gen

variable {F : FTy → Type} [FloatOps F]
variable (m : (ℓ : Loc nD τ sig) → Buf (Elt F) ℓ)

/-- The tables hold experts below 32 and a number of tiles in use that is at least one. -/
structure InRange : Prop where
  expert : ∀ x, (tbl m 0 x : BitVec 32).toNat < 32
  pos : 1 ≤ (used m).toNat
  small : (used m).toNat < 2 ^ 31

/-- The position of a grid point's tile in the table of experts. -/
abbrev tileIx (i : grid0.Coords) : S288.Idx := fun a => match a with | ⟨0, _⟩ => ⟨(i 1).val, (i 1).isLt⟩

/-- The expert of a grid point's tile. -/
def expert (i : grid0.Coords) : ℕ := (tbl m 0 (tileIx i) : BitVec 32).toNat

variable {m}

/-- The rows' block: the tile, or the last one in use. -/
theorem rows_ix (h : InRange m) (i : grid0.Coords) :
    cc0_transform_0 inb_S1_S1_0 numel1_S1 (tbl m) i = ![min (i 1).val ((used m).toNat - 1), 0] := by
  have hi : (i 1).val < 288 := (i 1).isLt
  have e : ((tbl m).at 1 (Rect.unit (s := S1) ![0] S1.size inb_S1_S1_0) numel1_S1 : BitVec 32) = used m :=
    congrArg (tbl m 1) (funext fun a => Fin.ext (by obtain rfl : a = 0 := Subsingleton.elim _ _; rfl) : (_ : S1.Idx) = first)
  unfold cc0_transform_0
  simp only [e, Range.last_or_self _ _ hi h.pos h.small]
  rfl

/-- The word the index maps read of the table of experts. -/
theorem expert_word (i : grid0.Coords) : ((tbl m).at 0 (Rect.unit (s := S288)
      ![(Scalar.indexCast (BitVec.ofNat 32 (i 1).val) : Index).toNat] S1.size (k0_off1_inb i)) numel1_S1 : BitVec 32)
    = tbl m 0 (tileIx i) :=
  congrArg (tbl m 0) (funext fun a => Fin.ext (by
    obtain rfl : a = 0 := Subsingleton.elim _ _
    have hi : (i 1).val < 288 := (i 1).isLt
    show (BitVec.ofNat 32 (i 1).val).toNat + 1 * 0 = (i 1).val
    rw [BitVec.toNat_ofNat]; omega) : (_ : S288.Idx) = tileIx i)

/-- The column half as a word is the half. -/
theorem half_word (i : grid0.Coords) : (BitVec.ofNat 32 (i 0).val).toNat = (i 0).val := by
  have hi : (i 0).val < 2 := (i 0).isLt
  rw [BitVec.toNat_ofNat]; omega

/-- The index the four maps of the weights and the biases compute: the expert, and the half of its columns. -/
theorem part_ix (i : grid0.Coords) (w : BitVec 32) (hw : w = tbl m 0 (tileIx i)) :
    (![w.toNat, 0, (BitVec.ofNat 32 (i 0).val).toNat] : Fin 3 → ℕ) = ![expert m i, 0, (i 0).val] := by
  rw [hw, half_word]; rfl

/-- The gate weights' block, -/
theorem gate_ix (i : grid0.Coords) : cc0_transform_1 k0_off1_inb numel1_S1 (tbl m) i = ![expert m i, 0, (i 0).val] :=
  part_ix i _ (expert_word i)
/-- the linear weights', -/
theorem lin_ix (i : grid0.Coords) : cc0_transform_2 k0_off1_inb numel1_S1 (tbl m) i = ![expert m i, 0, (i 0).val] :=
  part_ix i _ (expert_word i)
/-- the gate bias's, -/
theorem gateb_ix (i : grid0.Coords) : cc0_transform_3 k0_off1_inb numel1_S1 (tbl m) i = ![expert m i, 0, (i 0).val] :=
  part_ix i _ (expert_word i)
/-- and the linear bias's. -/
theorem linb_ix (i : grid0.Coords) : cc0_transform_4 k0_off1_inb numel1_S1 (tbl m) i = ![expert m i, 0, (i 0).val] :=
  part_ix i _ (expert_word i)

/-- Half an expert's matrix lies inside the matrices. -/
theorem mat_inside (e j : ℕ) (he : e < 32) (hj : j < 2) (a : Fin 3) :
    ((![e, 0, j] : Fin 3 → ℕ) a + 1) * S1x2048x1024.size a ≤ S32x2048x2048.size a := by
  match a with
  | ⟨0, _⟩ => show (e + 1) * 1 ≤ 32; omega
  | ⟨1, _⟩ => show (0 + 1) * 2048 ≤ 2048; omega
  | ⟨2, _⟩ => show (j + 1) * 1024 ≤ 2048; omega

/-- Half an expert's bias lies inside the biases. -/
theorem bias_inside (e j : ℕ) (he : e < 32) (hj : j < 2) (a : Fin 3) :
    ((![e, 0, j] : Fin 3 → ℕ) a + 1) * S1x1x1024.size a ≤ S32x1x2048.size a := by
  match a with
  | ⟨0, _⟩ => show (e + 1) * 1 ≤ 32; omega
  | ⟨1, _⟩ => show (0 + 1) * 1 ≤ 1; omega
  | ⟨2, _⟩ => show (j + 1) * 1024 ≤ 2048; omega

/-- Every block lies inside its array, and its transfers move whole words. -/
theorem ok_of_range (h : InRange m) : Ok m := by
  have he : ∀ i : grid0.Coords, expert m i < 32 := fun i => h.expert _
  have hj : ∀ i : grid0.Coords, (i 0).val < 2 := fun i => (i 0).isLt
  refine ⟨fun i => ⟨fun a => ?_, ?_⟩, fun i => ⟨fun a => ?_, ?_⟩, fun i => ⟨fun a => ?_, ?_⟩, fun i => ⟨fun a => ?_, ?_⟩,
    fun i => ⟨fun a => ?_, ?_⟩⟩
  · rw [rows_ix h i]
    have hi : (i 1).val < 288 := (i 1).isLt
    match a with
    | ⟨0, _⟩ => show (min (i 1).val ((used m).toNat - 1) + 1) * 256 ≤ 73728; omega
    | ⟨1, _⟩ => show (0 + 1) * 2048 ≤ 2048; omega
  · exact .inl rfl
  · rw [gate_ix i]; exact mat_inside _ _ (he i) (hj i) a
  · exact .inr (Affine.block_words_dvd (of_decide_eq_true rfl) (by decide))
  · rw [lin_ix i]; exact mat_inside _ _ (he i) (hj i) a
  · exact .inr (Affine.block_words_dvd (of_decide_eq_true rfl) (by decide))
  · rw [gateb_ix i]; exact bias_inside _ _ (he i) (hj i) a
  · exact .inl rfl
  · rw [linb_ix i]; exact bias_inside _ _ (he i) (hj i) a
  · exact .inl rfl

/-- The precondition puts the tables in range. -/
theorem range_of_pre (m : (ℓ : Loc nD τ sig) → Buf (Elt Ideal) ℓ) (h : Cert.Pre_UpIdeal m) : InRange m := by
  obtain ⟨h0, h1⟩ := Range.up _ _ _ _ _ (h 0)
  have e0 : (tbl m 0 : S288.Idx → BitVec 32) = m (((0 : Dev nD).tc : Thread nD τ).loc main_arg0) :=
    V_kept m 0 main_arg0 (by decide)
  have e1 : (tbl m 1 : S1.Idx → BitVec 32) = m (((0 : Dev nD).tc : Thread nD τ).loc main_arg1) :=
    V_kept m 0 main_arg1 (by decide)
  refine ⟨fun x => ?_, ?_, ?_⟩
  · rw [e0]; exact h0 x
  · show 1 ≤ (tbl m 1 first : BitVec 32).toNat
    rw [e1]; exact (h1 first).1
  · show (tbl m 1 first : BitVec 32).toNat < 2 ^ 31
    rw [e1]; exact (h1 first).2

end Cert.UpIdeal.Tiles
-- ==== Proof.UpValue.lean ====
/-
  What the up projection of the experts leaves. An expert's matrix holds the gate's columns at the even places and the
  linear part's at the odd ones; a row `r` of tile `t` times column `q` plus the bias there is `pre r q`. Entry `(r, f)`
  of the result is the gated product of `pre r (2 f)` and `pre r (2 f + 1)` where tile `t` is in use, zero elsewhere.
-/
module

public import proofs.«01_k».proof.Proof.UpIdealOk
public import proofs.«01_k».proof.Proof.Take
public import Idealize.ShloMosaic.Lib.MatmulPlain
public import Idealize.ShloMosaic.Lib.Pipeline.Value
public import Idealize.ShloMosaic.Lib.Pipeline.ReadBack
public import Idealize.ShloMosaic.PureOps.Ideal.Laws

@[expose] public section

set_option maxRecDepth 16384

noncomputable section

namespace Cert.UpIdeal.Tiles

open Idealize.ShloMosaic hiding ix1 ix2 ix3
open Idealize.ShloMosaic.TcCoe Idealize.SL.Sem Idealize.ShloMosaic.ValueIdx
open Cert.UpIdeal.Gen

/-! ## The formula -/

/-- The gate, capped at 7, times its logistic at 1.702 times it, times one more than the linear part clipped to ±7.
    The four numbers are the values of the float literals. -/
def gated (p q : EReal) : EReal :=
  (min p (Ideal.ofBits .f32 0x40E00000#32)
      * Ideal.logistic (Ideal.ofBits .f32 0x3FD9DB23#32 * min p (Ideal.ofBits .f32 0x40E00000#32)))
    * (min (Ideal.ofBits .f32 0x40E00000#32) (max (Ideal.ofBits .f32 0xC0E00000#32) q) + Ideal.ofBits .f32 0x3F800000#32)

/-- Row `a` of tile `t` times column `q` of its expert's matrix, plus the bias there. -/
def pre (be : S288.Idx → BitVec 32) (x : S73728x2048.Idx → EReal) (w : S32x2048x4096.Idx → EReal)
    (b : S32x4096.Idx → EReal) (t : Fin 288) (a : Fin 256) (q : Fin 4096) : EReal :=
  ∑ k : Fin 2048, x (ix2 (⟨256 * t.val + a.val, by omega⟩ : Fin 73728) k) * w (ix3 (Take.pick 32 (by decide) (be (ix1 t))) k q)
    + b (ix2 (Take.pick 32 (by decide) (be (ix1 t))) q)

/-- The gate's column for column `f` of the result, -/
def even (f : Fin 2048) : Fin 4096 := ⟨2 * f.val, by omega⟩
/-- and the linear part's. -/
def odd (f : Fin 2048) : Fin 4096 := ⟨2 * f.val + 1, by omega⟩

/-- The gated products in the tiles that are in use. -/
def outUp (be : S288.Idx → BitVec 32) (n : BitVec 32) (x : S73728x2048.Idx → EReal) (w : S32x2048x4096.Idx → EReal)
    (b : S32x4096.Idx → EReal) (t : Fin 288) (a : Fin 256) (f : Fin 2048) : EReal :=
  if (BitVec.ofNat 32 t.val).slt n = true then gated (pre be x w b t a (even f)) (pre be x w b t a (odd f)) else 0

/-- The same at an index of the result: row `r` lies in tile `r / 256`. -/
def outAt (be : S288.Idx → BitVec 32) (n : BitVec 32) (x : S73728x2048.Idx → EReal) (w : S32x2048x4096.Idx → EReal)
    (b : S32x4096.Idx → EReal) (i : S73728x2048.Idx) : EReal :=
  outUp be n x w b ⟨(i 0).val / 256, by have : (i 0).val < 73728 := (i 0).isLt; omega⟩ ⟨(i 0).val % 256, by omega⟩ (i 1)

/-! ## One tile -/

/-- The product of a tile with half its expert's columns is the plain one. -/
theorem dot_plain : dot_S256x2048_S2048x1024_S256x1024_1_0_0_1_n_n = DotDims.plain 256 2048 1024 := rfl

/-- A block of the weights without its leading axis of one. -/
theorem mat_cast (x1 : Vec Ideal S1x2048x1024 .bf16) (k : Fin 2048) (f : Fin 1024) :
    (shapeCast S2048x1024 x1 shapeCasts_S1x2048x1024_S2048x1024 : Vec Ideal S2048x1024 .bf16) (ix2 k f) = x1 (ix3 (0 : Fin 1) k f) :=
  shapeCast_apply x1 shapeCasts_S1x2048x1024_S2048x1024 (ix2 k f) (ix3 (0 : Fin 1) k f)
    (by rewrite [Shape.rowMajor_val_two, Shape.rowMajor_val_three]; show (0 * 2048 + k.val) * 1024 + f.val = k.val * 1024 + f.val; omega)

/-- A block of a bias without its leading axes, spread over the tile's rows. -/
theorem bias_cast (x2 : Vec Ideal S1x1x1024 .f32) (a : Fin 256) (f : Fin 1024) :
    (broadcastTo S256x1024 (shapeCast S1x1024 x2 shapeCasts_S1x1x1024_S1x1024) broadcasts_S1x1024_S256x1024 : Vec Ideal S256x1024 .f32)
      (ix2 a f) = x2 (ix3 (0 : Fin 1) (0 : Fin 1) f) := by
  refine (broadcastTo_apply _ broadcasts_S1x1024_S256x1024 (ix2 a f) (ix2 (0 : Fin 1) f) (fun b => ?_)).trans ?_
  · match b with
    | ⟨0, _⟩ => show 0 = if (1 : ℕ) = 1 then 0 else _; rw [if_pos rfl]
    | ⟨1, _⟩ => show f.val = if (1024 : ℕ) = 1 then 0 else f.val; rw [if_neg (by decide)]
  · exact shapeCast_apply x2 shapeCasts_S1x1x1024_S1x1024 (ix2 (0 : Fin 1) f) (ix3 (0 : Fin 1) (0 : Fin 1) f)
      (by rewrite [Shape.rowMajor_val_two, Shape.rowMajor_val_three]; show (0 * 1 + 0) * 1024 + f.val = 0 * 1024 + f.val; omega)

/-- A product at a row and a column. -/
theorem product_apply (x0 : FVec Ideal S256x2048 .bf16) (w : FVec Ideal S2048x1024 .bf16) (a : Fin 256) (f : Fin 1024) :
    (matmul dot_S256x2048_S2048x1024_S256x1024_1_0_0_1_n_n none x0 w (constant S256x1024 .f32 0x00000000#32 : FVec Ideal S256x1024 .f32)
      : FVec Ideal S256x1024 .f32) (ix2 a f) = ∑ k : Fin 2048, x0 (ix2 a k) * w (ix2 k f) := by
  show FloatOps.matmul (F := Ideal) _ none _ _ _ (ix2 a f) = _
  rw [dot_plain, Ideal.matmul_plain_apply]
  show Ideal.ofBits .f32 0x00000000#32 + _ = _
  rw [Ideal.ofBits_zero_f32, zero_add]

/-- Rows times a block of weights plus a block of biases, as the tile computes it. -/
def part (x0 : Vec Ideal S256x2048 .f32) (x1 : Vec Ideal S1x2048x1024 .bf16) (x3 : Vec Ideal S1x1x1024 .f32) : FVec Ideal S256x1024 .f32 :=
  addf (matmul dot_S256x2048_S2048x1024_S256x1024_1_0_0_1_n_n none (truncf .bf16 x0 bitsLt_bf16_f32)
      (shapeCast S2048x1024 x1 shapeCasts_S1x2048x1024_S2048x1024 : FVec Ideal S2048x1024 .bf16)
      (constant S256x1024 .f32 0x00000000#32 : FVec Ideal S256x1024 .f32))
    (broadcastTo S256x1024 (shapeCast S1x1024 x3 shapeCasts_S1x1x1024_S1x1024) broadcasts_S1x1024_S256x1024)

/-- The same at a row and a column. -/
theorem part_apply (x0 : Vec Ideal S256x2048 .f32) (x1 : Vec Ideal S1x2048x1024 .bf16) (x3 : Vec Ideal S1x1x1024 .f32)
    (a : Fin 256) (f : Fin 1024) :
    part x0 x1 x3 (ix2 a f) = ∑ k : Fin 2048, (x0 (ix2 a k) : EReal) * x1 (ix3 (0 : Fin 1) k f) + x3 (ix3 (0 : Fin 1) (0 : Fin 1) f) := by
  refine congrArg₂ (fun p q : EReal => p + q) ((product_apply (truncf .bf16 x0 bitsLt_bf16_f32) _ a f).trans ?_) (bias_cast x3 a f)
  exact Finset.sum_congr rfl fun k _ => by rw [mat_cast]; rfl

/-- What a tile in use stores: the gated product of its two parts. -/
theorem pay_apply (x0 : Vec Ideal S256x2048 .f32) (x1 x2 : Vec Ideal S1x2048x1024 .bf16) (x3 x4 : Vec Ideal S1x1x1024 .f32)
    (y : S256x1024.Idx) : k0_pay1 x0 x1 x3 x2 x4 y = gated (part x0 x1 x3 y) (part x0 x2 x4 y) := rfl

/-- The zeros of a tile that is not in use. -/
theorem zero_apply (y : S256x1024.Idx) : (k0_pay2 (F := Ideal)) y = 0 := Ideal.ofBits_zero_bf16

/-- A tile is in use when its number is below the number of tiles in use. -/
theorem cond_iff (i : grid0.Coords) (n : BitVec 32) : k0_cond1 i n = 1#1 ↔ (BitVec.ofNat 32 (i 1).val).slt n = true := by
  simp only [k0_cond1, Scalar.cmpi, IntOp.cmpi]
  cases (BitVec.ofNat 32 (i 1).val).slt n <;> decide

/-! ## What the region finds -/

variable (m : (ℓ : Loc nD τ sig) → Buf (Elt Ideal) ℓ) (ρ : Dev nD → PrngReg)

/-- The arguments: experts, tiles in use, rows, matrices, biases. -/
abbrev argE (c : Dev nD) : S288.Idx → BitVec 32 := m ((c : Thread nD τ).loc main_arg0)
abbrev argN (c : Dev nD) : BitVec 32 := (m ((c : Thread nD τ).loc main_arg1) : S1.Idx → BitVec 32) first
abbrev argX (c : Dev nD) : S73728x2048.Idx → EReal := m ((c : Thread nD τ).loc main_arg2)
abbrev argW (c : Dev nD) : S32x2048x4096.Idx → EReal := m ((c : Thread nD τ).loc main_arg3)
abbrev argB (c : Dev nD) : S32x4096.Idx → EReal := m ((c : Thread nD τ).loc main_arg4)

/-- The tables the region reads are the arguments. -/
theorem table_expert : (tbl m 0 : S288.Idx → BitVec 32) = argE m 0 := V_kept m 0 main_arg0 (by decide)
/-- Likewise the number of tiles in use. -/
theorem table_used : used m = argN m 0 := congrFun (V_kept m 0 main_arg1 (by decide)) first

/-- The even columns of the matrices. -/
theorem even_cols (w : S32x2048x4096.Idx → EReal) (e : Fin 32) (k f : Fin 2048) :
    Host.slice S32x2048x2048 ![0, 0, 0] ![1, 1, 2] w slicesBy_S32x2048x4096_S32x2048x2048_0s1_0s1_0s2 (ix3 e k f) = w (ix3 e k (even f)) := by
  refine congrArg w (funext fun d => Fin.ext ?_)
  match d with
  | ⟨0, _⟩ => show 0 + 1 * e.val = e.val; omega
  | ⟨1, _⟩ => show 0 + 1 * k.val = k.val; omega
  | ⟨2, _⟩ => show 0 + 2 * f.val = 2 * f.val; omega

/-- The odd columns of the matrices. -/
theorem odd_cols (w : S32x2048x4096.Idx → EReal) (e : Fin 32) (k f : Fin 2048) :
    Host.slice S32x2048x2048 ![0, 0, 1] ![1, 1, 2] w slicesBy_S32x2048x4096_S32x2048x2048_0s1_0s1_1s2 (ix3 e k f) = w (ix3 e k (odd f)) := by
  refine congrArg w (funext fun d => Fin.ext ?_)
  match d with
  | ⟨0, _⟩ => show 0 + 1 * e.val = e.val; omega
  | ⟨1, _⟩ => show 0 + 1 * k.val = k.val; omega
  | ⟨2, _⟩ => show 1 + 2 * f.val = 2 * f.val + 1; omega

/-- The even columns of the biases, with an axis of one between. -/
theorem even_bias (b : S32x4096.Idx → EReal) (e : Fin 32) (f : Fin 2048) :
    shapeCast S32x1x2048 (Host.slice S32x2048 ![0, 0] ![1, 2] b slicesBy_S32x4096_S32x2048_0s1_0s2) shapeCasts_S32x2048_S32x1x2048
      (ix3 e (0 : Fin 1) f) = b (ix2 e (even f)) := by
  refine (shapeCast_apply _ shapeCasts_S32x2048_S32x1x2048 (ix3 e (0 : Fin 1) f) (ix2 e f)
      (by rewrite [Shape.rowMajor_val_two, Shape.rowMajor_val_three]; show e.val * 2048 + f.val = (e.val * 1 + 0) * 2048 + f.val; omega)).trans ?_
  refine congrArg b (funext fun d => Fin.ext ?_)
  match d with
  | ⟨0, _⟩ => show 0 + 1 * e.val = e.val; omega
  | ⟨1, _⟩ => show 0 + 2 * f.val = 2 * f.val; omega

/-- The odd columns of the biases, with an axis of one between. -/
theorem odd_bias (b : S32x4096.Idx → EReal) (e : Fin 32) (f : Fin 2048) :
    shapeCast S32x1x2048 (Host.slice S32x2048 ![0, 1] ![1, 2] b slicesBy_S32x4096_S32x2048_0s1_1s2) shapeCasts_S32x2048_S32x1x2048
      (ix3 e (0 : Fin 1) f) = b (ix2 e (odd f)) := by
  refine (shapeCast_apply _ shapeCasts_S32x2048_S32x1x2048 (ix3 e (0 : Fin 1) f) (ix2 e f)
      (by rewrite [Shape.rowMajor_val_two, Shape.rowMajor_val_three]; show e.val * 2048 + f.val = (e.val * 1 + 0) * 2048 + f.val; omega)).trans ?_
  refine congrArg b (funext fun d => Fin.ext ?_)
  match d with
  | ⟨0, _⟩ => show 0 + 1 * e.val = e.val; omega
  | ⟨1, _⟩ => show 1 + 2 * f.val = 2 * f.val + 1; omega

/-- The gate's matrices the region finds are the even columns: the host's rounding is exact here. -/
theorem found_gate (c : Dev nD) : (V m c main_v1 : S32x2048x2048.Idx → EReal)
    = Host.slice S32x2048x2048 ![0, 0, 0] ![1, 1, 2] (argW m c) slicesBy_S32x2048x4096_S32x2048x2048_0s1_0s1_0s2 := by
  show StableHlo.after _ _ _ = _
  after_results
  rfl

/-- The linear part's are the odd columns. -/
theorem found_lin (c : Dev nD) : (V m c main_v3 : S32x2048x2048.Idx → EReal)
    = Host.slice S32x2048x2048 ![0, 0, 1] ![1, 1, 2] (argW m c) slicesBy_S32x2048x4096_S32x2048x2048_0s1_0s1_1s2 := by
  show StableHlo.after _ _ _ = _
  after_results
  rfl

/-- Likewise the gate's biases, -/
theorem found_gateb (c : Dev nD) : (V m c main_v5 : S32x1x2048.Idx → EReal)
    = shapeCast S32x1x2048 (Host.slice S32x2048 ![0, 0] ![1, 2] (argB m c) slicesBy_S32x4096_S32x2048_0s1_0s2) shapeCasts_S32x2048_S32x1x2048 := by
  show StableHlo.after _ _ _ = _
  after_results
  rfl

/-- and the linear part's. -/
theorem found_linb (c : Dev nD) : (V m c main_v7 : S32x1x2048.Idx → EReal)
    = shapeCast S32x1x2048 (Host.slice S32x2048 ![0, 1] ![1, 2] (argB m c) slicesBy_S32x4096_S32x2048_0s1_1s2) shapeCasts_S32x2048_S32x1x2048 := by
  show StableHlo.after _ _ _ = _
  after_results
  rfl

/-! ## The blocks of a point -/

/-- A grid point is a half of the columns and a tile. -/
theorem coord : ∀ t : Fin grid0.N, t.val = 288 * (grid0.coords t 0).val + (grid0.coords t 1).val := by decide +kernel

variable {m}

set_option maxHeartbeats 1000000 in
/-- The rows' block, where the tile is in use. -/
theorem blk_rows (hO : Ok m) (h : InRange m) (c : Dev nD) (t : Fin (cfgM m hO).N) (T : Fin 288) (hT : (grid0.coords t 1).val = T.val)
    (hu : T.val < (used m).toNat) (a : Fin 256) (k : Fin 2048) :
    (iblk m hO c 0 t : Vec Ideal S256x2048 .f32) (ix2 a k) = argX m c (ix2 (⟨256 * T.val + a.val, by omega⟩ : Fin 73728) k) := by
  refine Eq.trans (b := (V m c main_arg2 : S73728x2048.Idx → EReal) (ix2 (⟨256 * T.val + a.val, by omega⟩ : Fin 73728) k)) ?_
    (congrFun (V_kept m c main_arg2 (by decide)) _)
  refine congrArg (V m c main_arg2 : S73728x2048.Idx → EReal) (funext fun b => Fin.ext ?_)
  match b with
  | ⟨0, _⟩ =>
    show cc0_transform_0 inb_S1_S1_0 numel1_S1 (tbl m) (grid0.coords t) 0 * 256 + 1 * a.val = 256 * T.val + a.val
    rw [rows_ix h]
    show min (grid0.coords t 1).val ((used m).toNat - 1) * 256 + 1 * a.val = _
    rw [hT]; omega
  | ⟨1, _⟩ =>
    show cc0_transform_0 inb_S1_S1_0 numel1_S1 (tbl m) (grid0.coords t) 1 * 2048 + 1 * k.val = k.val
    rw [rows_ix h]
    show 0 * 2048 + 1 * k.val = _; omega

/-- The point's expert. -/
theorem expert_pick (h : InRange m) (i : grid0.Coords) (T : Fin 288) (hT : (i 1).val = T.val) :
    expert m i = (Take.pick 32 (by decide) (argE m 0 (ix1 T))).val := by
  have e : tileIx i = ix1 T := funext fun a => Fin.ext (by obtain rfl : a = 0 := Subsingleton.elim _ _; exact hT)
  unfold expert
  rw [Take.pick_of_lt 32 (by decide) _ (by rw [← table_expert]; exact h.expert _) (by decide), e, table_expert]

/-- The column of the result that column `f` of half `H` is. -/
def column (H : Fin 2) (f : Fin 1024) : Fin 2048 := ⟨1024 * H.val + f.val, by omega⟩

/-- The gate's block of weights. -/
theorem blk_gate (hO : Ok m) (h : InRange m) (c : Dev nD) (t : Fin (cfgM m hO).N) (H : Fin 2) (hH : (grid0.coords t 0).val = H.val)
    (T : Fin 288) (hT : (grid0.coords t 1).val = T.val) (k : Fin 2048) (f : Fin 1024) :
    (iblk m hO c 1 t : Vec Ideal S1x2048x1024 .bf16) (ix3 (0 : Fin 1) k f)
      = argW m c (ix3 (Take.pick 32 (by decide) (argE m 0 (ix1 T))) k (even (column H f))) := by
  refine Eq.trans (b := (V m c main_v1 : S32x2048x2048.Idx → EReal) (ix3 (Take.pick 32 (by decide) (argE m 0 (ix1 T))) k (column H f))) ?_
    ((congrFun (found_gate m c) _).trans (even_cols _ _ _ _))
  refine congrArg (V m c main_v1 : S32x2048x2048.Idx → EReal) (funext fun b => Fin.ext ?_)
  match b with
  | ⟨0, _⟩ =>
    show cc0_transform_1 k0_off1_inb numel1_S1 (tbl m) (grid0.coords t) 0 * 1 + 1 * 0 = _
    rw [gate_ix]
    show expert m (grid0.coords t) * 1 + 1 * 0 = (Take.pick 32 (by decide) (argE m 0 (ix1 T))).val
    rw [expert_pick h _ T hT]; omega
  | ⟨1, _⟩ =>
    show cc0_transform_1 k0_off1_inb numel1_S1 (tbl m) (grid0.coords t) 1 * 2048 + 1 * k.val = k.val
    rw [gate_ix]
    show 0 * 2048 + 1 * k.val = _; omega
  | ⟨2, _⟩ =>
    show cc0_transform_1 k0_off1_inb numel1_S1 (tbl m) (grid0.coords t) 2 * 1024 + 1 * f.val = 1024 * H.val + f.val
    rw [gate_ix]
    show (grid0.coords t 0).val * 1024 + 1 * f.val = _
    rw [hH]; omega

/-- The linear part's block of weights. -/
theorem blk_lin (hO : Ok m) (h : InRange m) (c : Dev nD) (t : Fin (cfgM m hO).N) (H : Fin 2) (hH : (grid0.coords t 0).val = H.val)
    (T : Fin 288) (hT : (grid0.coords t 1).val = T.val) (k : Fin 2048) (f : Fin 1024) :
    (iblk m hO c 2 t : Vec Ideal S1x2048x1024 .bf16) (ix3 (0 : Fin 1) k f)
      = argW m c (ix3 (Take.pick 32 (by decide) (argE m 0 (ix1 T))) k (odd (column H f))) := by
  refine Eq.trans (b := (V m c main_v3 : S32x2048x2048.Idx → EReal) (ix3 (Take.pick 32 (by decide) (argE m 0 (ix1 T))) k (column H f))) ?_
    ((congrFun (found_lin m c) _).trans (odd_cols _ _ _ _))
  refine congrArg (V m c main_v3 : S32x2048x2048.Idx → EReal) (funext fun b => Fin.ext ?_)
  match b with
  | ⟨0, _⟩ =>
    show cc0_transform_2 k0_off1_inb numel1_S1 (tbl m) (grid0.coords t) 0 * 1 + 1 * 0 = _
    rw [lin_ix]
    show expert m (grid0.coords t) * 1 + 1 * 0 = (Take.pick 32 (by decide) (argE m 0 (ix1 T))).val
    rw [expert_pick h _ T hT]; omega
  | ⟨1, _⟩ =>
    show cc0_transform_2 k0_off1_inb numel1_S1 (tbl m) (grid0.coords t) 1 * 2048 + 1 * k.val = k.val
    rw [lin_ix]
    show 0 * 2048 + 1 * k.val = _; omega
  | ⟨2, _⟩ =>
    show cc0_transform_2 k0_off1_inb numel1_S1 (tbl m) (grid0.coords t) 2 * 1024 + 1 * f.val = 1024 * H.val + f.val
    rw [lin_ix]
    show (grid0.coords t 0).val * 1024 + 1 * f.val = _
    rw [hH]; omega

/-- The gate's block of biases. -/
theorem blk_gateb (hO : Ok m) (h : InRange m) (c : Dev nD) (t : Fin (cfgM m hO).N) (H : Fin 2) (hH : (grid0.coords t 0).val = H.val)
    (T : Fin 288) (hT : (grid0.coords t 1).val = T.val) (f : Fin 1024) :
    (iblk m hO c 3 t : Vec Ideal S1x1x1024 .f32) (ix3 (0 : Fin 1) (0 : Fin 1) f)
      = argB m c (ix2 (Take.pick 32 (by decide) (argE m 0 (ix1 T))) (even (column H f))) := by
  refine Eq.trans (b := (V m c main_v5 : S32x1x2048.Idx → EReal) (ix3 (Take.pick 32 (by decide) (argE m 0 (ix1 T))) (0 : Fin 1) (column H f))) ?_
    ((congrFun (found_gateb m c) _).trans (even_bias _ _ _))
  refine congrArg (V m c main_v5 : S32x1x2048.Idx → EReal) (funext fun b => Fin.ext ?_)
  match b with
  | ⟨0, _⟩ =>
    show cc0_transform_3 k0_off1_inb numel1_S1 (tbl m) (grid0.coords t) 0 * 1 + 1 * 0 = _
    rw [gateb_ix]
    show expert m (grid0.coords t) * 1 + 1 * 0 = (Take.pick 32 (by decide) (argE m 0 (ix1 T))).val
    rw [expert_pick h _ T hT]; omega
  | ⟨1, _⟩ =>
    show cc0_transform_3 k0_off1_inb numel1_S1 (tbl m) (grid0.coords t) 1 * 1 + 1 * 0 = 0
    rw [gateb_ix]
    rfl
  | ⟨2, _⟩ =>
    show cc0_transform_3 k0_off1_inb numel1_S1 (tbl m) (grid0.coords t) 2 * 1024 + 1 * f.val = 1024 * H.val + f.val
    rw [gateb_ix]
    show (grid0.coords t 0).val * 1024 + 1 * f.val = _
    rw [hH]; omega

/-- The linear part's block of biases. -/
theorem blk_linb (hO : Ok m) (h : InRange m) (c : Dev nD) (t : Fin (cfgM m hO).N) (H : Fin 2) (hH : (grid0.coords t 0).val = H.val)
    (T : Fin 288) (hT : (grid0.coords t 1).val = T.val) (f : Fin 1024) :
    (iblk m hO c 4 t : Vec Ideal S1x1x1024 .f32) (ix3 (0 : Fin 1) (0 : Fin 1) f)
      = argB m c (ix2 (Take.pick 32 (by decide) (argE m 0 (ix1 T))) (odd (column H f))) := by
  refine Eq.trans (b := (V m c main_v7 : S32x1x2048.Idx → EReal) (ix3 (Take.pick 32 (by decide) (argE m 0 (ix1 T))) (0 : Fin 1) (column H f))) ?_
    ((congrFun (found_linb m c) _).trans (odd_bias _ _ _))
  refine congrArg (V m c main_v7 : S32x1x2048.Idx → EReal) (funext fun b => Fin.ext ?_)
  match b with
  | ⟨0, _⟩ =>
    show cc0_transform_4 k0_off1_inb numel1_S1 (tbl m) (grid0.coords t) 0 * 1 + 1 * 0 = _
    rw [linb_ix]
    show expert m (grid0.coords t) * 1 + 1 * 0 = (Take.pick 32 (by decide) (argE m 0 (ix1 T))).val
    rw [expert_pick h _ T hT]; omega
  | ⟨1, _⟩ =>
    show cc0_transform_4 k0_off1_inb numel1_S1 (tbl m) (grid0.coords t) 1 * 1 + 1 * 0 = 0
    rw [linb_ix]
    rfl
  | ⟨2, _⟩ =>
    show cc0_transform_4 k0_off1_inb numel1_S1 (tbl m) (grid0.coords t) 2 * 1024 + 1 * f.val = 1024 * H.val + f.val
    rw [linb_ix]
    show (grid0.coords t 0).val * 1024 + 1 * f.val = _
    rw [hH]; omega

/-- A tile number below the word of tiles in use is below its value. -/
theorem lt_of_slt (k : ℕ) (n : BitVec 32) (hk : k < 288) (hn : n.toNat < 2 ^ 31) : (BitVec.ofNat 32 k).slt n = true ↔ k < n.toNat := by
  simp only [BitVec.slt, BitVec.toInt_eq_toNat_cond, BitVec.toNat_ofNat, decide_eq_true_eq]
  rw [if_pos (by omega), if_pos (by omega)]
  omega

/-- What a point leaves in its block of the result. -/
theorem tile_at (hO : Ok m) (h : InRange m) (c : Dev nD) (t : Fin (cfgM m hO).N) (H : Fin 2) (hH : (grid0.coords t 0).val = H.val)
    (T : Fin 288) (hT : (grid0.coords t 1).val = T.val) (a : Fin 256) (f : Fin 1024) :
    (tile (grid0.coords t) (used m) (iblk m hO c 0 t) (iblk m hO c 1 t) (iblk m hO c 2 t) (iblk m hO c 3 t) (iblk m hO c 4 t)
        : Vec Ideal S256x1024 .bf16) (ix2 a f)
      = outUp (argE m 0) (argN m 0) (argX m c) (argW m c) (argB m c) T a (column H f) := by
  unfold tile outUp
  rw [← table_used]
  by_cases hc : (BitVec.ofNat 32 T.val).slt (used m) = true
  · rw [if_pos ((cond_iff _ _).mpr (by rw [hT]; exact hc)), if_pos hc]
    have hx := blk_rows hO h c t T hT ((lt_of_slt _ _ T.isLt h.small).mp hc) a
    refine (pay_apply _ _ _ _ _ (ix2 a f)).trans (congrArg₂ gated ((part_apply _ _ _ a f).trans ?_) ((part_apply _ _ _ a f).trans ?_))
    · exact congrArg₂ (fun p q : EReal => p + q)
        (Finset.sum_congr rfl fun k _ => congrArg₂ (fun p q : EReal => p * q) (hx k) (blk_gate hO h c t H hH T hT k f))
        (blk_gateb hO h c t H hH T hT f)
    · exact congrArg₂ (fun p q : EReal => p + q)
        (Finset.sum_congr rfl fun k _ => congrArg₂ (fun p q : EReal => p * q) (hx k) (blk_lin hO h c t H hH T hT k f))
        (blk_linb hO h c t H hH T hT f)
  · rw [if_neg (fun h' => hc (by have := (cond_iff _ _).mp h'; rwa [hT] at this)), if_neg hc]
    exact zero_apply _

/-! ## The whole result -/

/-- Every point writes its block back, and the blocks make up the result. -/
theorem out_flush (hO : Ok m) (t : Fin (cfgM m hO).N) : ((cfgM m hO).win (5 : Fin 6)).flush t = true := by
  rw [Pipeline.Window.flush_eq_flushOf]
  exact (Pipeline.Window.flushOf_reads (G := grid0) cc0_transform_5 reads0_5 hreads0_5 1 (by decide) (by decide)
    (Pipeline.Window.sep_of_coord cc0_transform_5 1 0 (fun _ => rfl) (by decide)) (P := 1) (m := 0) (by decide) rfl t).mpr (Nat.mod_one _)

/-- The block written at a point holds its tile's rows, its half of the columns. -/
theorem out_index (hO : Ok m) (t : Fin (cfgM m hO).N) :
    ((cfgM m hO).win (5 : Fin 6)).index t = ![(grid0.coords t 1).val, (grid0.coords t 0).val] := by
  have ht : (grid0.coords t 1).val < 288 := (grid0.coords t 1).isLt
  show cc0_transform_5 (grid0.coords t) = _
  show ![(BitVec.ofNat 32 (grid0.coords t 1).val).toNat, (BitVec.ofNat 32 (grid0.coords t 0).val).toNat] = _
  rw [half_word, BitVec.toNat_ofNat, Nat.mod_eq_of_lt (by omega)]

/-- The blocks cover the result. -/
theorem out_covers (hO : Ok m) : ((cfgM m hO).win (5 : Fin 6)).Covers := by
  refine ⟨(by decide : ∀ a : Fin 2, 0 < S256x1024.size a), fun β => ?_⟩
  have hβ : (β (0 : Fin 2)).val < 288 := lt_of_lt_of_eq (β (0 : Fin 2)).isLt (by show (73728 + 256 - 1) / 256 = 288; omega)
  have hβ1 : (β (1 : Fin 2)).val < 2 := lt_of_lt_of_eq (β (1 : Fin 2)).isLt (by show (2048 + 1024 - 1) / 1024 = 2; omega)
  have hn : 288 * (β (1 : Fin 2)).val + (β (0 : Fin 2)).val < 576 := by omega
  refine ⟨(⟨288 * (β (1 : Fin 2)).val + (β (0 : Fin 2)).val, lt_of_lt_of_eq hn (N_0.symm)⟩ : Fin grid0.N), out_flush hO _, fun a => ⟨?_, .inl ?_⟩⟩
  · rw [out_index]
    have hc := coord (⟨288 * (β (1 : Fin 2)).val + (β (0 : Fin 2)).val, lt_of_lt_of_eq hn (N_0.symm)⟩ : Fin grid0.N)
    have h0 : (grid0.coords (⟨288 * (β (1 : Fin 2)).val + (β (0 : Fin 2)).val, lt_of_lt_of_eq hn (N_0.symm)⟩ : Fin grid0.N) 0).val < 2 := Fin.isLt _
    have h1 : (grid0.coords (⟨288 * (β (1 : Fin 2)).val + (β (0 : Fin 2)).val, lt_of_lt_of_eq hn (N_0.symm)⟩ : Fin grid0.N) 1).val < 288 := Fin.isLt _
    replace hc : 288 * (β (1 : Fin 2)).val + (β (0 : Fin 2)).val = _ := hc
    match a with
    | ⟨0, _⟩ =>
      show (grid0.coords (⟨288 * (β (1 : Fin 2)).val + (β (0 : Fin 2)).val, lt_of_lt_of_eq hn (N_0.symm)⟩ : Fin grid0.N) 1).val = (β (0 : Fin 2)).val
      omega
    | ⟨1, _⟩ =>
      show (grid0.coords (⟨288 * (β (1 : Fin 2)).val + (β (0 : Fin 2)).val, lt_of_lt_of_eq hn (N_0.symm)⟩ : Fin grid0.N) 0).val = (β (1 : Fin 2)).val
      omega
  · rfl

set_option maxHeartbeats 2000000 in
/-- THE RESULT AFTER THE RUN. -/
theorem arr_out (hO : Ok m) (h : InRange m) (c : Dev nD) : (dats m hO 0 c).arrAt (5 : Fin 6) (cfgM m hO).N
    = outAt (argE m 0) (argN m 0) (argX m c) (argW m c) (argB m c) := by
  refine (dats m hO 0 c).arrAt_eq_of_covers (5 : Fin 6) _ (out_covers hO) fun t hf y => ?_
  have hT : (grid0.coords t 1).val < 288 := (grid0.coords t 1).isLt
  have hH : (grid0.coords t 0).val < 2 := (grid0.coords t 0).isLt
  have hy0 : ((y (0 : Fin 2)) : ℕ) < 256 := (y (0 : Fin 2)).isLt
  have hy1 : ((y (1 : Fin 2)) : ℕ) < 1024 := (y (1 : Fin 2)).isLt
  rw [after_out]
  refine Eq.trans ?_ ((tile_at hO h c t ⟨(grid0.coords t 0).val, hH⟩ rfl ⟨(grid0.coords t 1).val, hT⟩ rfl
    ⟨(y (0 : Fin 2)).val, hy0⟩ ⟨(y (1 : Fin 2)).val, hy1⟩).trans ?_)
  · refine congrArg (tile (grid0.coords t) (used m) (iblk m hO c 0 t) (iblk m hO c 1 t) (iblk m hO c 2 t) (iblk m hO c 3 t)
      (iblk m hO c 4 t) : Vec Ideal S256x1024 .bf16) (funext fun b => Fin.ext ?_)
    match b with
    | ⟨0, _⟩ => rfl
    | ⟨1, _⟩ => rfl
  · have e0 : ((((cfgM m hO).win (5 : Fin 6)).blk t).view.emb y (0 : Fin 2)).val = 256 * (grid0.coords t 1).val + (y (0 : Fin 2)).val := by
      show ((cfgM m hO).win (5 : Fin 6)).index t (0 : Fin 2) * 256 + 1 * (y (0 : Fin 2)).val = _
      rw [out_index]
      show (grid0.coords t 1).val * 256 + 1 * (y (0 : Fin 2)).val = _; omega
    have e1 : ((((cfgM m hO).win (5 : Fin 6)).blk t).view.emb y (1 : Fin 2)).val = 1024 * (grid0.coords t 0).val + (y (1 : Fin 2)).val := by
      show ((cfgM m hO).win (5 : Fin 6)).index t (1 : Fin 2) * 1024 + 1 * (y (1 : Fin 2)).val = _
      rw [out_index]
      show (grid0.coords t 0).val * 1024 + 1 * (y (1 : Fin 2)).val = _; omega
    unfold outAt
    have r0 : (⟨((((cfgM m hO).win (5 : Fin 6)).blk t).view.emb y (0 : Fin 2)).val / 256, by rw [e0]; omega⟩ : Fin 288) = ⟨(grid0.coords t 1).val, hT⟩ :=
      Fin.ext (by show _ / 256 = (grid0.coords t 1).val; rw [e0]; omega)
    have r1 : (⟨((((cfgM m hO).win (5 : Fin 6)).blk t).view.emb y (0 : Fin 2)).val % 256, by omega⟩ : Fin 256) = ⟨(y (0 : Fin 2)).val, hy0⟩ :=
      Fin.ext (by show _ % 256 = (y (0 : Fin 2)).val; rw [e0]; omega)
    have r2 : (((cfgM m hO).win (5 : Fin 6)).blk t).view.emb y (1 : Fin 2)
        = column ⟨(grid0.coords t 0).val, hH⟩ ⟨(y (1 : Fin 2)).val, hy1⟩ := Fin.ext e1
    exact ((congrArg₂ (fun T a => outUp (argE m 0) (argN m 0) (argX m c) (argW m c) (argB m c) T a _) r0 r1).trans
      (congrArg (outUp (argE m 0) (argN m 0) (argX m c) (argW m c) (argB m c) _ _) r2)).symm

/-- The kernel's run: the result is the gated projection of the arguments, which are unchanged. -/
theorem run_value (h : InRange m) : θ_run defs (onTc (τ := τ) (main (F := Ideal))) ⟨m, fun _ => 0, ρ⟩ fun r => ∀ c : Dev nD,
      r.2.mem ((c.tc : Thread nD τ).loc main_v8) = outAt (argE m 0) (argN m 0) (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hO := ok_of_range h
  exact (θ_run defs _ _).mono (fun r h' c =>
    ⟨((h'.1 c).1 5).trans (arr_out hO h c),
      ((h'.1 c).2 main_arg0 (by decide : main_arg0 ∈ Pipeline.restRefs sig spec0)).trans (V_kept m c _ (by decide)),
      ((h'.1 c).2 main_arg1 (by decide : main_arg1 ∈ Pipeline.restRefs sig spec0)).trans (V_kept m c _ (by decide)),
      (((h'.1 c).1 0).trans ((dats m hO 0 c).arrAt_in 0 rfl _)).trans (V_kept m c main_arg2 (by decide)),
      ((h'.1 c).2 main_arg3 (by decide : main_arg3 ∈ Pipeline.restRefs sig spec0)).trans (V_kept m c _ (by decide)),
      ((h'.1 c).2 main_arg4 (by decide : main_arg4 ∈ Pipeline.restRefs sig spec0)).trans (V_kept m c _ (by decide))⟩) (run m ρ hO)

end Cert.UpIdeal.Tiles

end
-- ==== Proof.UpRef.lean ====
/-
  What the reference's plain up projection computes, element by element: the same formula of the same arguments.
-/
module

public import proofs.«01_k».proof.Proof.UpValue
public import proofs.«01_k».proof.Proof.Gen.UpRefIdeal.Run
public import proofs.«01_k».proof.Proof.Gen.UpRefIdeal.Read
public import Idealize.ShloMosaic.Lib.IdealHost

@[expose] public section

set_option maxRecDepth 16384

noncomputable section

namespace Cert.UpRef

open Idealize.ShloMosaic hiding ix1 ix2 ix3
open Idealize.ShloMosaic.TcCoe Idealize.SL.Sem Idealize.ShloMosaic.ValueIdx
open Cert.UpRefIdeal Cert.UpRefIdeal.Gen Cert.UpRefIdeal.Read
open Cert.UpIdeal.Tiles (gated pre even odd)

variable (be : S288.Idx → BitVec 32) (nu : S1.Idx → BitVec 32) (x : S73728x2048.Idx → EReal) (w : S32x2048x4096.Idx → EReal)
  (b : S32x4096.Idx → EReal)

/-- The table of experts as the two reads take it: an entry in range is itself. -/
theorem table_at (h : ∀ i, (be i).toNat < 32) (t : Fin 288) :
    val_main_v6 (F := Ideal) be (ix2 t (0 : Fin 1)) = be (ix1 t) ∧ val_main_v14 (F := Ideal) be (ix2 t (0 : Fin 1)) = be (ix1 t) := by
  have e : idx_main_v6 (ix2 t (0 : Fin 1)) = ix1 t := funext fun a => match a with | ⟨0, _⟩ => rfl
  have e' : idx_main_v14 (ix2 t (0 : Fin 1)) = ix1 t := funext fun a => match a with | ⟨0, _⟩ => rfl
  have hw := Take.wrap (be (ix1 t)) 32#32 (by have := h (ix1 t); omega)
  constructor
  · rw [val_main_v6_apply, e, val_main_v5_apply, val_main_v2_apply, val_main_v4_apply, val_main_v1_apply, val_main_v3_apply,
      val_main_c_apply, val_main_c_0_apply]
    exact hw
  · rw [val_main_v14_apply, e', val_main_v13_apply, val_main_v10_apply, val_main_v12_apply, val_main_v9_apply, val_main_v11_apply,
      val_main_c_1_apply, val_main_c_2_apply]
    exact hw

/-- The matrices taken by the table. -/
theorem mat_at (h : ∀ i, (be i).toNat < 32) (t : Fin 288) (k : Fin 2048) (q : Fin 4096) :
    val_main_v7 (F := Ideal) be w (ix3 t k q) = w (ix3 (Take.pick 32 (by decide) (be (ix1 t))) k q) := by
  refine (Take.mat_apply (N := 32) (R := 2048) (C := 4096) (T := 288) (by decide)
    gather_S32x2048x4096_S288x1_S288x2048x4096_12_0_n_n_0_1_120484096_wf w (val_main_v6 (F := Ideal) be) t k q).trans ?_
  rw [(table_at be h t).1]

/-- The biases taken by the table. -/
theorem bias_at (h : ∀ i, (be i).toNat < 32) (t : Fin 288) (q : Fin 4096) :
    val_main_v15 (F := Ideal) be b (ix2 t q) = b (ix2 (Take.pick 32 (by decide) (be (ix1 t))) q) := by
  refine (Take.vec_apply (N := 32) (C := 4096) (T := 288) (by decide)
    gather_S32x4096_S288x1_S288x4096_1_0_n_n_0_1_14096_wf b (val_main_v14 (F := Ideal) be) t q).trans ?_
  rw [(table_at be h t).2]

/-- The rows, regrouped by tile. -/
theorem rows_at (t : Fin 288) (a : Fin 256) (k : Fin 2048) :
    val_main_v0 (F := Ideal) x (ix3 t a k) = x (ix2 (⟨256 * t.val + a.val, by omega⟩ : Fin 73728) k) := by
  rw [val_main_v0_apply]
  refine congrArg x (funext fun d => Fin.ext ?_)
  match d with
  | ⟨0, _⟩ => show ((t.val * 256 + a.val) * 2048 + k.val) / 2048 = 256 * t.val + a.val; omega
  | ⟨1, _⟩ => show ((t.val * 256 + a.val) * 2048 + k.val) % 2048 = k.val; omega

/-- Where the product reads its rows, -/
theorem left_ix (t : Fin 288) (a : Fin 256) (q : Fin 4096) (k : Fin 2048) : lidx_main_v8 (ix3 t a q) k = ix3 t a k := by
  funext d; match d with | ⟨0, _⟩ => rfl | ⟨1, _⟩ => rfl | ⟨2, _⟩ => rfl
/-- its matrix, -/
theorem right_ix (t : Fin 288) (a : Fin 256) (q : Fin 4096) (k : Fin 2048) : ridx_main_v8 (ix3 t a q) k = ix3 t k q := by
  funext d; match d with | ⟨0, _⟩ => rfl | ⟨1, _⟩ => rfl | ⟨2, _⟩ => rfl
/-- and where the sum reads its bias. -/
theorem bias_ix (t : Fin 288) (a : Fin 256) (q : Fin 4096) : idx_main_v16 (idx_main_v17 (ix3 t a q)) = ix2 t q := by
  funext d; match d with | ⟨0, _⟩ => rfl | ⟨1, _⟩ => rfl

/-- Products with the bias, both parts interleaved. -/
theorem sum_at (h : ∀ i, (be i).toNat < 32) (t : Fin 288) (a : Fin 256) (q : Fin 4096) :
    val_main_v18 (F := Ideal) be x w b (ix3 t a q) = pre be x w b t a q := by
  rw [val_main_v18_apply, val_main_v8_apply, val_main_v17_apply, val_main_v16_apply, bias_ix, bias_at be b h]
  refine congrArg (fun p : EReal => p + _) (Finset.sum_congr rfl fun k _ => ?_)
  rw [left_ix, right_ix, rows_at, mat_at be w h]

/-- The gate is the even columns. -/
theorem gate_at (h : ∀ i, (be i).toNat < 32) (t : Fin 288) (a : Fin 256) (f : Fin 2048) :
    val_main_v19 (F := Ideal) be x w b (ix3 t a f) = pre be x w b t a (even f) := by
  refine Eq.trans ?_ (sum_at be x w b h t a (even f))
  unfold val_main_v19
  generalize val_main_v18 (F := Ideal) be x w b = y
  refine congrArg y (funext fun d => Fin.ext ?_)
  match d with
  | ⟨0, _⟩ => show 0 + 1 * t.val = t.val; omega
  | ⟨1, _⟩ => show 0 + 1 * a.val = a.val; omega
  | ⟨2, _⟩ => show 0 + 2 * f.val = 2 * f.val; omega

/-- The linear part is the odd columns. -/
theorem lin_at (h : ∀ i, (be i).toNat < 32) (t : Fin 288) (a : Fin 256) (f : Fin 2048) :
    val_main_v22 (F := Ideal) be x w b (ix3 t a f) = pre be x w b t a (odd f) := by
  refine Eq.trans ?_ (sum_at be x w b h t a (odd f))
  unfold val_main_v22
  generalize val_main_v18 (F := Ideal) be x w b = y
  refine congrArg y (funext fun d => Fin.ext ?_)
  match d with
  | ⟨0, _⟩ => show 0 + 1 * t.val = t.val; omega
  | ⟨1, _⟩ => show 0 + 1 * a.val = a.val; omega
  | ⟨2, _⟩ => show 1 + 2 * f.val = 2 * f.val + 1; omega

/-- The capped gate. -/
theorem capped_at (h : ∀ i, (be i).toNat < 32) (t : Fin 288) (a : Fin 256) (f : Fin 2048) :
    val_main_v21 (F := Ideal) be x w b (ix3 t a f) = min (pre be x w b t a (even f)) (Ideal.ofBits .f32 0x40E00000#32) := by
  rw [val_main_v21_apply, gate_at be x w b h, val_main_v20_apply, val_main_cst_apply]
  rfl

/-- Its logistic, spelt with the exponential. -/
theorem logistic_at (h : ∀ i, (be i).toNat < 32) (t : Fin 288) (a : Fin 256) (f : Fin 2048) :
    val_main_v31 (F := Ideal) be x w b (ix3 t a f)
      = Ideal.logistic (Ideal.ofBits .f32 0x3FD9DB23#32 * min (pre be x w b t a (even f)) (Ideal.ofBits .f32 0x40E00000#32)) := by
  rw [val_main_v31_apply, val_main_v30_apply, val_main_cst_7_apply, val_main_v29_apply, val_main_v28_apply, val_main_cst_6_apply,
    val_main_v27_apply, val_main_v26_apply, val_main_v25_apply, val_main_v24_apply, val_main_cst_5_apply, capped_at be x w b h]
  generalize min (pre be x w b t a (even f)) _ = g
  show Ideal.div (Ideal.ofBits .f32 0x3F800000#32) (Ideal.ofBits .f32 0x3F800000#32 + Ideal.exp (-(Ideal.ofBits .f32 0x3FD9DB23#32 * g))) = _
  rw [Ideal.ofBits_one_f32]
  rfl

/-- The gated product. -/
theorem gated_at (h : ∀ i, (be i).toNat < 32) (t : Fin 288) (a : Fin 256) (f : Fin 2048) :
    val_main_v35 (F := Ideal) be x w b (ix3 t a f) = gated (pre be x w b t a (even f)) (pre be x w b t a (odd f)) := by
  rw [val_main_v35_apply, val_main_v32_apply, capped_at be x w b h, logistic_at be x w b h, val_main_v34_apply, val_main_v23_apply,
    val_main_call0_v4_apply, val_main_call0_v3_apply, val_main_cst_4_apply, val_main_call0_v2_apply, val_main_call0_v1_apply,
    val_main_call0_v0_apply, val_main_cst_3_apply, lin_at be x w b h, val_main_v33_apply, val_main_cst_8_apply]
  rfl

/-- Whether a tile is in use. -/
theorem used_at (t : Fin 288) (a : Fin 256) (f : Fin 2048) :
    val_main_call1_v1 (F := Ideal) nu (ix3 t a f) = BitVec.ofBool ((BitVec.ofNat 32 t.val).slt (nu Cert.UpIdeal.Tiles.first)) := by
  rw [val_main_call1_v1_apply, val_main_v40_apply, val_main_v37_apply, val_main_v36_apply, val_main_v39_apply]
  have e : val_main_v38 (F := Ideal) nu (idx_main_v39 (idx_main_call1_v1 (ix3 t a f))) = nu Cert.UpIdeal.Tiles.first :=
    congrArg nu (funext fun d => Fin.ext (by
      obtain rfl : d = 0 := Subsingleton.elim _ _
      have h1 : ((Shape.reshapeEquiv shapeCasts_S1_S_ (idx_main_v39 (idx_main_call1_v1 (ix3 t a f)))) 0 : ℕ) < 1 := Fin.isLt _
      show ((Shape.reshapeEquiv shapeCasts_S1_S_ (idx_main_v39 (idx_main_call1_v1 (ix3 t a f)))) 0 : ℕ) = 0
      omega))
  rw [e]
  rfl

/-- THE REFERENCE'S RESULT is the gated projection of the arguments. -/
theorem result (h : ∀ i, (be i).toNat < 32) :
    val_main_v43 (F := Ideal) be nu x w b = Cert.UpIdeal.Tiles.outAt be (nu Cert.UpIdeal.Tiles.first) x w b := by
  funext i
  have h0 : (i 0).val < 73728 := (i 0).isLt
  have h1 : (i 1).val < 2048 := (i 1).isLt
  rw [val_main_v43_apply]
  have e : idx_main_v43 i = ix3 (⟨(i 0).val / 256, by omega⟩ : Fin 288) (⟨(i 0).val % 256, by omega⟩ : Fin 256) (⟨(i 1).val, h1⟩ : Fin 2048) := by
    funext d; refine Fin.ext ?_
    match d with
    | ⟨0, _⟩ => show ((i 0).val * 2048 + (i 1).val) / 524288 = (i 0).val / 256; omega
    | ⟨1, _⟩ => show ((i 0).val * 2048 + (i 1).val) / 2048 % 256 = (i 0).val % 256; omega
    | ⟨2, _⟩ => show ((i 0).val * 2048 + (i 1).val) % 2048 = (i 1).val; omega
  rw [e, val_main_v42_apply, val_main_v41_apply, used_at, gated_at be x w b h]
  unfold Cert.UpIdeal.Tiles.outAt Cert.UpIdeal.Tiles.outUp
  cases (BitVec.ofNat 32 ((i 0).val / 256)).slt (nu Cert.UpIdeal.Tiles.first)
  · exact Ideal.ofBits_zero_f32
  · rfl

end Cert.UpRef

end
-- ==== Proof.NormRow.lean ====
/- One row of a mixer's input: the row divided by its root mean square, times the norm's weights, times one more than a scale,
   plus a shift. Scale and shift are one row for all tokens of the prompts and one row for each latent sequence. -/
module

public import Idealize.ShloMosaic.Lib.Pipeline.Value
public import Idealize.ShloMosaic.PureOps.Ideal.Laws

@[expose] public section

noncomputable section

namespace Cert.NormRow

open Idealize.ShloMosaic

/-- Entry `k` of a row over the root of the mean of its squares, a small number added to the mean. The two numbers are the
    values of the float literals 2048 and 1e-6. -/
def normed (x : Fin 2048 → EReal) (k : Fin 2048) : EReal :=
  x k * Ideal.rsqrt (Ideal.div (∑ j : Fin 2048, x j * x j) (Ideal.ofBits .f32 0x45000000#32) + Ideal.ofBits .f32 0x358637BD#32)

/-- Entry `k` of the row with weights `g`, scale `sc` and shift `sh`. -/
def modulated (x g sc sh : Fin 2048 → EReal) (k : Fin 2048) : EReal :=
  normed x k * g k * (Ideal.ofBits .f32 0x3F800000#32 + sc k) + sh k

/-- Which row of the scales and shifts token `r` takes: the first for the 8192 tokens of the prompts, then one for every 2048 tokens. -/
def tokenRow (r : Fin 16384) : Fin 8 := ⟨if r.val < 8192 then 0 else 1 + (r.val - 8192) / 2048, by split <;> omega⟩

end Cert.NormRow

end
-- ==== Proof.AbInValue.lean ====
/-
  What the input projection of the attention mixers leaves. A grid point takes 512 rows and 1024 columns. The first point of a
  stretch of 6 normalises the rows into a buffer, which the others of the stretch read; every point multiplies the buffer by
  its columns of the weights. So entry `(r, f)` of the result is the product of row `r`, normalised and modulated, and column `f`.
-/
module

public import proofs.«01_k».proof.Proof.NormRow
public import proofs.«01_k».proof.Proof.Gen.AbInIdeal.Frame
public import Idealize.ShloMosaic.Lib.MatmulPlain
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.AbInIdeal.Proj

open Idealize.ShloMosaic hiding ix1 ix2 ix3
open Idealize.ShloMosaic.TcCoe Idealize.SL.Sem Idealize.ShloMosaic.ValueIdx
open Cert.AbInIdeal Cert.AbInIdeal.Gen Cert.NormRow

/-! ## The formula -/

/-- Row `r` of the tokens, normalised and modulated, at column `k`. -/
def row (x : S16384x2048.Idx → EReal) (g : S2048.Idx → EReal) (sh sc : S8x2048.Idx → EReal) (r : Fin 16384) (k : Fin 2048) : EReal :=
  modulated (fun j => x (ix2 r j)) (fun j => g (ix1 j)) (fun j => sc (ix2 (tokenRow r) j)) (fun j => sh (ix2 (tokenRow r) j)) k

/-- The product of the rows and the weights. -/
def outAt (x : S16384x2048.Idx → EReal) (g : S2048.Idx → EReal) (sh sc : S8x2048.Idx → EReal) (w : S2048x6144.Idx → EReal)
    (i : S16384x6144.Idx) : EReal :=
  ∑ k : Fin 2048, row x g sh sc (i 0) k * w (ix2 k (i 1))

/-! ## One point -/

/-- The product of a block of rows with a block of weights is the plain one. -/
theorem dot_plain : dot_S512x2048_S2048x1024_S512x1024_1_0_0_1_n_n = DotDims.plain 512 2048 1024 := rfl

/-- Index of a row inserted at the summed column. -/
theorem lift_row (a : Fin 512) (j : Fin 2048) : (reduces_S512x2048_S512).lift (ix1 a) j = ix2 a j := by
  funext x; apply Fin.ext
  match x with
  | ⟨0, _⟩ => rfl
  | ⟨1, _⟩ => rfl

/-- A column spread over all columns. -/
theorem spread_col (g : FVec Ideal S512x1 .f32) (a : Fin 512) (k : Fin 2048) :
    broadcastTo S512x2048 g broadcasts_S512x1_S512x2048 (ix2 a k) = g (ix2 a (0 : Fin 1)) := by
  refine broadcastTo_apply _ broadcasts_S512x1_S512x2048 (ix2 a k) (ix2 a (0 : Fin 1)) fun x => ?_
  match x with
  | ⟨0, _⟩ => rfl
  | ⟨1, _⟩ => rfl

/-- A row spread over all rows. -/
theorem spread_row (g : FVec Ideal S1x2048 .f32) (a : Fin 512) (k : Fin 2048) :
    broadcastTo S512x2048 g broadcasts_S1x2048_S512x2048 (ix2 a k) = g (ix2 (0 : Fin 1) k) := by
  refine broadcastTo_apply _ broadcasts_S1x2048_S512x2048 (ix2 a k) (ix2 (0 : Fin 1) k) fun x => ?_
  match x with
  | ⟨0, _⟩ => rfl
  | ⟨1, _⟩ => rfl

/-- A list of rows' numbers made a column. -/
theorem col_cast (f : FVec Ideal S512 .f32) (a : Fin 512) :
    (shapeCast S512x1 f shapeCasts_S512_S512x1 : FVec Ideal S512x1 .f32) (ix2 a (0 : Fin 1)) = f (ix1 a) :=
  shapeCast_apply f shapeCasts_S512_S512x1 (ix2 a (0 : Fin 1)) (ix1 a) (by
    rw [Shape.rowMajor_val_one, Shape.rowMajor_val_two]
    show a.val = a.val * 1 + 0
    omega)

/-- A row with a leading axis of one less. -/
theorem row_cast (v : Vec Ideal S1x1x2048 .f32) (k : Fin 2048) :
    (shapeCast S1x2048 v shapeCasts_S1x1x2048_S1x2048 : Vec Ideal S1x2048 .f32) (ix2 (0 : Fin 1) k) = v (ix3 (0 : Fin 1) (0 : Fin 1) k) :=
  shapeCast_apply v shapeCasts_S1x1x2048_S1x2048 (ix2 (0 : Fin 1) k) (ix3 (0 : Fin 1) (0 : Fin 1) k) (by
    rewrite [Shape.rowMajor_val_two, Shape.rowMajor_val_three]; show (0 * 1 + 0) * 2048 + k.val = 0 * 2048 + k.val; omega)

/-- The sum of a row's squares. -/
theorem squares (x : FVec Ideal S512x2048 .f32) (a : Fin 512) :
    (multiReduction .add [1] S512 (mulf x x) 0x00000000#32 reduces_S512x2048_S512 (.inl rfl) rfl : FVec Ideal S512 .f32) (ix1 a)
      = ∑ j : Fin 2048, x (ix2 a j) * x (ix2 a j) := by
  refine (Ideal.multiReduction_add_single (mulf x x) 0x00000000#32 reduces_S512x2048_S512 (.inl rfl) rfl (ix1 a)).trans ?_
  exact Finset.sum_congr rfl fun j _ => congrArg (mulf x x) (lift_row a j)

/-- What a stretch's first point stores: the rows of its block, normalised and modulated. -/
theorem pay_norm (x0 : Vec Ideal S512x2048 .f32) (x1 : Vec Ideal S1x2048 .f32) (x2 x3 : Vec Ideal S1x1x2048 .f32) (a : Fin 512) (k : Fin 2048) :
    k0_pay1 x0 x1 x3 x2 (ix2 a k)
      = modulated (fun j => x0 (ix2 a j)) (fun j => x1 (ix2 (0 : Fin 1) j)) (fun j => x3 (ix3 (0 : Fin 1) (0 : Fin 1) j))
          (fun j => x2 (ix3 (0 : Fin 1) (0 : Fin 1) j)) k := by
  unfold k0_pay1
  dsimp only
  refine (shapeCast_apply _ shapeCasts_S512x2048_S512x2048 (ix2 a k) (ix2 a k) rfl).trans ?_
  refine congrArg₂ (fun p q : EReal => p + q) (congrArg₂ (fun p q : EReal => p * q) (congrArg₂ (fun p q : EReal => p * q)
    (congrArg (fun p : EReal => x0 (ix2 a k) * p) ((spread_col _ a k).trans ?_)) ((spread_row _ a k).trans ?_)) ((spread_row _ a k).trans ?_))
    ((spread_row _ a k).trans (row_cast x2 k))
  · show Ideal.rsqrt (Ideal.div ((shapeCast S512x1 _ shapeCasts_S512_S512x1 : FVec Ideal S512x1 .f32) (ix2 a (0 : Fin 1))) (Ideal.ofBits .f32 0x45000000#32)
      + Ideal.ofBits .f32 0x358637BD#32) = _
    rw [col_cast, squares]
  · exact shapeCast_apply x1 shapeCasts_S1x2048_S1x2048 (ix2 (0 : Fin 1) k) (ix2 (0 : Fin 1) k) rfl
  · exact congrArg (fun p : EReal => Ideal.ofBits .f32 0x3F800000#32 + p) (row_cast x3 k)

/-- What a point writes: the buffer's rows times its columns. -/
theorem pay_prod (y : Vec Ideal S512x2048 .bf16) (x4 : Vec Ideal S2048x1024 .bf16) (a : Fin 512) (f : Fin 1024) :
    k0_pay2 y x4 (ix2 a f) = ∑ k : Fin 2048, y (ix2 a k) * x4 (ix2 k f) := by
  unfold k0_pay2
  show FloatOps.matmul (F := Ideal) _ none _ _ _ (ix2 a f) = _
  rw [dot_plain, Ideal.matmul_plain_apply]
  show Ideal.ofBits .f32 0x00000000#32 + _ = _
  rw [Ideal.ofBits_zero_f32, zero_add]
  exact Finset.sum_congr rfl fun k _ => congrArg (fun p : EReal => y (ix2 a k) * p)
    (shapeCast_apply x4 shapeCasts_S2048x1024_S2048x1024 (ix2 k f) (ix2 k f) rfl)

/-! ## The blocks -/

variable (m : (ℓ : Loc nD τ sig) → Buf (Elt Ideal) ℓ) (ρ : Dev nD → PrngReg)

/-- The arguments: tokens, norm weights, shifts, scales, weights. -/
abbrev argX (c : Dev nD) : S16384x2048.Idx → EReal := m ((c : Thread nD τ).loc main_arg0)
abbrev argG (c : Dev nD) : S2048.Idx → EReal := m ((c : Thread nD τ).loc main_arg1)
abbrev argSh (c : Dev nD) : S8x2048.Idx → EReal := m ((c : Thread nD τ).loc main_arg2)
abbrev argSc (c : Dev nD) : S8x2048.Idx → EReal := m ((c : Thread nD τ).loc main_arg3)
abbrev argW (c : Dev nD) : S2048x6144.Idx → EReal := m ((c : Thread nD τ).loc main_arg4)

/-- A grid point is below the number of points. -/
theorem hN (t : Fin cfg0.N) : t.val < 192 := lt_of_lt_of_eq t.isLt (N_0 : cfg0.N = 192)

/-- Which row of the scales and shifts block of rows `s` takes. -/
def blockRow (s : ℕ) : ℕ := if s < 16 then 0 else 1 + (s - 16) / 4

/-- Each window's block index at each point. -/
theorem idx : ∀ t : Fin cfg0.N, win0_0.index t = ![t.val / 6, 0] ∧ win0_1.index t = ![0, 0] ∧ win0_2.index t = ![blockRow (t.val / 6), 0, 0]
    ∧ win0_3.index t = ![blockRow (t.val / 6), 0, 0] ∧ win0_4.index t = ![0, t.val % 6] ∧ win0_5.index t = ![t.val / 6, t.val % 6] :=
  (by decide +kernel : ∀ t : Fin grid0.N, _)

/-- A token of a block of rows takes the block's row of the scales and shifts. -/
theorem tokenRow_val (s : ℕ) (hs : s < 32) (a : Fin 512) : (tokenRow ⟨512 * s + a.val, by omega⟩).val = blockRow s := by
  unfold blockRow
  show (if 512 * s + a.val < 8192 then 0 else 1 + (512 * s + a.val - 8192) / 2048) = _
  by_cases h : s < 16
  · rw [if_pos (by omega), if_pos h]
  · rw [if_neg (by omega), if_neg h]; omega

/-- The norm weights the region finds are the argument's, with a leading axis of one. -/
theorem found_g (c : Dev nD) : (V m c main_v0 : S1x2048.Idx → EReal) = shapeCast S1x2048 (argG m c) shapeCasts_S2048_S1x2048 := by
  show StableHlo.after _ _ _ = _
  after_results
  rfl

/-- The shifts the region finds are the argument's, with an axis of one between. -/
theorem found_sh (c : Dev nD) : (V m c main_v1 : S8x1x2048.Idx → EReal) = broadcastInDim S8x1x2048 ![0, 2] bcast_S8x2048_S8x1x2048_0_2 (argSh m c) := by
  show StableHlo.after _ _ _ = _
  after_results

/-- Likewise the scales. -/
theorem found_sc (c : Dev nD) : (V m c main_v2 : S8x1x2048.Idx → EReal) = broadcastInDim S8x1x2048 ![0, 2] bcast_S8x2048_S8x1x2048_0_2 (argSc m c) := by
  show StableHlo.after _ _ _ = _
  after_results

/-- The weights the region finds are the argument's: the host's rounding is exact here. -/
theorem found_w (c : Dev nD) : (V m c main_v3 : S2048x6144.Idx → EReal) = argW m c := by
  show StableHlo.after _ _ _ = _
  after_results
  rfl

/-- Point `t`'s block of rows. -/
theorem blk_x (c : Dev nD) (t : Fin cfg0.N) (a : Fin 512) (k : Fin 2048) :
    (iblk m c 0 t : Vec Ideal S512x2048 .f32) (ix2 a k) = argX m c (ix2 (⟨512 * (t.val / 6) + a.val, by have := hN t; omega⟩ : Fin 16384) k) := by
  blk_simp [iblk]
  refine congrArg (argX m c) (funext fun b => Fin.ext ?_)
  match b with
  | ⟨0, _⟩ => show win0_0.index t 0 * 512 + 1 * a.val = 512 * (t.val / 6) + a.val
              rw [(idx t).1]; show t.val / 6 * 512 + 1 * a.val = _; omega
  | ⟨1, _⟩ => show win0_0.index t 1 * 2048 + 1 * k.val = k.val
              rw [(idx t).1]; show 0 * 2048 + 1 * k.val = _; omega

/-- The norm weights, the same at every point. -/
theorem blk_g (c : Dev nD) (t : Fin cfg0.N) (k : Fin 2048) :
    (iblk m c 1 t : Vec Ideal S1x2048 .f32) (ix2 (0 : Fin 1) k) = argG m c (ix1 k) := by
  refine Eq.trans (b := (V m c main_v0 : S1x2048.Idx → EReal) (ix2 (0 : Fin 1) k)) ?_ ((congrFun (found_g m c) _).trans ?_)
  · refine congrArg (V m c main_v0 : S1x2048.Idx → EReal) (funext fun b => Fin.ext ?_)
    match b with
    | ⟨0, _⟩ => show win0_1.index t 0 * 1 + 1 * 0 = 0
                rw [(idx t).2.1]; rfl
    | ⟨1, _⟩ => show win0_1.index t 1 * 2048 + 1 * k.val = k.val
                rw [(idx t).2.1]; show 0 * 2048 + 1 * k.val = _; omega
  · exact shapeCast_apply (argG m c) shapeCasts_S2048_S1x2048 (ix2 (0 : Fin 1) k) (ix1 k) (by
      rw [Shape.rowMajor_val_one, Shape.rowMajor_val_two]; show k.val = 0 * 2048 + k.val; omega)

/-- An array with an axis of one between, read without it. -/
theorem between (v : S8x2048.Idx → EReal) (e : Fin 8) (k : Fin 2048) :
    broadcastInDim S8x1x2048 ![0, 2] bcast_S8x2048_S8x1x2048_0_2 v (ix3 e (0 : Fin 1) k) = v (ix2 e k) :=
  broadcastInDim_apply _ bcast_S8x2048_S8x1x2048_0_2 v (ix3 e (0 : Fin 1) k) (ix2 e k) (fun b => match b with
    | ⟨0, _⟩ => by show e.val = if (8 : Nat) = 1 then 0 else e.val; rw [if_neg (by decide)]
    | ⟨1, _⟩ => by show k.val = if (2048 : Nat) = 1 then 0 else k.val; rw [if_neg (by decide)])

/-- Point `t`'s shift: the row its tokens take. -/
theorem blk_sh (c : Dev nD) (t : Fin cfg0.N) (e : Fin 8) (he : e.val = blockRow (t.val / 6)) (k : Fin 2048) :
    (iblk m c 2 t : Vec Ideal S1x1x2048 .f32) (ix3 (0 : Fin 1) (0 : Fin 1) k) = argSh m c (ix2 e k) := by
  refine Eq.trans (b := (V m c main_v1 : S8x1x2048.Idx → EReal) (ix3 e (0 : Fin 1) k)) ?_
    ((congrFun (found_sh m c) _).trans (between (argSh m c) e k))
  refine congrArg (V m c main_v1 : S8x1x2048.Idx → EReal) (funext fun b => Fin.ext ?_)
  match b with
  | ⟨0, _⟩ => show win0_2.index t 0 * 1 + 1 * 0 = e.val
              rw [(idx t).2.2.1, he]; show blockRow (t.val / 6) * 1 + 1 * 0 = _; omega
  | ⟨1, _⟩ => show win0_2.index t 1 * 1 + 1 * 0 = 0
              rw [(idx t).2.2.1]; rfl
  | ⟨2, _⟩ => show win0_2.index t 2 * 2048 + 1 * k.val = k.val
              rw [(idx t).2.2.1]; show 0 * 2048 + 1 * k.val = _; omega

/-- Point `t`'s scale, likewise. -/
theorem blk_sc (c : Dev nD) (t : Fin cfg0.N) (e : Fin 8) (he : e.val = blockRow (t.val / 6)) (k : Fin 2048) :
    (iblk m c 3 t : Vec Ideal S1x1x2048 .f32) (ix3 (0 : Fin 1) (0 : Fin 1) k) = argSc m c (ix2 e k) := by
  refine Eq.trans (b := (V m c main_v2 : S8x1x2048.Idx → EReal) (ix3 e (0 : Fin 1) k)) ?_
    ((congrFun (found_sc m c) _).trans (between (argSc m c) e k))
  refine congrArg (V m c main_v2 : S8x1x2048.Idx → EReal) (funext fun b => Fin.ext ?_)
  match b with
  | ⟨0, _⟩ => show win0_3.index t 0 * 1 + 1 * 0 = e.val
              rw [(idx t).2.2.2.1, he]; show blockRow (t.val / 6) * 1 + 1 * 0 = _; omega
  | ⟨1, _⟩ => show win0_3.index t 1 * 1 + 1 * 0 = 0
              rw [(idx t).2.2.2.1]; rfl
  | ⟨2, _⟩ => show win0_3.index t 2 * 2048 + 1 * k.val = k.val
              rw [(idx t).2.2.2.1]; show 0 * 2048 + 1 * k.val = _; omega

/-- Point `t`'s block of weights. -/
theorem blk_w (c : Dev nD) (t : Fin cfg0.N) (k : Fin 2048) (f : Fin 1024) :
    (iblk m c 4 t : Vec Ideal S2048x1024 .bf16) (ix2 k f) = argW m c (ix2 k (⟨1024 * (t.val % 6) + f.val, by omega⟩ : Fin 6144)) := by
  refine Eq.trans (b := (V m c main_v3 : S2048x6144.Idx → EReal) (ix2 k (⟨1024 * (t.val % 6) + f.val, by omega⟩ : Fin 6144))) ?_
    (congrFun (found_w m c) _)
  refine congrArg (V m c main_v3 : S2048x6144.Idx → EReal) (funext fun b => Fin.ext ?_)
  match b with
  | ⟨0, _⟩ => show win0_4.index t 0 * 2048 + 1 * k.val = k.val
              rw [(idx t).2.2.2.2.1]; show 0 * 2048 + 1 * k.val = _; omega
  | ⟨1, _⟩ => show win0_4.index t 1 * 1024 + 1 * f.val = 1024 * (t.val % 6) + f.val
              rw [(idx t).2.2.2.2.1]; show t.val % 6 * 1024 + 1 * f.val = _; omega

/-! ## The buffer -/

/-- What a stretch's first point stores, on the blocks that point `t` finds. -/
def rows (c : Dev nD) (t : Fin cfg0.N) : Vec Ideal S512x2048 .bf16 :=
  k0_pay1 (iblk m c 0 t) (iblk m c 1 t) (iblk m c 3 t) (iblk m c 2 t)

/-- At a row and a column: the block's row, normalised and modulated. -/
theorem rows_apply (c : Dev nD) (t : Fin cfg0.N) (a : Fin 512) (k : Fin 2048) :
    rows m c t (ix2 a k) = row (argX m c) (argG m c) (argSh m c) (argSc m c) ⟨512 * (t.val / 6) + a.val, by have := hN t; omega⟩ k := by
  have ht : t.val / 6 < 32 := by have := hN t; omega
  have he := tokenRow_val (t.val / 6) ht a
  unfold rows row
  rw [pay_norm]
  simp only [blk_x, blk_g, blk_sh m c t _ he, blk_sc m c t _ he]

/-- AFTER EVERY POINT the buffer holds what the first point of its stretch stored. -/
theorem carried (c : Dev nD) : ∀ (n : ℕ) (hn : n < cfg0.N),
    (outsAt0 m c n hn).2 = rows m c ⟨6 * (n / 6), lt_of_le_of_lt (Nat.mul_div_le n 6) hn⟩
  | n, hn => by
    by_cases h : n % 6 = 0
    · have e : (⟨6 * (n / 6), lt_of_le_of_lt (Nat.mul_div_le n 6) hn⟩ : Fin cfg0.N) = ⟨n, hn⟩ := Fin.ext (by show 6 * (n / 6) = n; omega)
      rw [e]
      refine Eq.trans (congrArg Prod.snd (outsAt0_A m c ⟨n, hn⟩ h)) ?_
      frame_out
      rfl
    · have hp : n - 1 < cfg0.N := lt_of_le_of_lt (Nat.sub_le n 1) hn
      have e : (⟨6 * (n / 6), lt_of_le_of_lt (Nat.mul_div_le n 6) hn⟩ : Fin cfg0.N)
          = ⟨6 * ((n - 1) / 6), lt_of_le_of_lt (Nat.mul_div_le (n - 1) 6) hp⟩ :=
        Fin.ext (by show 6 * (n / 6) = 6 * ((n - 1) / 6); omega)
      rw [e, ← carried c (n - 1) hp]
      refine Eq.trans (congrArg Prod.snd (outsAt0_B m c ⟨n, hn⟩ h)) ?_
      unfold sout0_B_0
      rfl
termination_by n => n
decreasing_by omega

/-- What a point writes: the buffer, as the stretch's first point stored it, times the point's columns. -/
theorem written (c : Dev nD) (t : Fin cfg0.N) :
    (outsAt0 m c t.val t.isLt).1 = k0_pay2 (rows m c ⟨6 * (t.val / 6), lt_of_le_of_lt (Nat.mul_div_le t.val 6) t.isLt⟩) (iblk m c 4 t) := by
  by_cases h : t.val % 6 = 0
  · have e : (⟨6 * (t.val / 6), lt_of_le_of_lt (Nat.mul_div_le t.val 6) t.isLt⟩ : Fin cfg0.N) = t := Fin.ext (by show 6 * (t.val / 6) = t.val; omega)
    rw [e]
    refine Eq.trans (congrArg Prod.fst (outsAt0_A m c t h)) ?_
    frame_out
    rfl
  · have hp : t.val - 1 < cfg0.N := lt_of_le_of_lt (Nat.sub_le t.val 1) t.isLt
    have e : (⟨6 * (t.val / 6), lt_of_le_of_lt (Nat.mul_div_le t.val 6) t.isLt⟩ : Fin cfg0.N)
        = ⟨6 * ((t.val - 1) / 6), lt_of_le_of_lt (Nat.mul_div_le (t.val - 1) 6) hp⟩ :=
      Fin.ext (by show 6 * (t.val / 6) = 6 * ((t.val - 1) / 6); omega)
    rw [e, ← carried m c (t.val - 1) hp]
    refine Eq.trans (congrArg Prod.fst (outsAt0_B m c t h)) ?_
    frame_out
    rw [read_unread_whole]

/-! ## The whole result -/

/-- The block a point writes, as part of the whole result. -/
theorem written_at (c : Dev nD) (t : Fin cfg0.N) (y : S512x1024.Idx) (i : S16384x6144.Idx)
    (h0 : (i 0).val = 512 * (t.val / 6) + (y 0).val) (h1 : (i 1).val = 1024 * (t.val % 6) + (y 1).val) :
    (outsAt0 m c t.val t.isLt).1 y = outAt (argX m c) (argG m c) (argSh m c) (argSc m c) (argW m c) i := by
  have ht := hN t
  have hy0 : (y 0).val < 512 := (y 0).isLt
  have hy1 : (y 1).val < 1024 := (y 1).isLt
  have ey : y = ix2 (n0 := 512) (n1 := 1024) (y 0) (y 1) := funext fun b => match b with | ⟨0, _⟩ => rfl | ⟨1, _⟩ => rfl
  rw [written]
  refine (congrArg _ ey).trans ((pay_prod _ _ (y 0) (y 1)).trans ?_)
  unfold outAt
  refine Finset.sum_congr rfl fun k _ => ?_
  refine congrArg₂ (fun p q : EReal => p * q) ((rows_apply m c _ (y 0) k).trans ?_) ((blk_w m c t k (y 1)).trans ?_)
  · refine congrArg (fun r => row (argX m c) (argG m c) (argSh m c) (argSc m c) r k) (Fin.ext ?_)
    show 512 * (6 * (t.val / 6) / 6) + (y 0).val = (i 0).val
    omega
  · refine congrArg (fun q : Fin 6144 => argW m c (ix2 k q)) (Fin.ext ?_)
    show 1024 * (t.val % 6) + (y 1).val = (i 1).val
    omega

/-- The result after the run. -/
theorem arr_out (c : Dev nD) : (dats m 0 c).arrAt 5 cfg0.N = outAt (argX m c) (argG m c) (argSh m c) (argSc m c) (argW m c) := by
  refine (dats m 0 c).arrAt_eq_of_covers 5 _ (by decide +kernel) fun t hf y => ?_
  rw [after0_5]
  refine written_at m c t y _ ?_ ?_
  · show win0_5.index t 0 * 512 + 1 * (y 0).val = _
    rw [(idx t).2.2.2.2.2]; show t.val / 6 * 512 + 1 * (y 0).val = _; omega
  · show win0_5.index t 1 * 1024 + 1 * (y 1).val = _
    rw [(idx t).2.2.2.2.2]; show t.val % 6 * 1024 + 1 * (y 1).val = _; omega

/-- THE KERNEL'S RUN: the result is the product, the arguments are unchanged. -/
theorem run : θ_run defs (onTc (τ := τ) (main (F := Ideal))) ⟨m, fun _ => 0, ρ⟩ fun r => ∀ c : Dev nD,
      r.2.mem ((c : Thread nD τ).loc main_v4) = outAt (argX m c) (argG m c) (argSh m c) (argSc m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (arr_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.AbInIdeal.Proj

end
-- ==== Proof.AbInRef.lean ====
/- What the reference of the input projection of the attention mixers computes, element by element: each token's row, normalised and
   modulated by its row of the scales and shifts, times the weights. -/
module

public import proofs.«01_k».proof.Proof.AbInValue
public import proofs.«01_k».proof.Proof.Gen.AbInRefIdeal.Run
public import proofs.«01_k».proof.Proof.Gen.AbInRefIdeal.Read
public import Idealize.ShloMosaic.Lib.KernelVsHost
public import Idealize.ShloMosaic.Lib.Pipeline.Value

@[expose] public section

set_option maxRecDepth 16384

noncomputable section

namespace Cert.AbInRef

open Idealize.ShloMosaic hiding ix1 ix2 ix3
open Idealize.ShloMosaic.TcCoe Idealize.SL.Sem Idealize.ShloMosaic.ValueIdx
open Cert.AbInRefIdeal Cert.AbInRefIdeal.Gen Cert.AbInRefIdeal.Read Cert.NormRow

variable (x : S16384x2048.Idx → EReal) (g : S2048.Idx → EReal) (sh sc : S8x2048.Idx → EReal) (w : S2048x6144.Idx → EReal)

/-- The shift of a prompt's token, -/
theorem shift_ctx (r : Fin 8192) (k : Fin 2048) : val_main_v2 (F := Ideal) sh (ix2 r k) = sh (ix2 (0 : Fin 8) k) := by
  rw [val_main_v2_apply, val_main_v1_apply, val_main_v0_apply]
  refine congrArg sh (funext fun b => Fin.ext ?_)
  match b with
  | ⟨0, _⟩ => rfl
  | ⟨1, _⟩ => show k.val % 2048 = k.val; omega

/-- and of a latent sequence's. -/
theorem shift_lat (r : Fin 8192) (k : Fin 2048) :
    val_main_v6 (F := Ideal) sh (ix2 r k) = sh (ix2 (⟨1 + r.val / 2048, by omega⟩ : Fin 8) k) := by
  rw [val_main_v6_apply, val_main_v5_apply, val_main_v4_apply, val_main_v3_apply]
  refine congrArg sh (funext fun b => Fin.ext ?_)
  match b with
  | ⟨0, _⟩ => show 1 + (r.val * 2048 + k.val) / 4194304 = 1 + r.val / 2048; omega
  | ⟨1, _⟩ => show (r.val * 2048 + k.val) % 2048 = k.val; omega

/-- The scale of a prompt's token, -/
theorem scale_ctx (r : Fin 8192) (k : Fin 2048) : val_main_v10 (F := Ideal) sc (ix2 r k) = sc (ix2 (0 : Fin 8) k) := by
  rw [val_main_v10_apply, val_main_v9_apply, val_main_v8_apply]
  refine congrArg sc (funext fun b => Fin.ext ?_)
  match b with
  | ⟨0, _⟩ => rfl
  | ⟨1, _⟩ => show k.val % 2048 = k.val; omega

/-- and of a latent sequence's. -/
theorem scale_lat (r : Fin 8192) (k : Fin 2048) :
    val_main_v14 (F := Ideal) sc (ix2 r k) = sc (ix2 (⟨1 + r.val / 2048, by omega⟩ : Fin 8) k) := by
  rw [val_main_v14_apply, val_main_v13_apply, val_main_v12_apply, val_main_v11_apply]
  refine congrArg sc (funext fun b => Fin.ext ?_)
  match b with
  | ⟨0, _⟩ => show 1 + (r.val * 2048 + k.val) / 4194304 = 1 + r.val / 2048; omega
  | ⟨1, _⟩ => show (r.val * 2048 + k.val) % 2048 = k.val; omega

/-- Two arrays of 8192 rows one above the other, the second's rows being taken by latent tokens: at a token's row, where
    each reads the row of a table that its tokens take, the two together read the table at the token's row. -/
theorem stacked (v : S8x2048.Idx → EReal) (p q : S8192x2048.Idx → EReal)
    (hp : ∀ (r : Fin 8192) (k : Fin 2048), p (ix2 r k) = v (ix2 (0 : Fin 8) k))
    (hq : ∀ (r : Fin 8192) (k : Fin 2048), q (ix2 r k) = v (ix2 (⟨1 + r.val / 2048, by omega⟩ : Fin 8) k))
    (r : Fin 16384) (k : Fin 2048) :
    concatenate S16384x2048 0 [⟨S8192x2048, p⟩, ⟨S8192x2048, q⟩] concatenates_S8192x2048_S8192x2048_S16384x2048_d0 (ix2 r k)
      = v (ix2 (tokenRow r) k) := by
  by_cases h : r.val < 8192
  · refine (concatenate_pair_apply_left (0 : Fin S16384x2048.rank) p q concatenates_S8192x2048_S8192x2048_S16384x2048_d0 (ix2 r k) rfl
      (ix2 (⟨r.val, h⟩ : Fin 8192) k) (fun b => match b with | ⟨0, _⟩ => rfl | ⟨1, _⟩ => rfl)).trans ((hp _ k).trans ?_)
    refine congrArg (fun e : Fin 8 => v (ix2 e k)) (Fin.ext ?_)
    show 0 = if r.val < 8192 then 0 else 1 + (r.val - 8192) / 2048
    rw [if_pos h]
  · refine (concatenate_pair_apply_right (0 : Fin S16384x2048.rank) p q concatenates_S8192x2048_S8192x2048_S16384x2048_d0 (ix2 r k) rfl rfl
      (ix2 (⟨r.val - 8192, by omega⟩ : Fin 8192) k) (fun b hb => match b, hb with | ⟨0, _⟩, hb => absurd rfl hb | ⟨1, _⟩, _ => rfl) ?_).trans
      ((hq _ k).trans ?_)
    · show r.val - 8192 + 8192 = r.val; omega
    · refine congrArg (fun e : Fin 8 => v (ix2 e k)) (Fin.ext ?_)
      show 1 + (r.val - 8192) / 2048 = if r.val < 8192 then 0 else 1 + (r.val - 8192) / 2048
      rw [if_neg h]

/-- The shift of any token, -/
theorem shift_at (r : Fin 16384) (k : Fin 2048) : val_main_v7 (F := Ideal) sh (ix2 r k) = sh (ix2 (tokenRow r) k) :=
  stacked sh _ _ (shift_ctx sh) (shift_lat sh) r k

/-- and its scale. -/
theorem scale_at (r : Fin 16384) (k : Fin 2048) : val_main_v15 (F := Ideal) sc (ix2 r k) = sc (ix2 (tokenRow r) k) :=
  stacked sc _ _ (scale_ctx sc) (scale_lat sc) r k

/-- The sum of a row's squares. -/
theorem squares_at (r : Fin 16384) : val_main_v17 (F := Ideal) x (ix1 r) = ∑ j : Fin 2048, x (ix2 r j) * x (ix2 r j) := by
  rw [val_main_v17_apply]
  show Ideal.ofBits .f32 0x00000000#32 + _ = _
  rw [Ideal.ofBits_zero_f32, zero_add]
  refine Finset.sum_congr rfl fun j _ => ?_
  have e : idx_main_v17 (ix1 r) j = ix2 r j := funext fun b => match b with | ⟨0, _⟩ => rfl | ⟨1, _⟩ => rfl
  rw [e]
  rfl

/-- A row over its root mean square. -/
theorem normed_at (r : Fin 16384) (k : Fin 2048) : val_main_v25 (F := Ideal) x (ix2 r k) = normed (fun j => x (ix2 r j)) k := by
  rw [val_main_v25_apply, val_main_v24_apply, val_main_v23_apply, val_main_v22_apply, val_main_v20_apply, val_main_v18_apply,
    val_main_v19_apply, val_main_v21_apply]
  have e : idx_main_v18 (idx_main_v24 (ix2 r k)) = ix1 r := funext fun b => match b with | ⟨0, _⟩ => rfl
  rw [e, squares_at]
  rfl

/-- The norm's weights. -/
theorem weight_at (r : Fin 16384) (k : Fin 2048) : val_main_v27 (F := Ideal) g (ix2 r k) = g (ix1 k) := by
  rw [val_main_v27_apply, val_main_v26_apply]
  exact congrArg g (funext fun b => match b with | ⟨0, _⟩ => rfl)

/-- A row, normalised and modulated. -/
theorem row_at (r : Fin 16384) (k : Fin 2048) :
    val_main_v32 (F := Ideal) x g sh sc (ix2 r k) = Cert.AbInIdeal.Proj.row x g sh sc r k := by
  rw [val_main_v32_apply, val_main_v31_apply, val_main_v28_apply, val_main_v30_apply, val_main_v29_apply, normed_at, weight_at, shift_at, scale_at]
  rfl

/-- Where the product reads its row, -/
theorem left_ix (r : Fin 16384) (f : Fin 6144) (k : Fin 2048) : lidx_main_v33 (ix2 r f) k = ix2 r k := by
  funext b; match b with | ⟨0, _⟩ => rfl | ⟨1, _⟩ => rfl
/-- and its column. -/
theorem right_ix (r : Fin 16384) (f : Fin 6144) (k : Fin 2048) : ridx_main_v33 (ix2 r f) k = ix2 k f := by
  funext b; match b with | ⟨0, _⟩ => rfl | ⟨1, _⟩ => rfl

/-- An entry of the product. -/
theorem entry (r : Fin 16384) (f : Fin 6144) :
    val_main_v33 (F := Ideal) x g sh sc w (ix2 r f) = Cert.AbInIdeal.Proj.outAt x g sh sc w (ix2 r f) := by
  rw [val_main_v33_apply]
  show _ = ∑ k : Fin 2048, Cert.AbInIdeal.Proj.row x g sh sc r k * w (ix2 k f)
  refine Finset.sum_congr rfl fun k _ => ?_
  rw [left_ix, right_ix, row_at]

/-- THE REFERENCE'S RESULT is the product of the normalised rows and the weights. -/
theorem result : val_main_v33 (F := Ideal) x g sh sc w = Cert.AbInIdeal.Proj.outAt x g sh sc w := by
  funext i
  have e : i = ix2 (n0 := 16384) (n1 := 6144) (i 0) (i 1) := funext fun b => match b with | ⟨0, _⟩ => rfl | ⟨1, _⟩ => rfl
  exact (congrArg (val_main_v33 (F := Ideal) x g sh sc w) e).trans ((entry x g sh sc w (i 0) (i 1)).trans
    (congrArg (Cert.AbInIdeal.Proj.outAt x g sh sc w) e.symm))

end Cert.AbInRef

end
-- ==== Proof.PoolInValue.lean ====
/-
  What the input projection of the pooling mixer leaves. A grid point takes 512 rows and 1024 columns. The first point of a
  stretch of 2 normalises the rows into a buffer, which the others of the stretch read; every point multiplies the buffer by
  its columns of the weights. So entry `(r, f)` of the result is the product of row `r`, normalised and modulated, and column `f`.
-/
module

public import proofs.«01_k».proof.Proof.NormRow
public import proofs.«01_k».proof.Proof.Gen.PoolInIdeal.Frame
public import Idealize.ShloMosaic.Lib.MatmulPlain
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.PoolInIdeal.Proj

open Idealize.ShloMosaic hiding ix1 ix2 ix3
open Idealize.ShloMosaic.TcCoe Idealize.SL.Sem Idealize.ShloMosaic.ValueIdx
open Cert.PoolInIdeal Cert.PoolInIdeal.Gen Cert.NormRow

/-! ## The formula -/

/-- Row `r` of the tokens, normalised and modulated, at column `k`. -/
def row (x : S16384x2048.Idx → EReal) (g : S2048.Idx → EReal) (sh sc : S8x2048.Idx → EReal) (r : Fin 16384) (k : Fin 2048) : EReal :=
  modulated (fun j => x (ix2 r j)) (fun j => g (ix1 j)) (fun j => sc (ix2 (tokenRow r) j)) (fun j => sh (ix2 (tokenRow r) j)) k

/-- The product of the rows and the weights. -/
def outAt (x : S16384x2048.Idx → EReal) (g : S2048.Idx → EReal) (sh sc : S8x2048.Idx → EReal) (w : S2048x2048.Idx → EReal)
    (i : S16384x2048.Idx) : EReal :=
  ∑ k : Fin 2048, row x g sh sc (i 0) k * w (ix2 k (i 1))

/-! ## One point -/

/-- The product of a block of rows with a block of weights is the plain one. -/
theorem dot_plain : dot_S512x2048_S2048x1024_S512x1024_1_0_0_1_n_n = DotDims.plain 512 2048 1024 := rfl

/-- Index of a row inserted at the summed column. -/
theorem lift_row (a : Fin 512) (j : Fin 2048) : (reduces_S512x2048_S512).lift (ix1 a) j = ix2 a j := by
  funext x; apply Fin.ext
  match x with
  | ⟨0, _⟩ => rfl
  | ⟨1, _⟩ => rfl

/-- A column spread over all columns. -/
theorem spread_col (g : FVec Ideal S512x1 .f32) (a : Fin 512) (k : Fin 2048) :
    broadcastTo S512x2048 g broadcasts_S512x1_S512x2048 (ix2 a k) = g (ix2 a (0 : Fin 1)) := by
  refine broadcastTo_apply _ broadcasts_S512x1_S512x2048 (ix2 a k) (ix2 a (0 : Fin 1)) fun x => ?_
  match x with
  | ⟨0, _⟩ => rfl
  | ⟨1, _⟩ => rfl

/-- A row spread over all rows. -/
theorem spread_row (g : FVec Ideal S1x2048 .f32) (a : Fin 512) (k : Fin 2048) :
    broadcastTo S512x2048 g broadcasts_S1x2048_S512x2048 (ix2 a k) = g (ix2 (0 : Fin 1) k) := by
  refine broadcastTo_apply _ broadcasts_S1x2048_S512x2048 (ix2 a k) (ix2 (0 : Fin 1) k) fun x => ?_
  match x with
  | ⟨0, _⟩ => rfl
  | ⟨1, _⟩ => rfl

/-- A list of rows' numbers made a column. -/
theorem col_cast (f : FVec Ideal S512 .f32) (a : Fin 512) :
    (shapeCast S512x1 f shapeCasts_S512_S512x1 : FVec Ideal S512x1 .f32) (ix2 a (0 : Fin 1)) = f (ix1 a) :=
  shapeCast_apply f shapeCasts_S512_S512x1 (ix2 a (0 : Fin 1)) (ix1 a) (by
    rw [Shape.rowMajor_val_one, Shape.rowMajor_val_two]
    show a.val = a.val * 1 + 0
    omega)

/-- A row with a leading axis of one less. -/
theorem row_cast (v : Vec Ideal S1x1x2048 .f32) (k : Fin 2048) :
    (shapeCast S1x2048 v shapeCasts_S1x1x2048_S1x2048 : Vec Ideal S1x2048 .f32) (ix2 (0 : Fin 1) k) = v (ix3 (0 : Fin 1) (0 : Fin 1) k) :=
  shapeCast_apply v shapeCasts_S1x1x2048_S1x2048 (ix2 (0 : Fin 1) k) (ix3 (0 : Fin 1) (0 : Fin 1) k) (by
    rewrite [Shape.rowMajor_val_two, Shape.rowMajor_val_three]; show (0 * 1 + 0) * 2048 + k.val = 0 * 2048 + k.val; omega)

/-- The sum of a row's squares. -/
theorem squares (x : FVec Ideal S512x2048 .f32) (a : Fin 512) :
    (multiReduction .add [1] S512 (mulf x x) 0x00000000#32 reduces_S512x2048_S512 (.inl rfl) rfl : FVec Ideal S512 .f32) (ix1 a)
      = ∑ j : Fin 2048, x (ix2 a j) * x (ix2 a j) := by
  refine (Ideal.multiReduction_add_single (mulf x x) 0x00000000#32 reduces_S512x2048_S512 (.inl rfl) rfl (ix1 a)).trans ?_
  exact Finset.sum_congr rfl fun j _ => congrArg (mulf x x) (lift_row a j)

/-- What a stretch's first point stores: the rows of its block, normalised and modulated. -/
theorem pay_norm (x0 : Vec Ideal S512x2048 .f32) (x1 : Vec Ideal S1x2048 .f32) (x2 x3 : Vec Ideal S1x1x2048 .f32) (a : Fin 512) (k : Fin 2048) :
    k0_pay1 x0 x1 x3 x2 (ix2 a k)
      = modulated (fun j => x0 (ix2 a j)) (fun j => x1 (ix2 (0 : Fin 1) j)) (fun j => x3 (ix3 (0 : Fin 1) (0 : Fin 1) j))
          (fun j => x2 (ix3 (0 : Fin 1) (0 : Fin 1) j)) k := by
  unfold k0_pay1
  dsimp only
  refine (shapeCast_apply _ shapeCasts_S512x2048_S512x2048 (ix2 a k) (ix2 a k) rfl).trans ?_
  refine congrArg₂ (fun p q : EReal => p + q) (congrArg₂ (fun p q : EReal => p * q) (congrArg₂ (fun p q : EReal => p * q)
    (congrArg (fun p : EReal => x0 (ix2 a k) * p) ((spread_col _ a k).trans ?_)) ((spread_row _ a k).trans ?_)) ((spread_row _ a k).trans ?_))
    ((spread_row _ a k).trans (row_cast x2 k))
  · show Ideal.rsqrt (Ideal.div ((shapeCast S512x1 _ shapeCasts_S512_S512x1 : FVec Ideal S512x1 .f32) (ix2 a (0 : Fin 1))) (Ideal.ofBits .f32 0x45000000#32)
      + Ideal.ofBits .f32 0x358637BD#32) = _
    rw [col_cast, squares]
  · exact shapeCast_apply x1 shapeCasts_S1x2048_S1x2048 (ix2 (0 : Fin 1) k) (ix2 (0 : Fin 1) k) rfl
  · exact congrArg (fun p : EReal => Ideal.ofBits .f32 0x3F800000#32 + p) (row_cast x3 k)

/-- What a point writes: the buffer's rows times its columns. -/
theorem pay_prod (y : Vec Ideal S512x2048 .bf16) (x4 : Vec Ideal S2048x1024 .bf16) (a : Fin 512) (f : Fin 1024) :
    k0_pay2 y x4 (ix2 a f) = ∑ k : Fin 2048, y (ix2 a k) * x4 (ix2 k f) := by
  unfold k0_pay2
  show FloatOps.matmul (F := Ideal) _ none _ _ _ (ix2 a f) = _
  rw [dot_plain, Ideal.matmul_plain_apply]
  show Ideal.ofBits .f32 0x00000000#32 + _ = _
  rw [Ideal.ofBits_zero_f32, zero_add]
  exact Finset.sum_congr rfl fun k _ => congrArg (fun p : EReal => y (ix2 a k) * p)
    (shapeCast_apply x4 shapeCasts_S2048x1024_S2048x1024 (ix2 k f) (ix2 k f) rfl)

/-! ## The blocks -/

variable (m : (ℓ : Loc nD τ sig) → Buf (Elt Ideal) ℓ) (ρ : Dev nD → PrngReg)

/-- The arguments: tokens, norm weights, shifts, scales, weights. -/
abbrev argX (c : Dev nD) : S16384x2048.Idx → EReal := m ((c : Thread nD τ).loc main_arg0)
abbrev argG (c : Dev nD) : S2048.Idx → EReal := m ((c : Thread nD τ).loc main_arg1)
abbrev argSh (c : Dev nD) : S8x2048.Idx → EReal := m ((c : Thread nD τ).loc main_arg2)
abbrev argSc (c : Dev nD) : S8x2048.Idx → EReal := m ((c : Thread nD τ).loc main_arg3)
abbrev argW (c : Dev nD) : S2048x2048.Idx → EReal := m ((c : Thread nD τ).loc main_arg4)

/-- A grid point is below the number of points. -/
theorem hN (t : Fin cfg0.N) : t.val < 64 := lt_of_lt_of_eq t.isLt (N_0 : cfg0.N = 64)

/-- Which row of the scales and shifts block of rows `s` takes. -/
def blockRow (s : ℕ) : ℕ := if s < 16 then 0 else 1 + (s - 16) / 4

/-- Each window's block index at each point. -/
theorem idx : ∀ t : Fin cfg0.N, win0_0.index t = ![t.val / 2, 0] ∧ win0_1.index t = ![0, 0] ∧ win0_2.index t = ![blockRow (t.val / 2), 0, 0]
    ∧ win0_3.index t = ![blockRow (t.val / 2), 0, 0] ∧ win0_4.index t = ![0, t.val % 2] ∧ win0_5.index t = ![t.val / 2, t.val % 2] :=
  (by decide +kernel : ∀ t : Fin grid0.N, _)

/-- A token of a block of rows takes the block's row of the scales and shifts. -/
theorem tokenRow_val (s : ℕ) (hs : s < 32) (a : Fin 512) : (tokenRow ⟨512 * s + a.val, by omega⟩).val = blockRow s := by
  unfold blockRow
  show (if 512 * s + a.val < 8192 then 0 else 1 + (512 * s + a.val - 8192) / 2048) = _
  by_cases h : s < 16
  · rw [if_pos (by omega), if_pos h]
  · rw [if_neg (by omega), if_neg h]; omega

/-- The norm weights the region finds are the argument's, with a leading axis of one. -/
theorem found_g (c : Dev nD) : (V m c main_v0 : S1x2048.Idx → EReal) = shapeCast S1x2048 (argG m c) shapeCasts_S2048_S1x2048 := by
  show StableHlo.after _ _ _ = _
  after_results
  rfl

/-- The shifts the region finds are the argument's, with an axis of one between. -/
theorem found_sh (c : Dev nD) : (V m c main_v1 : S8x1x2048.Idx → EReal) = broadcastInDim S8x1x2048 ![0, 2] bcast_S8x2048_S8x1x2048_0_2 (argSh m c) := by
  show StableHlo.after _ _ _ = _
  after_results

/-- Likewise the scales. -/
theorem found_sc (c : Dev nD) : (V m c main_v2 : S8x1x2048.Idx → EReal) = broadcastInDim S8x1x2048 ![0, 2] bcast_S8x2048_S8x1x2048_0_2 (argSc m c) := by
  show StableHlo.after _ _ _ = _
  after_results

/-- The weights the region finds are the argument's: the host's rounding is exact here. -/
theorem found_w (c : Dev nD) : (V m c main_v3 : S2048x2048.Idx → EReal) = argW m c := by
  show StableHlo.after _ _ _ = _
  after_results
  rfl

/-- Point `t`'s block of rows. -/
theorem blk_x (c : Dev nD) (t : Fin cfg0.N) (a : Fin 512) (k : Fin 2048) :
    (iblk m c 0 t : Vec Ideal S512x2048 .f32) (ix2 a k) = argX m c (ix2 (⟨512 * (t.val / 2) + a.val, by have := hN t; omega⟩ : Fin 16384) k) := by
  blk_simp [iblk]
  refine congrArg (argX m c) (funext fun b => Fin.ext ?_)
  match b with
  | ⟨0, _⟩ => show win0_0.index t 0 * 512 + 1 * a.val = 512 * (t.val / 2) + a.val
              rw [(idx t).1]; show t.val / 2 * 512 + 1 * a.val = _; omega
  | ⟨1, _⟩ => show win0_0.index t 1 * 2048 + 1 * k.val = k.val
              rw [(idx t).1]; show 0 * 2048 + 1 * k.val = _; omega

/-- The norm weights, the same at every point. -/
theorem blk_g (c : Dev nD) (t : Fin cfg0.N) (k : Fin 2048) :
    (iblk m c 1 t : Vec Ideal S1x2048 .f32) (ix2 (0 : Fin 1) k) = argG m c (ix1 k) := by
  refine Eq.trans (b := (V m c main_v0 : S1x2048.Idx → EReal) (ix2 (0 : Fin 1) k)) ?_ ((congrFun (found_g m c) _).trans ?_)
  · refine congrArg (V m c main_v0 : S1x2048.Idx → EReal) (funext fun b => Fin.ext ?_)
    match b with
    | ⟨0, _⟩ => show win0_1.index t 0 * 1 + 1 * 0 = 0
                rw [(idx t).2.1]; rfl
    | ⟨1, _⟩ => show win0_1.index t 1 * 2048 + 1 * k.val = k.val
                rw [(idx t).2.1]; show 0 * 2048 + 1 * k.val = _; omega
  · exact shapeCast_apply (argG m c) shapeCasts_S2048_S1x2048 (ix2 (0 : Fin 1) k) (ix1 k) (by
      rw [Shape.rowMajor_val_one, Shape.rowMajor_val_two]; show k.val = 0 * 2048 + k.val; omega)

/-- An array with an axis of one between, read without it. -/
theorem between (v : S8x2048.Idx → EReal) (e : Fin 8) (k : Fin 2048) :
    broadcastInDim S8x1x2048 ![0, 2] bcast_S8x2048_S8x1x2048_0_2 v (ix3 e (0 : Fin 1) k) = v (ix2 e k) :=
  broadcastInDim_apply _ bcast_S8x2048_S8x1x2048_0_2 v (ix3 e (0 : Fin 1) k) (ix2 e k) (fun b => match b with
    | ⟨0, _⟩ => by show e.val = if (8 : Nat) = 1 then 0 else e.val; rw [if_neg (by decide)]
    | ⟨1, _⟩ => by show k.val = if (2048 : Nat) = 1 then 0 else k.val; rw [if_neg (by decide)])

/-- Point `t`'s shift: the row its tokens take. -/
theorem blk_sh (c : Dev nD) (t : Fin cfg0.N) (e : Fin 8) (he : e.val = blockRow (t.val / 2)) (k : Fin 2048) :
    (iblk m c 2 t : Vec Ideal S1x1x2048 .f32) (ix3 (0 : Fin 1) (0 : Fin 1) k) = argSh m c (ix2 e k) := by
  refine Eq.trans (b := (V m c main_v1 : S8x1x2048.Idx → EReal) (ix3 e (0 : Fin 1) k)) ?_
    ((congrFun (found_sh m c) _).trans (between (argSh m c) e k))
  refine congrArg (V m c main_v1 : S8x1x2048.Idx → EReal) (funext fun b => Fin.ext ?_)
  match b with
  | ⟨0, _⟩ => show win0_2.index t 0 * 1 + 1 * 0 = e.val
              rw [(idx t).2.2.1, he]; show blockRow (t.val / 2) * 1 + 1 * 0 = _; omega
  | ⟨1, _⟩ => show win0_2.index t 1 * 1 + 1 * 0 = 0
              rw [(idx t).2.2.1]; rfl
  | ⟨2, _⟩ => show win0_2.index t 2 * 2048 + 1 * k.val = k.val
              rw [(idx t).2.2.1]; show 0 * 2048 + 1 * k.val = _; omega

/-- Point `t`'s scale, likewise. -/
theorem blk_sc (c : Dev nD) (t : Fin cfg0.N) (e : Fin 8) (he : e.val = blockRow (t.val / 2)) (k : Fin 2048) :
    (iblk m c 3 t : Vec Ideal S1x1x2048 .f32) (ix3 (0 : Fin 1) (0 : Fin 1) k) = argSc m c (ix2 e k) := by
  refine Eq.trans (b := (V m c main_v2 : S8x1x2048.Idx → EReal) (ix3 e (0 : Fin 1) k)) ?_
    ((congrFun (found_sc m c) _).trans (between (argSc m c) e k))
  refine congrArg (V m c main_v2 : S8x1x2048.Idx → EReal) (funext fun b => Fin.ext ?_)
  match b with
  | ⟨0, _⟩ => show win0_3.index t 0 * 1 + 1 * 0 = e.val
              rw [(idx t).2.2.2.1, he]; show blockRow (t.val / 2) * 1 + 1 * 0 = _; omega
  | ⟨1, _⟩ => show win0_3.index t 1 * 1 + 1 * 0 = 0
              rw [(idx t).2.2.2.1]; rfl
  | ⟨2, _⟩ => show win0_3.index t 2 * 2048 + 1 * k.val = k.val
              rw [(idx t).2.2.2.1]; show 0 * 2048 + 1 * k.val = _; omega

/-- Point `t`'s block of weights. -/
theorem blk_w (c : Dev nD) (t : Fin cfg0.N) (k : Fin 2048) (f : Fin 1024) :
    (iblk m c 4 t : Vec Ideal S2048x1024 .bf16) (ix2 k f) = argW m c (ix2 k (⟨1024 * (t.val % 2) + f.val, by omega⟩ : Fin 2048)) := by
  refine Eq.trans (b := (V m c main_v3 : S2048x2048.Idx → EReal) (ix2 k (⟨1024 * (t.val % 2) + f.val, by omega⟩ : Fin 2048))) ?_
    (congrFun (found_w m c) _)
  refine congrArg (V m c main_v3 : S2048x2048.Idx → EReal) (funext fun b => Fin.ext ?_)
  match b with
  | ⟨0, _⟩ => show win0_4.index t 0 * 2048 + 1 * k.val = k.val
              rw [(idx t).2.2.2.2.1]; show 0 * 2048 + 1 * k.val = _; omega
  | ⟨1, _⟩ => show win0_4.index t 1 * 1024 + 1 * f.val = 1024 * (t.val % 2) + f.val
              rw [(idx t).2.2.2.2.1]; show t.val % 2 * 1024 + 1 * f.val = _; omega

/-! ## The buffer -/

/-- What a stretch's first point stores, on the blocks that point `t` finds. -/
def rows (c : Dev nD) (t : Fin cfg0.N) : Vec Ideal S512x2048 .bf16 :=
  k0_pay1 (iblk m c 0 t) (iblk m c 1 t) (iblk m c 3 t) (iblk m c 2 t)

/-- At a row and a column: the block's row, normalised and modulated. -/
theorem rows_apply (c : Dev nD) (t : Fin cfg0.N) (a : Fin 512) (k : Fin 2048) :
    rows m c t (ix2 a k) = row (argX m c) (argG m c) (argSh m c) (argSc m c) ⟨512 * (t.val / 2) + a.val, by have := hN t; omega⟩ k := by
  have ht : t.val / 2 < 32 := by have := hN t; omega
  have he := tokenRow_val (t.val / 2) ht a
  unfold rows row
  rw [pay_norm]
  simp only [blk_x, blk_g, blk_sh m c t _ he, blk_sc m c t _ he]

/-- AFTER EVERY POINT the buffer holds what the first point of its stretch stored. -/
theorem carried (c : Dev nD) : ∀ (n : ℕ) (hn : n < cfg0.N),
    (outsAt0 m c n hn).2 = rows m c ⟨2 * (n / 2), lt_of_le_of_lt (Nat.mul_div_le n 2) hn⟩
  | n, hn => by
    by_cases h : n % 2 = 0
    · have e : (⟨2 * (n / 2), lt_of_le_of_lt (Nat.mul_div_le n 2) hn⟩ : Fin cfg0.N) = ⟨n, hn⟩ := Fin.ext (by show 2 * (n / 2) = n; omega)
      rw [e]
      refine Eq.trans (congrArg Prod.snd (outsAt0_A m c ⟨n, hn⟩ h)) ?_
      frame_out
      rfl
    · have hp : n - 1 < cfg0.N := lt_of_le_of_lt (Nat.sub_le n 1) hn
      have e : (⟨2 * (n / 2), lt_of_le_of_lt (Nat.mul_div_le n 2) hn⟩ : Fin cfg0.N)
          = ⟨2 * ((n - 1) / 2), lt_of_le_of_lt (Nat.mul_div_le (n - 1) 2) hp⟩ :=
        Fin.ext (by show 2 * (n / 2) = 2 * ((n - 1) / 2); omega)
      rw [e, ← carried c (n - 1) hp]
      refine Eq.trans (congrArg Prod.snd (outsAt0_B m c ⟨n, hn⟩ h)) ?_
      unfold sout0_B_0
      rfl
termination_by n => n
decreasing_by omega

/-- What a point writes: the buffer, as the stretch's first point stored it, times the point's columns. -/
theorem written (c : Dev nD) (t : Fin cfg0.N) :
    (outsAt0 m c t.val t.isLt).1 = k0_pay2 (rows m c ⟨2 * (t.val / 2), lt_of_le_of_lt (Nat.mul_div_le t.val 2) t.isLt⟩) (iblk m c 4 t) := by
  by_cases h : t.val % 2 = 0
  · have e : (⟨2 * (t.val / 2), lt_of_le_of_lt (Nat.mul_div_le t.val 2) t.isLt⟩ : Fin cfg0.N) = t := Fin.ext (by show 2 * (t.val / 2) = t.val; omega)
    rw [e]
    refine Eq.trans (congrArg Prod.fst (outsAt0_A m c t h)) ?_
    frame_out
    rfl
  · have hp : t.val - 1 < cfg0.N := lt_of_le_of_lt (Nat.sub_le t.val 1) t.isLt
    have e : (⟨2 * (t.val / 2), lt_of_le_of_lt (Nat.mul_div_le t.val 2) t.isLt⟩ : Fin cfg0.N)
        = ⟨2 * ((t.val - 1) / 2), lt_of_le_of_lt (Nat.mul_div_le (t.val - 1) 2) hp⟩ :=
      Fin.ext (by show 2 * (t.val / 2) = 2 * ((t.val - 1) / 2); omega)
    rw [e, ← carried m c (t.val - 1) hp]
    refine Eq.trans (congrArg Prod.fst (outsAt0_B m c t h)) ?_
    frame_out
    rw [read_unread_whole]

/-! ## The whole result -/

/-- The block a point writes, as part of the whole result. -/
theorem written_at (c : Dev nD) (t : Fin cfg0.N) (y : S512x1024.Idx) (i : S16384x2048.Idx)
    (h0 : (i 0).val = 512 * (t.val / 2) + (y 0).val) (h1 : (i 1).val = 1024 * (t.val % 2) + (y 1).val) :
    (outsAt0 m c t.val t.isLt).1 y = outAt (argX m c) (argG m c) (argSh m c) (argSc m c) (argW m c) i := by
  have ht := hN t
  have hy0 : (y 0).val < 512 := (y 0).isLt
  have hy1 : (y 1).val < 1024 := (y 1).isLt
  have ey : y = ix2 (n0 := 512) (n1 := 1024) (y 0) (y 1) := funext fun b => match b with | ⟨0, _⟩ => rfl | ⟨1, _⟩ => rfl
  rw [written]
  refine (congrArg _ ey).trans ((pay_prod _ _ (y 0) (y 1)).trans ?_)
  unfold outAt
  refine Finset.sum_congr rfl fun k _ => ?_
  refine congrArg₂ (fun p q : EReal => p * q) ((rows_apply m c _ (y 0) k).trans ?_) ((blk_w m c t k (y 1)).trans ?_)
  · refine congrArg (fun r => row (argX m c) (argG m c) (argSh m c) (argSc m c) r k) (Fin.ext ?_)
    show 512 * (2 * (t.val / 2) / 2) + (y 0).val = (i 0).val
    omega
  · refine congrArg (fun q : Fin 2048 => argW m c (ix2 k q)) (Fin.ext ?_)
    show 1024 * (t.val % 2) + (y 1).val = (i 1).val
    omega

/-- The result after the run. -/
theorem arr_out (c : Dev nD) : (dats m 0 c).arrAt 5 cfg0.N = outAt (argX m c) (argG m c) (argSh m c) (argSc m c) (argW m c) := by
  refine (dats m 0 c).arrAt_eq_of_covers 5 _ (by decide +kernel) fun t hf y => ?_
  rw [after0_5]
  refine written_at m c t y _ ?_ ?_
  · show win0_5.index t 0 * 512 + 1 * (y 0).val = _
    rw [(idx t).2.2.2.2.2]; show t.val / 2 * 512 + 1 * (y 0).val = _; omega
  · show win0_5.index t 1 * 1024 + 1 * (y 1).val = _
    rw [(idx t).2.2.2.2.2]; show t.val % 2 * 1024 + 1 * (y 1).val = _; omega

/-- THE KERNEL'S RUN: the result is the product, the arguments are unchanged. -/
theorem run : θ_run defs (onTc (τ := τ) (main (F := Ideal))) ⟨m, fun _ => 0, ρ⟩ fun r => ∀ c : Dev nD,
      r.2.mem ((c : Thread nD τ).loc main_v4) = outAt (argX m c) (argG m c) (argSh m c) (argSc m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (arr_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.PoolInIdeal.Proj

end
-- ==== Proof.PoolInRef.lean ====
/- What the reference of the input projection of the pooling mixer computes, element by element: each token's row, normalised and
   modulated by its row of the scales and shifts, times the weights. -/
module

public import proofs.«01_k».proof.Proof.PoolInValue
public import proofs.«01_k».proof.Proof.Gen.PoolInRefIdeal.Run
public import proofs.«01_k».proof.Proof.Gen.PoolInRefIdeal.Read
public import Idealize.ShloMosaic.Lib.KernelVsHost
public import Idealize.ShloMosaic.Lib.Pipeline.Value

@[expose] public section

set_option maxRecDepth 16384

noncomputable section

namespace Cert.PoolInRef

open Idealize.ShloMosaic hiding ix1 ix2 ix3
open Idealize.ShloMosaic.TcCoe Idealize.SL.Sem Idealize.ShloMosaic.ValueIdx
open Cert.PoolInRefIdeal Cert.PoolInRefIdeal.Gen Cert.PoolInRefIdeal.Read Cert.NormRow

variable (x : S16384x2048.Idx → EReal) (g : S2048.Idx → EReal) (sh sc : S8x2048.Idx → EReal) (w : S2048x2048.Idx → EReal)

/-- The shift of a prompt's token, -/
theorem shift_ctx (r : Fin 8192) (k : Fin 2048) : val_main_v2 (F := Ideal) sh (ix2 r k) = sh (ix2 (0 : Fin 8) k) := by
  rw [val_main_v2_apply, val_main_v1_apply, val_main_v0_apply]
  refine congrArg sh (funext fun b => Fin.ext ?_)
  match b with
  | ⟨0, _⟩ => rfl
  | ⟨1, _⟩ => show k.val % 2048 = k.val; omega

/-- and of a latent sequence's. -/
theorem shift_lat (r : Fin 8192) (k : Fin 2048) :
    val_main_v6 (F := Ideal) sh (ix2 r k) = sh (ix2 (⟨1 + r.val / 2048, by omega⟩ : Fin 8) k) := by
  rw [val_main_v6_apply, val_main_v5_apply, val_main_v4_apply, val_main_v3_apply]
  refine congrArg sh (funext fun b => Fin.ext ?_)
  match b with
  | ⟨0, _⟩ => show 1 + (r.val * 2048 + k.val) / 4194304 = 1 + r.val / 2048; omega
  | ⟨1, _⟩ => show (r.val * 2048 + k.val) % 2048 = k.val; omega

/-- The scale of a prompt's token, -/
theorem scale_ctx (r : Fin 8192) (k : Fin 2048) : val_main_v10 (F := Ideal) sc (ix2 r k) = sc (ix2 (0 : Fin 8) k) := by
  rw [val_main_v10_apply, val_main_v9_apply, val_main_v8_apply]
  refine congrArg sc (funext fun b => Fin.ext ?_)
  match b with
  | ⟨0, _⟩ => rfl
  | ⟨1, _⟩ => show k.val % 2048 = k.val; omega

/-- and of a latent sequence's. -/
theorem scale_lat (r : Fin 8192) (k : Fin 2048) :
    val_main_v14 (F := Ideal) sc (ix2 r k) = sc (ix2 (⟨1 + r.val / 2048, by omega⟩ : Fin 8) k) := by
  rw [val_main_v14_apply, val_main_v13_apply, val_main_v12_apply, val_main_v11_apply]
  refine congrArg sc (funext fun b => Fin.ext ?_)
  match b with
  | ⟨0, _⟩ => show 1 + (r.val * 2048 + k.val) / 4194304 = 1 + r.val / 2048; omega
  | ⟨1, _⟩ => show (r.val * 2048 + k.val) % 2048 = k.val; omega

/-- Two arrays of 8192 rows one above the other, the second's rows being taken by latent tokens: at a token's row, where
    each reads the row of a table that its tokens take, the two together read the table at the token's row. -/
theorem stacked (v : S8x2048.Idx → EReal) (p q : S8192x2048.Idx → EReal)
    (hp : ∀ (r : Fin 8192) (k : Fin 2048), p (ix2 r k) = v (ix2 (0 : Fin 8) k))
    (hq : ∀ (r : Fin 8192) (k : Fin 2048), q (ix2 r k) = v (ix2 (⟨1 + r.val / 2048, by omega⟩ : Fin 8) k))
    (r : Fin 16384) (k : Fin 2048) :
    concatenate S16384x2048 0 [⟨S8192x2048, p⟩, ⟨S8192x2048, q⟩] concatenates_S8192x2048_S8192x2048_S16384x2048_d0 (ix2 r k)
      = v (ix2 (tokenRow r) k) := by
  by_cases h : r.val < 8192
  · refine (concatenate_pair_apply_left (0 : Fin S16384x2048.rank) p q concatenates_S8192x2048_S8192x2048_S16384x2048_d0 (ix2 r k) rfl
      (ix2 (⟨r.val, h⟩ : Fin 8192) k) (fun b => match b with | ⟨0, _⟩ => rfl | ⟨1, _⟩ => rfl)).trans ((hp _ k).trans ?_)
    refine congrArg (fun e : Fin 8 => v (ix2 e k)) (Fin.ext ?_)
    show 0 = if r.val < 8192 then 0 else 1 + (r.val - 8192) / 2048
    rw [if_pos h]
  · refine (concatenate_pair_apply_right (0 : Fin S16384x2048.rank) p q concatenates_S8192x2048_S8192x2048_S16384x2048_d0 (ix2 r k) rfl rfl
      (ix2 (⟨r.val - 8192, by omega⟩ : Fin 8192) k) (fun b hb => match b, hb with | ⟨0, _⟩, hb => absurd rfl hb | ⟨1, _⟩, _ => rfl) ?_).trans
      ((hq _ k).trans ?_)
    · show r.val - 8192 + 8192 = r.val; omega
    · refine congrArg (fun e : Fin 8 => v (ix2 e k)) (Fin.ext ?_)
      show 1 + (r.val - 8192) / 2048 = if r.val < 8192 then 0 else 1 + (r.val - 8192) / 2048
      rw [if_neg h]

/-- The shift of any token, -/
theorem shift_at (r : Fin 16384) (k : Fin 2048) : val_main_v7 (F := Ideal) sh (ix2 r k) = sh (ix2 (tokenRow r) k) :=
  stacked sh _ _ (shift_ctx sh) (shift_lat sh) r k

/-- and its scale. -/
theorem scale_at (r : Fin 16384) (k : Fin 2048) : val_main_v15 (F := Ideal) sc (ix2 r k) = sc (ix2 (tokenRow r) k) :=
  stacked sc _ _ (scale_ctx sc) (scale_lat sc) r k

/-- The sum of a row's squares. -/
theorem squares_at (r : Fin 16384) : val_main_v17 (F := Ideal) x (ix1 r) = ∑ j : Fin 2048, x (ix2 r j) * x (ix2 r j) := by
  rw [val_main_v17_apply]
  show Ideal.ofBits .f32 0x00000000#32 + _ = _
  rw [Ideal.ofBits_zero_f32, zero_add]
  refine Finset.sum_congr rfl fun j _ => ?_
  have e : idx_main_v17 (ix1 r) j = ix2 r j := funext fun b => match b with | ⟨0, _⟩ => rfl | ⟨1, _⟩ => rfl
  rw [e]
  rfl

/-- A row over its root mean square. -/
theorem normed_at (r : Fin 16384) (k : Fin 2048) : val_main_v25 (F := Ideal) x (ix2 r k) = normed (fun j => x (ix2 r j)) k := by
  rw [val_main_v25_apply, val_main_v24_apply, val_main_v23_apply, val_main_v22_apply, val_main_v20_apply, val_main_v18_apply,
    val_main_v19_apply, val_main_v21_apply]
  have e : idx_main_v18 (idx_main_v24 (ix2 r k)) = ix1 r := funext fun b => match b with | ⟨0, _⟩ => rfl
  rw [e, squares_at]
  rfl

/-- The norm's weights. -/
theorem weight_at (r : Fin 16384) (k : Fin 2048) : val_main_v27 (F := Ideal) g (ix2 r k) = g (ix1 k) := by
  rw [val_main_v27_apply, val_main_v26_apply]
  exact congrArg g (funext fun b => match b with | ⟨0, _⟩ => rfl)

/-- A row, normalised and modulated. -/
theorem row_at (r : Fin 16384) (k : Fin 2048) :
    val_main_v32 (F := Ideal) x g sh sc (ix2 r k) = Cert.PoolInIdeal.Proj.row x g sh sc r k := by
  rw [val_main_v32_apply, val_main_v31_apply, val_main_v28_apply, val_main_v30_apply, val_main_v29_apply, normed_at, weight_at, shift_at, scale_at]
  rfl

/-- Where the product reads its row, -/
theorem left_ix (r : Fin 16384) (f : Fin 2048) (k : Fin 2048) : lidx_main_v33 (ix2 r f) k = ix2 r k := by
  funext b; match b with | ⟨0, _⟩ => rfl | ⟨1, _⟩ => rfl
/-- and its column. -/
theorem right_ix (r : Fin 16384) (f : Fin 2048) (k : Fin 2048) : ridx_main_v33 (ix2 r f) k = ix2 k f := by
  funext b; match b with | ⟨0, _⟩ => rfl | ⟨1, _⟩ => rfl

/-- An entry of the product. -/
theorem entry (r : Fin 16384) (f : Fin 2048) :
    val_main_v33 (F := Ideal) x g sh sc w (ix2 r f) = Cert.PoolInIdeal.Proj.outAt x g sh sc w (ix2 r f) := by
  rw [val_main_v33_apply]
  show _ = ∑ k : Fin 2048, Cert.PoolInIdeal.Proj.row x g sh sc r k * w (ix2 k f)
  refine Finset.sum_congr rfl fun k _ => ?_
  rw [left_ix, right_ix, row_at]

/-- THE REFERENCE'S RESULT is the product of the normalised rows and the weights. -/
theorem result : val_main_v33 (F := Ideal) x g sh sc w = Cert.PoolInIdeal.Proj.outAt x g sh sc w := by
  funext i
  have e : i = ix2 (n0 := 16384) (n1 := 2048) (i 0) (i 1) := funext fun b => match b with | ⟨0, _⟩ => rfl | ⟨1, _⟩ => rfl
  exact (congrArg (val_main_v33 (F := Ideal) x g sh sc w) e).trans ((entry x g sh sc w (i 0) (i 1)).trans
    (congrArg (Cert.PoolInIdeal.Proj.outAt x g sh sc w) e.symm))

end Cert.PoolInRef

end
-- ==== Proof.OutRow.lean ====
/- One row of a mixer's output: the row's product divided by its root mean square is a number whatever the row holds, so the
   row that the experts' router reads is made of numbers where its weights, scale and shift are. Where they are, a number's
   rounding error, which is zero over the reals, adds nothing to the router's logits. -/
module

public import proofs.«01_k».proof.Proof.NormRow
public import Idealize.ShloMosaic.Lib.ReduceAll
public import Idealize.ShloMosaic.Lib.Routing.OpsPair
public import Idealize.ShloMosaic.Lib.Routing.OpsSet

@[expose] public section

noncomputable section

namespace Cert.OutRow

open Idealize.ShloMosaic Cert.NormRow

/-! ## Numbers -/

/-- A number, not an infinity. -/
def Num (a : EReal) : Prop := ∃ r : ℝ, a = r

/-- A value is a number if its size is below infinity. -/
theorem num_of_bit (a : EReal) (h : Ideal.cmp .olt (max a (-a)) (Ideal.ofBits .f32 0x7F800000#32) = 1#1) : Num a := by
  have hi : Ideal.ofBits .f32 0x7F800000#32 = (⊤ : EReal) := by
    show Ideal.ieee 8 23 0x7F800000#32 = _
    unfold Ideal.ieee
    dsimp only
    rw [if_pos (by decide), if_pos (by decide), if_neg (by decide)]
  rw [hi] at h
  have hl : max a (-a) < ⊤ := by
    by_contra hc
    have : Ideal.cmp .olt (max a (-a)) (⊤ : EReal) = 0#1 := by
      show BitVec.ofBool (decide (max a (-a) < ⊤)) = 0#1
      rw [decide_eq_false hc]; rfl
    rw [this] at h
    exact absurd h (by decide)
  induction a with
  | bot => exact absurd hl (by rw [EReal.neg_bot, max_eq_right bot_le]; exact lt_irrefl _)
  | top => exact absurd hl (by rw [max_eq_left le_top]; exact lt_irrefl _)
  | coe r => exact ⟨r, rfl⟩

theorem Num.add {a b : EReal} (ha : Num a) (hb : Num b) : Num (a + b) := by
  obtain ⟨r, rfl⟩ := ha; obtain ⟨s, rfl⟩ := hb
  exact ⟨r + s, (EReal.coe_add r s).symm⟩

theorem Num.mul {a b : EReal} (ha : Num a) (hb : Num b) : Num (a * b) := by
  obtain ⟨r, rfl⟩ := ha; obtain ⟨s, rfl⟩ := hb
  exact ⟨r * s, (EReal.coe_mul r s).symm⟩

/-- A number less itself is zero. -/
theorem Num.sub_self {a : EReal} (ha : Num a) : a - a = 0 := by
  obtain ⟨r, rfl⟩ := ha
  rw [← EReal.coe_sub, _root_.sub_self]; rfl

/-- The literal 1 is a number, -/
theorem one_num : Num (Ideal.ofBits .f32 0x3F800000#32) := by
  show Num (Ideal.ieee 8 23 0x3F800000#32)
  unfold Ideal.ieee
  dsimp only
  rw [if_neg (by decide), if_neg (by decide)]
  exact ⟨_, rfl⟩

/-- the literal 1e-6 a positive one, -/
theorem eps_pos : ∃ e : ℝ, 0 < e ∧ Ideal.ofBits .f32 0x358637BD#32 = (e : EReal) := by
  show ∃ e : ℝ, 0 < e ∧ Ideal.ieee 8 23 0x358637BD#32 = (e : EReal)
  unfold Ideal.ieee
  dsimp only
  rw [if_neg (by decide), if_neg (by decide)]
  refine ⟨_, ?_, rfl⟩
  rw [if_neg (by decide)]
  positivity

/-- and so is the literal 2048. -/
theorem count_pos : ∃ e : ℝ, 0 < e ∧ Ideal.ofBits .f32 0x45000000#32 = (e : EReal) := by
  show ∃ e : ℝ, 0 < e ∧ Ideal.ieee 8 23 0x45000000#32 = (e : EReal)
  unfold Ideal.ieee
  dsimp only
  rw [if_neg (by decide), if_neg (by decide)]
  refine ⟨_, ?_, rfl⟩
  rw [if_neg (by decide)]
  positivity

/-- A square is not negative. -/
theorem sq_nonneg' (a : EReal) : 0 ≤ a * a := by
  induction a with
  | bot => rw [EReal.bot_mul_bot]; exact le_top
  | top => rw [EReal.top_mul_top]; exact le_top
  | coe r => rw [← EReal.coe_mul]; exact EReal.coe_nonneg.2 (mul_self_nonneg r)

/-- A ROW OVER ITS ROOT MEAN SQUARE is made of numbers, whatever the row holds: an infinite entry makes the mean infinite and
    the inverse root zero. -/
theorem normed_num (x : Fin 2048 → EReal) (k : Fin 2048) : Num (normed x k) := by
  obtain ⟨e, he, hE⟩ := eps_pos
  obtain ⟨n, hn, hN⟩ := count_pos
  unfold normed
  rw [hE, hN]
  have hs : 0 ≤ ∑ j : Fin 2048, x j * x j := Finset.sum_nonneg fun j _ => sq_nonneg' (x j)
  have hk : x k * x k ≤ ∑ j : Fin 2048, x j * x j :=
    Finset.single_le_sum (f := fun j => x j * x j) (fun j _ => sq_nonneg' (x j)) (Finset.mem_univ k)
  generalize (∑ j : Fin 2048, x j * x j) = s at hs hk
  have hd : Ideal.div s (n : EReal) = s * ((n : EReal))⁻¹ := by
    unfold Ideal.div
    rw [if_neg (by exact_mod_cast hn.ne')]
  rw [hd, ← EReal.coe_inv]
  induction s with
  | bot => exact absurd hs (by simp)
  | top =>
    rw [EReal.top_mul_coe_of_pos (inv_pos.2 hn), EReal.top_add_coe]
    show Num (x k * 0)
    rw [mul_zero]
    exact ⟨0, rfl⟩
  | coe s =>
    have hs' : 0 ≤ s := EReal.coe_nonneg.1 hs
    have hp : 0 < s * n⁻¹ + e := by positivity
    have hr : Ideal.rsqrt ((s : EReal) * ((n⁻¹ : ℝ) : EReal) + (e : EReal)) = (((Real.sqrt (s * n⁻¹ + e))⁻¹ : ℝ) : EReal) := by
      rw [← EReal.coe_mul, ← EReal.coe_add]
      show (if s * n⁻¹ + e < 0 then (⊥ : EReal) else if s * n⁻¹ + e = 0 then ⊤ else (((Real.sqrt (s * n⁻¹ + e))⁻¹ : ℝ) : EReal)) = _
      rw [if_neg (not_lt.2 hp.le), if_neg hp.ne']
    rw [hr]
    refine Num.mul ?_ ⟨_, rfl⟩
    generalize x k = a at hk
    induction a with
    | bot => rw [EReal.bot_mul_bot] at hk; exact absurd hk (by simp)
    | top => rw [EReal.top_mul_top] at hk; exact absurd hk (by simp)
    | coe r => exact ⟨r, rfl⟩

/-- A row, normalised and modulated, is made of numbers where the weights, the scale and the shift are. -/
theorem modulated_num (x g sc sh : Fin 2048 → EReal) (k : Fin 2048) (hg : Num (g k)) (hc : Num (sc k)) (hs : Num (sh k)) :
    Num (modulated x g sc sh k) :=
  Num.add (Num.mul (Num.mul (normed_num x k) hg) (Num.add one_num hc)) hs

/-! ## The router's logits -/

/-- The product of a row and a column, each split into a rounded part and the rest of it, where nothing is lost in rounding:
    the parts' products, the product of the two rests left out, add up to the product. -/
theorem parts (h w : Fin 2048 → EReal) (hh : ∀ k, Num (h k)) (hw : ∀ k, Num (w k)) :
    ((∑ k, h k * w k) + ∑ k, (h k - h k) * w k) + ∑ k, h k * (w k - w k) = ∑ k, h k * w k := by
  have e1 : (∑ k, (h k - h k) * w k) = 0 := Finset.sum_eq_zero fun k _ => by rw [(hh k).sub_self, zero_mul]
  have e2 : (∑ k, h k * (w k - w k)) = 0 := Finset.sum_eq_zero fun k _ => by rw [(hw k).sub_self, mul_zero]
  rw [e1, e2, add_zero, add_zero]

/-- A table's column, or zero beyond the table's 32 columns. -/
def padded (w : Fin 32 → EReal) (l : Fin 128) : EReal := if h : l.val < 32 then w ⟨l.val, h⟩ else 0

theorem padded_num (w : Fin 32 → EReal) (hw : ∀ l, Num (w l)) (l : Fin 128) : Num (padded w l) := by
  unfold padded
  by_cases h : l.val < 32
  · rw [dif_pos h]; exact hw _
  · rw [dif_neg h]; exact ⟨0, rfl⟩

/-! ## The rows -/

/-- A token's row after the mixer: the row before it plus the gate times the product's row, normalised. -/
def after (x m g gate : Fin 2048 → EReal) (k : Fin 2048) : EReal := x k + gate k * (normed m k * g k)

/-- The product of a row that lies in two halves with a table's column. -/
def halves (a1 a2 : Fin 1024 → EReal) (w : Fin 2048 → EReal) : EReal :=
  (∑ k : Fin 1024, a1 k * w ⟨k.val, by omega⟩) + ∑ k : Fin 1024, a2 k * w ⟨1024 + k.val, by omega⟩

/-- They are the product of the whole row. -/
theorem halves_eq (a w : Fin 2048 → EReal) :
    halves (fun k => a ⟨k.val, by omega⟩) (fun k => a ⟨1024 + k.val, by omega⟩) w = ∑ k, a k * w k :=
  (Fin.sum_univ_add (a := 1024) (b := 1024) (fun k : Fin (1024 + 1024) => a k * w k)).symm

/-! ## The results

Of the tokens' rows `x`, the product's rows `p`, the weights `g` of the mixer's norm, the gates, the weights `gp` of the
router's norm, the shifts, the scales, and the router's weights and bias. -/

/-- An index of a matrix, -/
abbrev at2 {n m : Nat} (i : Fin n) (j : Fin m) : (⟨2, ![n, m]⟩ : Shape).Idx := ValueIdx.ix2 i j

variable (x : (⟨2, ![16384, 2048]⟩ : Shape).Idx → EReal) (p : Fin 16384 → Fin 2048 → EReal) (g : (⟨1, ![2048]⟩ : Shape).Idx → EReal)
  (gate : (⟨2, ![8, 2048]⟩ : Shape).Idx → EReal) (gp : (⟨1, ![2048]⟩ : Shape).Idx → EReal) (sh sc : (⟨2, ![8, 2048]⟩ : Shape).Idx → EReal)
  (rw : (⟨2, ![2048, 32]⟩ : Shape).Idx → EReal) (rb : (⟨1, ![32]⟩ : Shape).Idx → EReal)

/-- Token `r` after the mixer, at column `k`. -/
def outX (r : Fin 16384) (k : Fin 2048) : EReal :=
  after (fun k => x (at2 r k)) (p r) (fun k => g (ValueIdx.ix1 k)) (fun k => gate (at2 (tokenRow r) k)) k

/-- What the router reads of it. -/
def outH (r : Fin 16384) (k : Fin 2048) : EReal :=
  modulated (outX x p g gate r) (fun k => gp (ValueIdx.ix1 k)) (fun k => sc (at2 (tokenRow r) k)) (fun k => sh (at2 (tokenRow r) k)) k

/-- Its logit at lane `l`: the product with the router's weights plus the bias, and zero beyond the 32 experts. -/
def outL (r : Fin 16384) (l : Fin 128) : EReal :=
  (∑ k : Fin 2048, outH x p g gate gp sh sc r k * padded (fun l => rw (at2 k l)) l) + padded (fun l => rb (ValueIdx.ix1 l)) l

/-- What the router reads is made of numbers where its weights, shifts and scales are. -/
theorem outH_num (hg : ∀ i, Num (gp i)) (hs : ∀ i, Num (sh i)) (hc : ∀ i, Num (sc i)) (r : Fin 16384) (k : Fin 2048) :
    Num (outH x p g gate gp sh sc r k) := modulated_num _ _ _ _ _ (hg _) (hc _) (hs _)

end Cert.OutRow

end
-- ==== Proof.AbOutValue.lean ====
/-
  What the output of the attention mixers leaves. A grid point takes 256 rows. It multiplies the two halves of the mixer's rows
  by the two halves of the weights, normalises the product, adds it, gated, to the tokens' rows, normalises and modulates those
  for the router, and multiplies by the router's weights, both split into a rounded part and the rest.
-/
module

public import proofs.«01_k».proof.Proof.OutRow
public import proofs.«01_k».proof.Proof.Gen.AbOutIdeal.Frame
public import proofs.«01_k».proof.Proof.Gen.AbOutIdeal.Value
public import Idealize.ShloMosaic.Lib.MatmulPlain
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.AbOutIdeal.Out

open Idealize.ShloMosaic hiding ix1 ix2 ix3
open Idealize.ShloMosaic.TcCoe Idealize.SL.Sem Idealize.ShloMosaic.ValueIdx
open Cert.AbOutIdeal Cert.AbOutIdeal.Gen Cert.NormRow Cert.OutRow

/-! ## Layout -/

/-- Index of a row inserted at the summed column. -/
theorem lift_row (a : Fin 256) (j : Fin 2048) : (reduces_S256x2048_S256).lift (ix1 a) j = ix2 a j := by
  funext x; apply Fin.ext
  match x with
  | ⟨0, _⟩ => rfl
  | ⟨1, _⟩ => rfl

/-- A column spread over all columns. -/
theorem spread_col (g : FVec Ideal S256x1 .f32) (a : Fin 256) (k : Fin 2048) :
    broadcastTo S256x2048 g broadcasts_S256x1_S256x2048 (ix2 a k) = g (ix2 a (0 : Fin 1)) := by
  refine broadcastTo_apply _ broadcasts_S256x1_S256x2048 (ix2 a k) (ix2 a (0 : Fin 1)) fun x => ?_
  match x with
  | ⟨0, _⟩ => rfl
  | ⟨1, _⟩ => rfl

/-- A row spread over all rows. -/
theorem spread_row (g : FVec Ideal S1x2048 .f32) (a : Fin 256) (k : Fin 2048) :
    broadcastTo S256x2048 g broadcasts_S1x2048_S256x2048 (ix2 a k) = g (ix2 (0 : Fin 1) k) := by
  refine broadcastTo_apply _ broadcasts_S1x2048_S256x2048 (ix2 a k) (ix2 (0 : Fin 1) k) fun x => ?_
  match x with
  | ⟨0, _⟩ => rfl
  | ⟨1, _⟩ => rfl

/-- The router's bias spread over all rows. -/
theorem spread_bias (g : FVec Ideal S1x128 .f32) (a : Fin 256) (l : Fin 128) :
    broadcastTo S256x128 g broadcasts_S1x128_S256x128 (ix2 a l) = g (ix2 (0 : Fin 1) l) := by
  refine broadcastTo_apply _ broadcasts_S1x128_S256x128 (ix2 a l) (ix2 (0 : Fin 1) l) fun x => ?_
  match x with
  | ⟨0, _⟩ => rfl
  | ⟨1, _⟩ => rfl

/-- A list of rows' numbers made a column. -/
theorem col_cast (f : FVec Ideal S256 .f32) (a : Fin 256) :
    (shapeCast S256x1 f shapeCasts_S256_S256x1 : FVec Ideal S256x1 .f32) (ix2 a (0 : Fin 1)) = f (ix1 a) :=
  shapeCast_apply f shapeCasts_S256_S256x1 (ix2 a (0 : Fin 1)) (ix1 a) (by
    rw [Shape.rowMajor_val_one, Shape.rowMajor_val_two]
    show a.val = a.val * 1 + 0
    omega)

/-- A row with a leading axis of one less. -/
theorem row_cast (v : Vec Ideal S1x1x2048 .f32) (k : Fin 2048) :
    (shapeCast S1x2048 v shapeCasts_S1x1x2048_S1x2048 : Vec Ideal S1x2048 .f32) (ix2 (0 : Fin 1) k) = v (ix3 (0 : Fin 1) (0 : Fin 1) k) :=
  shapeCast_apply v shapeCasts_S1x1x2048_S1x2048 (ix2 (0 : Fin 1) k) (ix3 (0 : Fin 1) (0 : Fin 1) k) (by
    rewrite [Shape.rowMajor_val_two, Shape.rowMajor_val_three]; show (0 * 1 + 0) * 2048 + k.val = 0 * 2048 + k.val; omega)

/-- The sum of a row's squares. -/
theorem squares (x : FVec Ideal S256x2048 .f32) (a : Fin 256) :
    (multiReduction .add [1] S256 (mulf x x) 0x00000000#32 reduces_S256x2048_S256 (.inl rfl) rfl : FVec Ideal S256 .f32) (ix1 a)
      = ∑ j : Fin 2048, x (ix2 a j) * x (ix2 a j) := by
  refine (Ideal.multiReduction_add_single (mulf x x) 0x00000000#32 reduces_S256x2048_S256 (.inl rfl) rfl (ix1 a)).trans ?_
  exact Finset.sum_congr rfl fun j _ => congrArg (mulf x x) (lift_row a j)

/-! ## One point -/

/-- The product of half a block of rows with half the weights is the plain one, -/
theorem dot_half : dot_S256x1024_S1024x2048_S256x2048_1_0_0_1_n_n = DotDims.plain 256 1024 2048 := rfl
/-- and so is the product with the router's weights. -/
theorem dot_router : dot_S256x2048_S2048x128_S256x128_1_0_0_1_n_n = DotDims.plain 256 2048 128 := rfl

/-- One half of a block's product, read. -/
theorem half_apply (v : FVec Ideal S256x1024 .f32) (w : FVec Ideal S1024x2048 .bf16) (a : Fin 256) (f : Fin 2048) :
    matmul (F := Ideal) dot_S256x1024_S1024x2048_S256x2048_1_0_0_1_n_n none (truncf .bf16 v bitsLt_bf16_f32)
        (shapeCast S1024x2048 w shapeCasts_S1024x2048_S1024x2048) (constant S256x2048 .f32 0x00000000#32) (ix2 a f)
      = ∑ k : Fin 1024, v (ix2 a k) * w (ix2 k f) := by
  show FloatOps.matmul (F := Ideal) _ none _ _ _ (ix2 a f) = _
  rw [dot_half, Ideal.matmul_plain_apply]
  show Ideal.ofBits .f32 0x00000000#32 + _ = _
  rw [Ideal.ofBits_zero_f32, zero_add]
  exact Finset.sum_congr rfl fun k _ => congrArg (fun p : EReal => v (ix2 a k) * p)
    (shapeCast_apply w shapeCasts_S1024x2048_S1024x2048 (ix2 k f) (ix2 k f) rfl)

/-- A product with the router's weights, read. -/
theorem router_apply (v : FVec Ideal S256x2048 .bf16) (w : FVec Ideal S2048x128 .bf16) (a : Fin 256) (l : Fin 128) :
    matmul (F := Ideal) dot_S256x2048_S2048x128_S256x128_1_0_0_1_n_n none v
        (shapeCast S2048x128 w shapeCasts_S2048x128_S2048x128) (constant S256x128 .f32 0x00000000#32) (ix2 a l)
      = ∑ k : Fin 2048, v (ix2 a k) * w (ix2 k l) := by
  show FloatOps.matmul (F := Ideal) _ none _ _ _ (ix2 a l) = _
  rw [dot_router, Ideal.matmul_plain_apply]
  show Ideal.ofBits .f32 0x00000000#32 + _ = _
  rw [Ideal.ofBits_zero_f32, zero_add]
  exact Finset.sum_congr rfl fun k _ => congrArg (fun p : EReal => v (ix2 a k) * p)
    (shapeCast_apply w shapeCasts_S2048x128_S2048x128 (ix2 k l) (ix2 k l) rfl)

/-- A block's product: of its rows' two halves and the weights' two halves. -/
def prodAt (v0 : Vec Ideal S256x1024 .f32) (v2 : Vec Ideal S1024x2048 .bf16) (v5 : Vec Ideal S256x1024 .f32) (v7 : Vec Ideal S1024x2048 .bf16)
    (a : Fin 256) (f : Fin 2048) : EReal :=
  (∑ k : Fin 1024, v0 (ix2 a k) * v2 (ix2 k f)) + ∑ k : Fin 1024, v5 (ix2 a k) * v7 (ix2 k f)

/-- What a point stores of the tokens' rows. -/
theorem pay_x (v0 : Vec Ideal S256x1024 .f32) (v2 : Vec Ideal S1024x2048 .bf16) (v5 : Vec Ideal S256x1024 .f32) (v7 : Vec Ideal S1024x2048 .bf16)
    (v11 : Vec Ideal S256x2048 .f32) (v12 : Vec Ideal S1x1x2048 .f32) (v24 : Vec Ideal S1x2048 .f32) (a : Fin 256) (k : Fin 2048) :
    k0_pay2 v0 v2 v5 v7 v11 v12 v24 (ix2 a k)
      = after (fun k => v11 (ix2 a k)) (prodAt v0 v2 v5 v7 a) (fun k => v24 (ix2 (0 : Fin 1) k)) (fun k => v12 (ix3 (0 : Fin 1) (0 : Fin 1) k)) k := by
  have hp : ∀ f, addf (matmul (F := Ideal) dot_S256x1024_S1024x2048_S256x2048_1_0_0_1_n_n none (truncf .bf16 v0 bitsLt_bf16_f32)
        (shapeCast S1024x2048 v2 shapeCasts_S1024x2048_S1024x2048) (constant S256x2048 .f32 0x00000000#32))
      (matmul (F := Ideal) dot_S256x1024_S1024x2048_S256x2048_1_0_0_1_n_n none (truncf .bf16 v5 bitsLt_bf16_f32)
        (shapeCast S1024x2048 v7 shapeCasts_S1024x2048_S1024x2048) (constant S256x2048 .f32 0x00000000#32)) (ix2 a f) = prodAt v0 v2 v5 v7 a f :=
    fun f => congrArg₂ (fun p q : EReal => p + q) (half_apply v0 v2 a f) (half_apply v5 v7 a f)
  unfold k0_pay2
  dsimp only
  refine congrArg (fun q : EReal => v11 (ix2 a k) + q) (congrArg₂ (fun p q : EReal => p * q) ((spread_row _ a k).trans (row_cast v12 k))
    (congrArg₂ (fun p q : EReal => p * q) (congrArg₂ (fun p q : EReal => p * q) (hp k) ((spread_col _ a k).trans ?_))
      ((spread_row _ a k).trans (shapeCast_apply v24 shapeCasts_S1x2048_S1x2048 (ix2 (0 : Fin 1) k) (ix2 (0 : Fin 1) k) rfl))))
  show Ideal.rsqrt (Ideal.div ((shapeCast S256x1 _ shapeCasts_S256_S256x1 : FVec Ideal S256x1 .f32) (ix2 a (0 : Fin 1))) (Ideal.ofBits .f32 0x45000000#32)
      + Ideal.ofBits .f32 0x358637BD#32) = _
  rw [col_cast, squares]
  exact congrArg (fun s : EReal => Ideal.rsqrt (Ideal.div s (Ideal.ofBits .f32 0x45000000#32) + Ideal.ofBits .f32 0x358637BD#32))
    (Finset.sum_congr rfl fun j _ => congrArg₂ (fun p q : EReal => p * q) (hp j) (hp j))

/-- The sums of those rows' squares. -/
theorem pay_squares (v0 : Vec Ideal S256x1024 .f32) (v2 : Vec Ideal S1024x2048 .bf16) (v5 : Vec Ideal S256x1024 .f32) (v7 : Vec Ideal S1024x2048 .bf16)
    (v11 : Vec Ideal S256x2048 .f32) (v12 : Vec Ideal S1x1x2048 .f32) (v24 : Vec Ideal S1x2048 .f32) (a : Fin 256) :
    k0_pay3 v0 v2 v5 v7 v11 v12 v24 (ix2 a (0 : Fin 1))
      = ∑ j : Fin 2048, k0_pay2 v0 v2 v5 v7 v11 v12 v24 (ix2 a j) * k0_pay2 v0 v2 v5 v7 v11 v12 v24 (ix2 a j) := by
  unfold k0_pay3
  rw [col_cast, squares]

/-- What a point stores for the router, of rows and the sums of their squares. -/
theorem pay_h (v30 : FVec Ideal S256x2048 .f32) (v34 : FVec Ideal S256x1 .f32) (v42 : Vec Ideal S1x2048 .f32) (v46 v52 : Vec Ideal S1x1x2048 .f32)
    (a : Fin 256) (hs : v34 (ix2 a (0 : Fin 1)) = ∑ j : Fin 2048, v30 (ix2 a j) * v30 (ix2 a j)) (k : Fin 2048) :
    k0_pay4 v30 v34 v42 v46 v52 (ix2 a k)
      = modulated (fun j => v30 (ix2 a j)) (fun j => v42 (ix2 (0 : Fin 1) j)) (fun j => v46 (ix3 (0 : Fin 1) (0 : Fin 1) j))
          (fun j => v52 (ix3 (0 : Fin 1) (0 : Fin 1) j)) k := by
  unfold k0_pay4
  refine congrArg₂ (fun p q : EReal => p + q) (congrArg₂ (fun p q : EReal => p * q) (congrArg₂ (fun p q : EReal => p * q)
    (congrArg (fun p : EReal => v30 (ix2 a k) * p) ((spread_col _ a k).trans ?_)) ((spread_row _ a k).trans ?_)) ((spread_row _ a k).trans ?_))
    ((spread_row _ a k).trans (row_cast v52 k))
  · exact congrArg (fun s : EReal => Ideal.rsqrt (Ideal.div s (Ideal.ofBits .f32 0x45000000#32) + Ideal.ofBits .f32 0x358637BD#32)) hs
  · exact shapeCast_apply v42 shapeCasts_S1x2048_S1x2048 (ix2 (0 : Fin 1) k) (ix2 (0 : Fin 1) k) rfl
  · exact congrArg (fun p : EReal => Ideal.ofBits .f32 0x3F800000#32 + p) (row_cast v46 k)

/-- What a point stores of the logits, of what it stores for the router. -/
theorem pay_l (v30 : FVec Ideal S256x2048 .f32) (v34 : FVec Ideal S256x1 .f32) (v42 : Vec Ideal S1x2048 .f32) (v46 v52 : Vec Ideal S1x1x2048 .f32)
    (v61 v64 v68 : Vec Ideal S2048x128 .bf16) (v72 : Vec Ideal S1x128 .f32) (a : Fin 256) (l : Fin 128) :
    k0_pay1 (k0_pay5 v30 v34 v42 v46 v52 v61 v64 v68) v72 (ix2 a l)
      = (((∑ k : Fin 2048, k0_pay4 v30 v34 v42 v46 v52 (ix2 a k) * v61 (ix2 k l))
          + ∑ k : Fin 2048, (k0_pay4 v30 v34 v42 v46 v52 (ix2 a k) - k0_pay4 v30 v34 v42 v46 v52 (ix2 a k)) * v64 (ix2 k l))
          + ∑ k : Fin 2048, k0_pay4 v30 v34 v42 v46 v52 (ix2 a k) * v68 (ix2 k l)) + v72 (ix2 (0 : Fin 1) l) := by
  unfold k0_pay1 k0_pay5
  dsimp only
  refine congrArg₂ (fun p q : EReal => p + q) (congrArg₂ (fun p q : EReal => p + q) (congrArg₂ (fun p q : EReal => p + q)
    (router_apply _ v61 a l) (router_apply _ v64 a l)) (router_apply _ v68 a l)) ((spread_bias _ a l).trans ?_)
  exact shapeCast_apply v72 shapeCasts_S1x128_S1x128 (ix2 (0 : Fin 1) l) (ix2 (0 : Fin 1) l) rfl

/-! ## The router's padded weights and bias -/

/-- The router's weights as the host pads them. -/
def padW (u : S2048x32.Idx → EReal) : S2048x128.Idx → EReal :=
  Host.scatter scatter_S2048x128_S1_S2048x32_01_n_1_0 (fun _ b => b)
    (broadcastInDim S2048x128 ![] bcast_S_S2048x128 (constant (F := Ideal) S_ .f32 0x00000000#32))
    (broadcastInDim S1 ![] bcast_S_S1 (constantI S_ 32 0#32)) u

/-- Where an entry of the weights lands: at its own row and column. -/
theorem lands_w (j : S2048x32.Idx) (k : Fin 2048) (l : Fin 128) :
    scatter_S2048x128_S1_S2048x32_01_n_1_0.resultIdx? j (broadcastInDim S1 ![] bcast_S_S1 (constantI S_ 32 0#32)) = some (ix2 k l)
      ↔ (j 0).val = k.val ∧ (j 1).val = l.val := by
  have s0 : scatter_S2048x128_S1_S2048x32_01_n_1_0.start j (broadcastInDim S1 ![] bcast_S_S1 (constantI S_ 32 0#32)) 0 = 0 := rfl
  have s1 : scatter_S2048x128_S1_S2048x32_01_n_1_0.start j (broadcastInDim S1 ![] bcast_S_S1 (constantI S_ 32 0#32)) 1 = 0 := rfl
  have w0 : scatter_S2048x128_S1_S2048x32_01_n_1_0.window j 0 = (j 0).val := rfl
  have w1 : scatter_S2048x128_S1_S2048x32_01_n_1_0.window j 1 = (j 1).val := rfl
  rw [Routing.resultIdx?_eq_some]
  constructor
  · intro h
    have h0 := h 0; have h1 := h 1
    rw [s0, w0] at h0; rw [s1, w1] at h1
    change (0 : Int) + ((j 0).val : Int) = (k.val : Int) at h0
    change (0 : Int) + ((j 1).val : Int) = (l.val : Int) at h1
    omega
  · rintro ⟨h0, h1⟩ b
    match b with
    | ⟨0, _⟩ => exact (congrArg₂ (fun (p : Int) (q : Nat) => p + (q : Int)) s0 w0).trans (by show (0 : Int) + ((j 0).val : Int) = (k.val : Int); omega)
    | ⟨1, _⟩ => exact (congrArg₂ (fun (p : Int) (q : Nat) => p + (q : Int)) s1 w1).trans (by show (0 : Int) + ((j 1).val : Int) = (l.val : Int); omega)

/-- The padded weights, read. -/
theorem padW_apply (u : S2048x32.Idx → EReal) (k : Fin 2048) (l : Fin 128) : padW u (ix2 k l) = padded (fun l => u (ix2 k l)) l := by
  unfold padW padded
  by_cases h : l.val < 32
  · rw [dif_pos h]
    refine Routing.scatter_set_hit _ _ _ u (ix2 k l) _ (fun j hj => ?_) (ix2 k (⟨l.val, h⟩ : Fin 32)) ((lands_w _ k l).2 ⟨rfl, rfl⟩)
    obtain ⟨h0, h1⟩ := (lands_w j k l).1 hj
    refine congrArg u (funext fun b => Fin.ext ?_)
    match b with
    | ⟨0, _⟩ => exact h0
    | ⟨1, _⟩ => exact h1
  · rw [dif_neg h]
    refine (Routing.scatter_set_miss _ _ _ u (ix2 k l) fun j hj => h ?_).trans Ideal.ofBits_zero_f32
    have := ((lands_w j k l).1 hj).2
    have h1 : (j 1).val < 32 := (j 1).isLt
    omega

/-- Where the bias starts: at the first row and column. -/
abbrev origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The router's bias as the host pads it. -/
def padB (u : S32.Idx → EReal) : S1x128.Idx → EReal :=
  Host.scatter scatter_S1x128_S2_S32_0_0_01_0 (fun _ b => b)
    (broadcastInDim S1x128 ![] bcast_S_S1x128 (constant (F := Ideal) S_ .f32 0x00000000#32)) origin u

/-- Where an entry of the bias lands: in its own column. -/
theorem lands_b (j : S32.Idx) (l : Fin 128) :
    scatter_S1x128_S2_S32_0_0_01_0.resultIdx? j origin = some (ix2 (0 : Fin 1) l) ↔ (j 0).val = l.val := by
  have s0 : scatter_S1x128_S2_S32_0_0_01_0.start j origin 0 = 0 := rfl
  have s1 : scatter_S1x128_S2_S32_0_0_01_0.start j origin 1 = 0 := rfl
  have w0 : scatter_S1x128_S2_S32_0_0_01_0.window j 0 = 0 := rfl
  have w1 : scatter_S1x128_S2_S32_0_0_01_0.window j 1 = (j 0).val := rfl
  rw [Routing.resultIdx?_eq_some]
  constructor
  · intro h
    have h1 := h 1
    rw [s1, w1] at h1
    change (0 : Int) + ((j 0).val : Int) = (l.val : Int) at h1
    omega
  · rintro h1 b
    match b with
    | ⟨0, _⟩ => exact (congrArg₂ (fun (p : Int) (q : Nat) => p + (q : Int)) s0 w0).trans rfl
    | ⟨1, _⟩ => exact (congrArg₂ (fun (p : Int) (q : Nat) => p + (q : Int)) s1 w1).trans (by show (0 : Int) + ((j 0).val : Int) = (l.val : Int); omega)

/-- The padded bias, read. -/
theorem padB_apply (u : S32.Idx → EReal) (l : Fin 128) : padB u (ix2 (0 : Fin 1) l) = padded (fun l => u (ix1 l)) l := by
  unfold padB padded
  by_cases h : l.val < 32
  · rw [dif_pos h]
    refine Routing.scatter_set_hit _ _ _ u (ix2 (0 : Fin 1) l) _ (fun j hj => ?_) (ix1 (⟨l.val, h⟩ : Fin 32)) ((lands_b _ l).2 rfl)
    refine congrArg u (funext fun b => Fin.ext ?_)
    match b with
    | ⟨0, _⟩ => exact (lands_b j l).1 hj
  · rw [dif_neg h]
    refine (Routing.scatter_set_miss _ _ _ u (ix2 (0 : Fin 1) l) fun j hj => h ?_).trans Ideal.ofBits_zero_f32
    have := (lands_b j l).1 hj
    have h1 : (j 0).val < 32 := (j 0).isLt
    omega

/-! ## The blocks -/

variable (m : (ℓ : Loc nD τ sig) → Buf (Elt Ideal) ℓ) (ρ : Dev nD → PrngReg)

/-- The arguments: the two halves of the mixer's rows, the weights, the tokens, the norm's weights, the gates, -/
abbrev argA (c : Dev nD) : S16384x1024.Idx → EReal := m ((c : Thread nD τ).loc main_arg0)
abbrev argB (c : Dev nD) : S16384x1024.Idx → EReal := m ((c : Thread nD τ).loc main_arg1)
abbrev argW (c : Dev nD) : S2048x2048.Idx → EReal := m ((c : Thread nD τ).loc main_arg2)
abbrev argX (c : Dev nD) : S16384x2048.Idx → EReal := m ((c : Thread nD τ).loc main_arg3)
abbrev argG (c : Dev nD) : S2048.Idx → EReal := m ((c : Thread nD τ).loc main_arg4)
abbrev argGate (c : Dev nD) : S8x2048.Idx → EReal := m ((c : Thread nD τ).loc main_arg5)
/-- and the router's norm's weights, shifts, scales, weights and bias. -/
abbrev argGp (c : Dev nD) : S2048.Idx → EReal := m ((c : Thread nD τ).loc main_arg6)
abbrev argSh (c : Dev nD) : S8x2048.Idx → EReal := m ((c : Thread nD τ).loc main_arg7)
abbrev argSc (c : Dev nD) : S8x2048.Idx → EReal := m ((c : Thread nD τ).loc main_arg8)
abbrev argRw (c : Dev nD) : S2048x32.Idx → EReal := m ((c : Thread nD τ).loc main_arg9)
abbrev argRb (c : Dev nD) : S32.Idx → EReal := m ((c : Thread nD τ).loc main_arg10)

/-- Row `r` of the product at column `f`, the mixer's row lying in two halves. -/
def prodRow (a b : S16384x1024.Idx → EReal) (w : S2048x2048.Idx → EReal) (r : Fin 16384) (f : Fin 2048) : EReal :=
  halves (fun k => a (ix2 r k)) (fun k => b (ix2 r k)) (fun k => w (ix2 k f))

/-- The product's rows of the arguments. -/
abbrev rows (c : Dev nD) : Fin 16384 → Fin 2048 → EReal := prodRow (argA m c) (argB m c) (argW m c)

/-- A grid point is below the number of points. -/
theorem hN (t : Fin cfg0.N) : t.val < 64 := lt_of_lt_of_eq t.isLt (N_0 : cfg0.N = 64)

/-- Which row of the gates, scales and shifts block of rows `s` takes. -/
def blockRow (s : ℕ) : ℕ := if s < 32 then 0 else 1 + (s - 32) / 8

/-- A token of a block of rows takes the block's row of them. -/
theorem tokenRow_val (s : ℕ) (hs : s < 64) (a : Fin 256) : (tokenRow ⟨256 * s + a.val, by omega⟩).val = blockRow s := by
  unfold blockRow
  show (if 256 * s + a.val < 8192 then 0 else 1 + (256 * s + a.val - 8192) / 2048) = _
  by_cases h : s < 32
  · rw [if_pos (by omega), if_pos h]
  · rw [if_neg (by omega), if_neg h]; omega

/-- Each window's block index at each point. -/
theorem idx_rows : ∀ t : Fin cfg0.N, win0_0.index t = ![t.val, 0] ∧ win0_1.index t = ![t.val, 0] ∧ win0_3.index t = ![t.val, 0]
    ∧ win0_12.index t = ![t.val, 0] ∧ win0_13.index t = ![t.val, 0] ∧ win0_14.index t = ![t.val, 0] :=
  (by decide +kernel : ∀ t : Fin grid0.N, _)
/-- Windows that every point reads whole, -/
theorem idx_whole : ∀ t : Fin cfg0.N, win0_2.index t = ![0, 0] ∧ win0_4.index t = ![0, 0] ∧ win0_6.index t = ![0, 0]
    ∧ win0_9.index t = ![0, 0] ∧ win0_10.index t = ![0, 0] ∧ win0_11.index t = ![0, 0] :=
  (by decide +kernel : ∀ t : Fin grid0.N, _)
/-- and windows of the gates, shifts and scales. -/
theorem idx_seq : ∀ t : Fin cfg0.N, win0_5.index t = ![blockRow t.val, 0, 0] ∧ win0_7.index t = ![blockRow t.val, 0, 0]
    ∧ win0_8.index t = ![blockRow t.val, 0, 0] :=
  (by decide +kernel : ∀ t : Fin grid0.N, _)

/-- Rounding is exact here, -/
theorem round_id (x : FVec Ideal S2048x128 .f32) : (truncf .bf16 x bitsLt_bf16_f32 : S2048x128.Idx → EReal) = x := rfl
/-- and what it leaves is the difference of a number and itself. -/
theorem rest_id (x : FVec Ideal S2048x128 .f32) :
    (truncf .bf16 (subf x (extf .f32 (truncf .bf16 x bitsLt_bf16_f32) bitsLt_bf16_f32)) bitsLt_bf16_f32 : S2048x128.Idx → EReal) = fun i => x i - x i := rfl

/-- The router's weights the region finds, rounded: the padded ones, rounding being exact here, -/
theorem found_hi (c : Dev nD) : (V m c main_v3 : S2048x128.Idx → EReal) = padW (argRw m c) := by
  show StableHlo.after _ _ _ = _
  after_results
  exact round_id _

/-- and what rounding leaves of them. -/
theorem found_lo (c : Dev nD) : (V m c main_v6 : S2048x128.Idx → EReal) = fun i => padW (argRw m c) i - padW (argRw m c) i := by
  show StableHlo.after _ _ _ = _
  after_results
  exact rest_id _

/-- The router's bias the region finds. -/
theorem found_rb (c : Dev nD) : (V m c main_v11 : S1x128.Idx → EReal) = padB (argRb m c) := by
  show StableHlo.after _ _ _ = _
  after_results
  rfl

/-- The weights the region finds are the argument's: the host's rounding is exact here. -/
theorem found_w (c : Dev nD) : (V m c main_v12 : S2048x2048.Idx → EReal) = argW m c := by
  show StableHlo.after _ _ _ = _
  after_results
  rfl

/-- The norms' weights the region finds are the arguments', with a leading axis of one. -/
theorem found_g (c : Dev nD) : (V m c main_v13 : S1x2048.Idx → EReal) = shapeCast S1x2048 (argG m c) shapeCasts_S2048_S1x2048 := by
  show StableHlo.after _ _ _ = _
  after_results
  rfl
theorem found_gp (c : Dev nD) : (V m c main_v15 : S1x2048.Idx → EReal) = shapeCast S1x2048 (argGp m c) shapeCasts_S2048_S1x2048 := by
  show StableHlo.after _ _ _ = _
  after_results
  rfl

/-- The gates, shifts and scales the region finds are the arguments', with an axis of one between. -/
theorem found_gate (c : Dev nD) : (V m c main_v14 : S8x1x2048.Idx → EReal) = broadcastInDim S8x1x2048 ![0, 2] bcast_S8x2048_S8x1x2048_0_2 (argGate m c) := by
  show StableHlo.after _ _ _ = _
  after_results
theorem found_sh (c : Dev nD) : (V m c main_v16 : S8x1x2048.Idx → EReal) = broadcastInDim S8x1x2048 ![0, 2] bcast_S8x2048_S8x1x2048_0_2 (argSh m c) := by
  show StableHlo.after _ _ _ = _
  after_results
theorem found_sc (c : Dev nD) : (V m c main_v17 : S8x1x2048.Idx → EReal) = broadcastInDim S8x1x2048 ![0, 2] bcast_S8x2048_S8x1x2048_0_2 (argSc m c) := by
  show StableHlo.after _ _ _ = _
  after_results

/-- Row `a` of point `t`'s blocks. -/
abbrev tok (t : Fin cfg0.N) (a : Fin 256) : Fin 16384 := ⟨256 * t.val + a.val, by have := hN t; omega⟩

/-- Point `t`'s rows of the mixer's first half, -/
theorem blk_a (c : Dev nD) (t : Fin cfg0.N) (a : Fin 256) (k : Fin 1024) :
    (iblk m c 0 t : Vec Ideal S256x1024 .f32) (ix2 a k) = argA m c (ix2 (tok t a) k) := by
  blk_simp [iblk]
  refine congrArg (argA m c) (funext fun b => Fin.ext ?_)
  match b with
  | ⟨0, _⟩ => show win0_0.index t 0 * 256 + 1 * a.val = 256 * t.val + a.val
              rw [(idx_rows t).1]; show t.val * 256 + 1 * a.val = _; omega
  | ⟨1, _⟩ => show win0_0.index t 1 * 1024 + 1 * k.val = k.val
              rw [(idx_rows t).1]; show 0 * 1024 + 1 * k.val = _; omega

/-- and of its second. -/
theorem blk_b (c : Dev nD) (t : Fin cfg0.N) (a : Fin 256) (k : Fin 1024) :
    (iblk m c 1 t : Vec Ideal S256x1024 .f32) (ix2 a k) = argB m c (ix2 (tok t a) k) := by
  blk_simp [iblk]
  refine congrArg (argB m c) (funext fun b => Fin.ext ?_)
  match b with
  | ⟨0, _⟩ => show win0_1.index t 0 * 256 + 1 * a.val = 256 * t.val + a.val
              rw [(idx_rows t).2.1]; show t.val * 256 + 1 * a.val = _; omega
  | ⟨1, _⟩ => show win0_1.index t 1 * 1024 + 1 * k.val = k.val
              rw [(idx_rows t).2.1]; show 0 * 1024 + 1 * k.val = _; omega

/-- Point `t`'s rows of the tokens. -/
theorem blk_x (c : Dev nD) (t : Fin cfg0.N) (a : Fin 256) (k : Fin 2048) :
    (iblk m c 3 t : Vec Ideal S256x2048 .f32) (ix2 a k) = argX m c (ix2 (tok t a) k) := by
  blk_simp [iblk]
  refine congrArg (argX m c) (funext fun b => Fin.ext ?_)
  match b with
  | ⟨0, _⟩ => show win0_3.index t 0 * 256 + 1 * a.val = 256 * t.val + a.val
              rw [(idx_rows t).2.2.1]; show t.val * 256 + 1 * a.val = _; omega
  | ⟨1, _⟩ => show win0_3.index t 1 * 2048 + 1 * k.val = k.val
              rw [(idx_rows t).2.2.1]; show 0 * 2048 + 1 * k.val = _; omega

/-- The weights, the same at every point. -/
theorem blk_w (c : Dev nD) (t : Fin cfg0.N) (k f : Fin 2048) :
    (iblk m c 2 t : Vec Ideal S2048x2048 .bf16) (ix2 k f) = argW m c (ix2 k f) := by
  refine Eq.trans (b := (V m c main_v12 : S2048x2048.Idx → EReal) (ix2 k f)) ?_ (congrFun (found_w m c) _)
  refine congrArg (V m c main_v12 : S2048x2048.Idx → EReal) (funext fun b => Fin.ext ?_)
  match b with
  | ⟨0, _⟩ => show win0_2.index t 0 * 2048 + 1 * k.val = k.val
              rw [(idx_whole t).1]; show 0 * 2048 + 1 * k.val = _; omega
  | ⟨1, _⟩ => show win0_2.index t 1 * 2048 + 1 * f.val = f.val
              rw [(idx_whole t).1]; show 0 * 2048 + 1 * f.val = _; omega

/-- A list with a leading axis of one, read without it. -/
theorem lead (v : S2048.Idx → EReal) (k : Fin 2048) :
    shapeCast S1x2048 v shapeCasts_S2048_S1x2048 (ix2 (0 : Fin 1) k) = v (ix1 k) :=
  shapeCast_apply v shapeCasts_S2048_S1x2048 (ix2 (0 : Fin 1) k) (ix1 k) (by
    rw [Shape.rowMajor_val_one, Shape.rowMajor_val_two]; show k.val = 0 * 2048 + k.val; omega)

/-- The weights of the mixer's norm, the same at every point, -/
theorem blk_g (c : Dev nD) (t : Fin cfg0.N) (k : Fin 2048) :
    (iblk m c 4 t : Vec Ideal S1x2048 .f32) (ix2 (0 : Fin 1) k) = argG m c (ix1 k) := by
  refine Eq.trans (b := (V m c main_v13 : S1x2048.Idx → EReal) (ix2 (0 : Fin 1) k)) ?_ ((congrFun (found_g m c) _).trans (lead _ k))
  refine congrArg (V m c main_v13 : S1x2048.Idx → EReal) (funext fun b => Fin.ext ?_)
  match b with
  | ⟨0, _⟩ => show win0_4.index t 0 * 1 + 1 * 0 = 0
              rw [(idx_whole t).2.1]; rfl
  | ⟨1, _⟩ => show win0_4.index t 1 * 2048 + 1 * k.val = k.val
              rw [(idx_whole t).2.1]; show 0 * 2048 + 1 * k.val = _; omega

/-- and of the router's. -/
theorem blk_gp (c : Dev nD) (t : Fin cfg0.N) (k : Fin 2048) :
    (iblk m c 6 t : Vec Ideal S1x2048 .f32) (ix2 (0 : Fin 1) k) = argGp m c (ix1 k) := by
  refine Eq.trans (b := (V m c main_v15 : S1x2048.Idx → EReal) (ix2 (0 : Fin 1) k)) ?_ ((congrFun (found_gp m c) _).trans (lead _ k))
  refine congrArg (V m c main_v15 : S1x2048.Idx → EReal) (funext fun b => Fin.ext ?_)
  match b with
  | ⟨0, _⟩ => show win0_6.index t 0 * 1 + 1 * 0 = 0
              rw [(idx_whole t).2.2.1]; rfl
  | ⟨1, _⟩ => show win0_6.index t 1 * 2048 + 1 * k.val = k.val
              rw [(idx_whole t).2.2.1]; show 0 * 2048 + 1 * k.val = _; omega

/-- An array with an axis of one between, read without it. -/
theorem between (v : S8x2048.Idx → EReal) (e : Fin 8) (k : Fin 2048) :
    broadcastInDim S8x1x2048 ![0, 2] bcast_S8x2048_S8x1x2048_0_2 v (ix3 e (0 : Fin 1) k) = v (ix2 e k) :=
  broadcastInDim_apply _ bcast_S8x2048_S8x1x2048_0_2 v (ix3 e (0 : Fin 1) k) (ix2 e k) (fun b => match b with
    | ⟨0, _⟩ => by show e.val = if (8 : Nat) = 1 then 0 else e.val; rw [if_neg (by decide)]
    | ⟨1, _⟩ => by show k.val = if (2048 : Nat) = 1 then 0 else k.val; rw [if_neg (by decide)])

/-- Point `t`'s gate: the row its tokens take. -/
theorem blk_gate (c : Dev nD) (t : Fin cfg0.N) (e : Fin 8) (he : e.val = blockRow t.val) (k : Fin 2048) :
    (iblk m c 5 t : Vec Ideal S1x1x2048 .f32) (ix3 (0 : Fin 1) (0 : Fin 1) k) = argGate m c (ix2 e k) := by
  refine Eq.trans (b := (V m c main_v14 : S8x1x2048.Idx → EReal) (ix3 e (0 : Fin 1) k)) ?_
    ((congrFun (found_gate m c) _).trans (between (argGate m c) e k))
  refine congrArg (V m c main_v14 : S8x1x2048.Idx → EReal) (funext fun b => Fin.ext ?_)
  match b with
  | ⟨0, _⟩ => show win0_5.index t 0 * 1 + 1 * 0 = e.val
              rw [(idx_seq t).1, he]; show blockRow t.val * 1 + 1 * 0 = _; omega
  | ⟨1, _⟩ => show win0_5.index t 1 * 1 + 1 * 0 = 0
              rw [(idx_seq t).1]; rfl
  | ⟨2, _⟩ => show win0_5.index t 2 * 2048 + 1 * k.val = k.val
              rw [(idx_seq t).1]; show 0 * 2048 + 1 * k.val = _; omega

/-- Its shift, -/
theorem blk_sh (c : Dev nD) (t : Fin cfg0.N) (e : Fin 8) (he : e.val = blockRow t.val) (k : Fin 2048) :
    (iblk m c 7 t : Vec Ideal S1x1x2048 .f32) (ix3 (0 : Fin 1) (0 : Fin 1) k) = argSh m c (ix2 e k) := by
  refine Eq.trans (b := (V m c main_v16 : S8x1x2048.Idx → EReal) (ix3 e (0 : Fin 1) k)) ?_
    ((congrFun (found_sh m c) _).trans (between (argSh m c) e k))
  refine congrArg (V m c main_v16 : S8x1x2048.Idx → EReal) (funext fun b => Fin.ext ?_)
  match b with
  | ⟨0, _⟩ => show win0_7.index t 0 * 1 + 1 * 0 = e.val
              rw [(idx_seq t).2.1, he]; show blockRow t.val * 1 + 1 * 0 = _; omega
  | ⟨1, _⟩ => show win0_7.index t 1 * 1 + 1 * 0 = 0
              rw [(idx_seq t).2.1]; rfl
  | ⟨2, _⟩ => show win0_7.index t 2 * 2048 + 1 * k.val = k.val
              rw [(idx_seq t).2.1]; show 0 * 2048 + 1 * k.val = _; omega

/-- and its scale. -/
theorem blk_sc (c : Dev nD) (t : Fin cfg0.N) (e : Fin 8) (he : e.val = blockRow t.val) (k : Fin 2048) :
    (iblk m c 8 t : Vec Ideal S1x1x2048 .f32) (ix3 (0 : Fin 1) (0 : Fin 1) k) = argSc m c (ix2 e k) := by
  refine Eq.trans (b := (V m c main_v17 : S8x1x2048.Idx → EReal) (ix3 e (0 : Fin 1) k)) ?_
    ((congrFun (found_sc m c) _).trans (between (argSc m c) e k))
  refine congrArg (V m c main_v17 : S8x1x2048.Idx → EReal) (funext fun b => Fin.ext ?_)
  match b with
  | ⟨0, _⟩ => show win0_8.index t 0 * 1 + 1 * 0 = e.val
              rw [(idx_seq t).2.2, he]; show blockRow t.val * 1 + 1 * 0 = _; omega
  | ⟨1, _⟩ => show win0_8.index t 1 * 1 + 1 * 0 = 0
              rw [(idx_seq t).2.2]; rfl
  | ⟨2, _⟩ => show win0_8.index t 2 * 2048 + 1 * k.val = k.val
              rw [(idx_seq t).2.2]; show 0 * 2048 + 1 * k.val = _; omega

/-- The router's rounded weights, the same at every point, -/
theorem blk_hi (c : Dev nD) (t : Fin cfg0.N) (k : Fin 2048) (l : Fin 128) :
    (iblk m c 9 t : Vec Ideal S2048x128 .bf16) (ix2 k l) = padded (fun l => argRw m c (ix2 k l)) l := by
  refine Eq.trans (b := (V m c main_v3 : S2048x128.Idx → EReal) (ix2 k l)) ?_ ((congrFun (found_hi m c) _).trans (padW_apply _ k l))
  refine congrArg (V m c main_v3 : S2048x128.Idx → EReal) (funext fun b => Fin.ext ?_)
  match b with
  | ⟨0, _⟩ => show win0_9.index t 0 * 2048 + 1 * k.val = k.val
              rw [(idx_whole t).2.2.2.1]; show 0 * 2048 + 1 * k.val = _; omega
  | ⟨1, _⟩ => show win0_9.index t 1 * 128 + 1 * l.val = l.val
              rw [(idx_whole t).2.2.2.1]; show 0 * 128 + 1 * l.val = _; omega

/-- what rounding leaves of them, -/
theorem blk_lo (c : Dev nD) (t : Fin cfg0.N) (k : Fin 2048) (l : Fin 128) :
    (iblk m c 10 t : Vec Ideal S2048x128 .bf16) (ix2 k l)
      = padded (fun l => argRw m c (ix2 k l)) l - padded (fun l => argRw m c (ix2 k l)) l := by
  refine Eq.trans (b := (V m c main_v6 : S2048x128.Idx → EReal) (ix2 k l)) ?_ ((congrFun (found_lo m c) _).trans
    (congrArg₂ (fun p q : EReal => p - q) (padW_apply _ k l) (padW_apply _ k l)))
  refine congrArg (V m c main_v6 : S2048x128.Idx → EReal) (funext fun b => Fin.ext ?_)
  match b with
  | ⟨0, _⟩ => show win0_10.index t 0 * 2048 + 1 * k.val = k.val
              rw [(idx_whole t).2.2.2.2.1]; show 0 * 2048 + 1 * k.val = _; omega
  | ⟨1, _⟩ => show win0_10.index t 1 * 128 + 1 * l.val = l.val
              rw [(idx_whole t).2.2.2.2.1]; show 0 * 128 + 1 * l.val = _; omega

/-- and the bias. -/
theorem blk_rb (c : Dev nD) (t : Fin cfg0.N) (l : Fin 128) :
    (iblk m c 11 t : Vec Ideal S1x128 .f32) (ix2 (0 : Fin 1) l) = padded (fun l => argRb m c (ix1 l)) l := by
  refine Eq.trans (b := (V m c main_v11 : S1x128.Idx → EReal) (ix2 (0 : Fin 1) l)) ?_ ((congrFun (found_rb m c) _).trans (padB_apply _ l))
  refine congrArg (V m c main_v11 : S1x128.Idx → EReal) (funext fun b => Fin.ext ?_)
  match b with
  | ⟨0, _⟩ => show win0_11.index t 0 * 1 + 1 * 0 = 0
              rw [(idx_whole t).2.2.2.2.2]; rfl
  | ⟨1, _⟩ => show win0_11.index t 1 * 128 + 1 * l.val = l.val
              rw [(idx_whole t).2.2.2.2.2]; show 0 * 128 + 1 * l.val = _; omega

/-! ## What a point stores -/

/-- Two zeros, -/
theorem zero2 : (![0, 0] : Fin 2 → Nat) = fun _ => 0 := funext fun a => by fin_cases a <;> rfl
/-- and three. -/
theorem zero3 : (![0, 0, 0] : Fin 3 → Nat) = fun _ => 0 := funext fun a => by fin_cases a <;> rfl

/-- The first half of the weights' rows, read, -/
theorem low (w : Vec Ideal S2048x2048 .bf16) (k : Fin 1024) (f : Fin 2048) :
    View.ld w r0_1 (ix2 k f) = w (ix2 (⟨k.val, by omega⟩ : Fin 2048) f) := by
  refine congrArg w (funext fun b => Fin.ext ?_)
  match b with
  | ⟨0, _⟩ => show 0 + 1 * k.val = k.val; omega
  | ⟨1, _⟩ => show 0 + 1 * f.val = f.val; omega

/-- and the second. -/
theorem high (w : Vec Ideal S2048x2048 .bf16) (k : Fin 1024) (f : Fin 2048) :
    View.ld w r0_2 (ix2 k f) = w (ix2 (⟨1024 + k.val, by omega⟩ : Fin 2048) f) := by
  refine congrArg w (funext fun b => Fin.ext ?_)
  match b with
  | ⟨0, _⟩ => show 1024 + 1 * k.val = 1024 + k.val; omega
  | ⟨1, _⟩ => show 0 + 1 * f.val = f.val; omega

/-- Point `t`'s rows of the tokens, after the mixer. -/
def xs (c : Dev nD) (t : Fin cfg0.N) : FVec Ideal S256x2048 .f32 :=
  k0_pay2 (iblk m c 0 t) (View.ld (iblk m c 2 t) r0_1) (iblk m c 1 t) (View.ld (iblk m c 2 t) r0_2) (iblk m c 3 t) (iblk m c 5 t) (iblk m c 4 t)

/-- The sums of their squares. -/
def sq (c : Dev nD) (t : Fin cfg0.N) : FVec Ideal S256x1 .f32 :=
  k0_pay3 (iblk m c 0 t) (View.ld (iblk m c 2 t) r0_1) (iblk m c 1 t) (View.ld (iblk m c 2 t) r0_2) (iblk m c 3 t) (iblk m c 5 t) (iblk m c 4 t)

/-- What it stores for the router. -/
def hs (c : Dev nD) (t : Fin cfg0.N) : FVec Ideal S256x2048 .f32 :=
  k0_pay4 (xs m c t) (sq m c t) (iblk m c 6 t) (iblk m c 8 t) (iblk m c 7 t)

/-- The rows, read. -/
theorem xs_apply (c : Dev nD) (t : Fin cfg0.N) (a : Fin 256) (k : Fin 2048) :
    xs m c t (ix2 a k) = outX (argX m c) (rows m c) (argG m c) (argGate m c) (tok t a) k := by
  have he := tokenRow_val t.val (hN t) a
  unfold xs outX
  rw [pay_x]
  have hp : prodAt (iblk m c 0 t) (View.ld (iblk m c 2 t) r0_1) (iblk m c 1 t) (View.ld (iblk m c 2 t) r0_2) a = rows m c (tok t a) := by
    funext f
    exact congrArg₂ (fun p q : EReal => p + q)
      (Finset.sum_congr rfl fun k _ => congrArg₂ (fun p q : EReal => p * q) (blk_a m c t a k) ((low _ k f).trans (blk_w m c t _ f)))
      (Finset.sum_congr rfl fun k _ => congrArg₂ (fun p q : EReal => p * q) (blk_b m c t a k) ((high _ k f).trans (blk_w m c t _ f)))
  rw [hp]
  simp only [blk_x, blk_g, blk_gate m c t _ he]

/-- What is stored for the router, read. -/
theorem hs_apply (c : Dev nD) (t : Fin cfg0.N) (a : Fin 256) (k : Fin 2048) :
    hs m c t (ix2 a k) = outH (argX m c) (rows m c) (argG m c) (argGate m c) (argGp m c) (argSh m c) (argSc m c) (tok t a) k := by
  have he := tokenRow_val t.val (hN t) a
  unfold hs outH
  rw [pay_h (xs m c t) (sq m c t) _ _ _ a (pay_squares _ _ _ _ _ _ _ a)]
  have hx : (fun j => xs m c t (ix2 a j)) = outX (argX m c) (rows m c) (argG m c) (argGate m c) (tok t a) := funext fun j => xs_apply m c t a j
  rw [hx]
  simp only [blk_gp, blk_sh m c t _ he, blk_sc m c t _ he]

/-- A load of a whole array reads it. -/
theorem whole_a (v : Vec Ideal S256x1024 .f32) : View.ld v r0_0 = v := View.ld_unit_zero zero2 _ v
theorem whole_x (v : Vec Ideal S256x2048 .f32) : View.ld v r0_3 = v := View.ld_unit_zero zero2 _ v
theorem whole_s (v : Vec Ideal S1x1x2048 .f32) : View.ld v r0_4 = v := View.ld_unit_zero zero3 _ v
theorem whole_g (v : Vec Ideal S1x2048 .f32) : View.ld v r0_5 = v := View.ld_unit_zero zero2 _ v
theorem whole_w (v : Vec Ideal S2048x128 .bf16) : View.ld v r0_6 = v := View.ld_unit_zero zero2 _ v
theorem whole_b (v : Vec Ideal S1x128 .f32) : View.ld v r0_7 = v := View.ld_unit_zero zero2 _ v

/-- The first stored block, of the blocks loaded, -/
theorem stored_x (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_12 x0 x1 x2 x3 x4 x5 x6 x7 x8 x9 x10 x11 = k0_pay2 x0 (View.ld x2 r0_1) x1 (View.ld x2 r0_2) x3 x5 x4 := by
  unfold out0_12
  rw [View.canon_unit_zero zero2, whole_a, whole_a, whole_x, whole_s, whole_g]

/-- the second, -/
theorem stored_h (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_13 x0 x1 x2 x3 x4 x5 x6 x7 x8 x9 x10 x11 = k0_pay4 (k0_pay2 x0 (View.ld x2 r0_1) x1 (View.ld x2 r0_2) x3 x5 x4)
      (k0_pay3 x0 (View.ld x2 r0_1) x1 (View.ld x2 r0_2) x3 x5 x4) x6 x8 x7 := by
  unfold out0_13 k0_pay6 k0_pay7
  rw [View.canon_unit_zero zero2]
  simp only [whole_a, whole_x, whole_s, whole_g]

/-- and the third. -/
theorem stored_l (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_14 x0 x1 x2 x3 x4 x5 x6 x7 x8 x9 x10 x11 = k0_pay1 (k0_pay5 (k0_pay2 x0 (View.ld x2 r0_1) x1 (View.ld x2 r0_2) x3 x5 x4)
      (k0_pay3 x0 (View.ld x2 r0_1) x1 (View.ld x2 r0_2) x3 x5 x4) x6 x8 x7 x9 x9 x10) x11 := by
  unfold out0_14 k0_pay6 k0_pay7
  rw [View.canon_unit_zero zero2]
  simp only [whole_a, whole_x, whole_s, whole_g, whole_w, whole_b]

/-- The block of the tokens' rows that a point leaves, -/
theorem out_x (c : Dev nD) (t : Fin cfg0.N) : (dats m 0 c).after 12 t = xs m c t :=
  (after0_12 m c t).trans (stored_x (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- the block for the router, -/
theorem out_h (c : Dev nD) (t : Fin cfg0.N) : (dats m 0 c).after 13 t = hs m c t :=
  (after0_13 m c t).trans (stored_h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- and the block of the logits. -/
theorem out_l (c : Dev nD) (t : Fin cfg0.N) : (dats m 0 c).after 14 t
    = k0_pay1 (k0_pay5 (xs m c t) (sq m c t) (iblk m c 6 t) (iblk m c 8 t) (iblk m c 7 t) (iblk m c 9 t) (iblk m c 9 t) (iblk m c 10 t)) (iblk m c 11 t) :=
  (after0_14 m c t).trans (stored_l (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- The logits, read, where the router's norm's weights, shifts, scales and the router's weights are numbers. -/
theorem ls_apply (c : Dev nD) (hg : ∀ i, Num (argGp m c i)) (hh : ∀ i, Num (argSh m c i)) (hc : ∀ i, Num (argSc m c i)) (hw : ∀ i, Num (argRw m c i))
    (t : Fin cfg0.N) (a : Fin 256) (l : Fin 128) :
    k0_pay1 (k0_pay5 (xs m c t) (sq m c t) (iblk m c 6 t) (iblk m c 8 t) (iblk m c 7 t) (iblk m c 9 t) (iblk m c 9 t) (iblk m c 10 t)) (iblk m c 11 t) (ix2 a l)
      = outL (argX m c) (rows m c) (argG m c) (argGate m c) (argGp m c) (argSh m c) (argSc m c) (argRw m c) (argRb m c) (tok t a) l := by
  rw [pay_l, blk_rb]
  refine congrArg (fun p : EReal => p + padded (fun l => argRb m c (ix1 l)) l) ?_
  have hk : ∀ k, k0_pay4 (xs m c t) (sq m c t) (iblk m c 6 t) (iblk m c 8 t) (iblk m c 7 t) (ix2 a k) = _ := fun k => hs_apply m c t a k
  simp only [hk, blk_hi, blk_lo]
  exact parts _ _ (fun k => outH_num _ _ _ _ _ _ _ hg hh hc _ k) (fun k => padded_num _ (fun l => hw _) l)

/-! ## The whole results -/

/-- Where point `t`'s blocks lie in the results. -/
theorem emb_x (t : Fin cfg0.N) (y : S256x2048.Idx) : ((win0_12.blk t).view.emb y : S16384x2048.Idx) = ix2 (tok t (y 0)) (y 1) := by
  refine funext fun b => Fin.ext ?_
  match b with
  | ⟨0, _⟩ => show win0_12.index t 0 * 256 + 1 * (y 0).val = 256 * t.val + (y 0).val
              rw [(idx_rows t).2.2.2.1]; show t.val * 256 + 1 * (y 0).val = _; omega
  | ⟨1, _⟩ => show win0_12.index t 1 * 2048 + 1 * (y 1).val = (y 1).val
              rw [(idx_rows t).2.2.2.1]; show 0 * 2048 + 1 * (y 1).val = _; omega
theorem emb_h (t : Fin cfg0.N) (y : S256x2048.Idx) : ((win0_13.blk t).view.emb y : S16384x2048.Idx) = ix2 (tok t (y 0)) (y 1) := by
  refine funext fun b => Fin.ext ?_
  match b with
  | ⟨0, _⟩ => show win0_13.index t 0 * 256 + 1 * (y 0).val = 256 * t.val + (y 0).val
              rw [(idx_rows t).2.2.2.2.1]; show t.val * 256 + 1 * (y 0).val = _; omega
  | ⟨1, _⟩ => show win0_13.index t 1 * 2048 + 1 * (y 1).val = (y 1).val
              rw [(idx_rows t).2.2.2.2.1]; show 0 * 2048 + 1 * (y 1).val = _; omega
theorem emb_l (t : Fin cfg0.N) (y : S256x128.Idx) : ((win0_14.blk t).view.emb y : S16384x128.Idx) = ix2 (tok t (y 0)) (y 1) := by
  refine funext fun b => Fin.ext ?_
  match b with
  | ⟨0, _⟩ => show win0_14.index t 0 * 256 + 1 * (y 0).val = 256 * t.val + (y 0).val
              rw [(idx_rows t).2.2.2.2.2]; show t.val * 256 + 1 * (y 0).val = _; omega
  | ⟨1, _⟩ => show win0_14.index t 1 * 128 + 1 * (y 1).val = (y 1).val
              rw [(idx_rows t).2.2.2.2.2]; show 0 * 128 + 1 * (y 1).val = _; omega

/-- An index of a block by its coordinates. -/
theorem eta (y : S256x2048.Idx) : y = ix2 (n0 := 256) (n1 := 2048) (y 0) (y 1) := funext fun b => match b with | ⟨0, _⟩ => rfl | ⟨1, _⟩ => rfl
theorem eta_l (y : S256x128.Idx) : y = ix2 (n0 := 256) (n1 := 128) (y 0) (y 1) := funext fun b => match b with | ⟨0, _⟩ => rfl | ⟨1, _⟩ => rfl

/-- The three results of the arguments: the tokens' rows, -/
def resX (c : Dev nD) : S16384x2048.Idx → EReal := fun i => outX (argX m c) (rows m c) (argG m c) (argGate m c) (i 0) (i 1)
/-- what the router reads of them, -/
def resH (c : Dev nD) : S16384x2048.Idx → EReal := fun i =>
  outH (argX m c) (rows m c) (argG m c) (argGate m c) (argGp m c) (argSh m c) (argSc m c) (i 0) (i 1)
/-- and its logits. -/
def resL (c : Dev nD) : S16384x128.Idx → EReal := fun i =>
  outL (argX m c) (rows m c) (argG m c) (argGate m c) (argGp m c) (argSh m c) (argSc m c) (argRw m c) (argRb m c) (i 0) (i 1)

/-- The tokens' rows after the run. -/
theorem arr_x (c : Dev nD) : (dats m 0 c).arrAt 12 cfg0.N = resX m c := by
  refine (dats m 0 c).arrAt_eq_of_covers 12 _ (by decide +kernel) fun t hf y => ?_
  rw [out_x]
  exact (congrArg (xs m c t) (eta y)).trans ((xs_apply m c t (y 0) (y 1)).trans (congrArg (resX m c) (emb_x t y)).symm)

/-- What the router reads, after the run. -/
theorem arr_h (c : Dev nD) : (dats m 0 c).arrAt 13 cfg0.N = resH m c := by
  refine (dats m 0 c).arrAt_eq_of_covers 13 _ (by decide +kernel) fun t hf y => ?_
  rw [out_h]
  exact (congrArg (hs m c t) (eta y)).trans ((hs_apply m c t (y 0) (y 1)).trans (congrArg (resH m c) (emb_h t y)).symm)

/-- The logits after the run. -/
theorem arr_l (c : Dev nD) (hg : ∀ i, Num (argGp m c i)) (hh : ∀ i, Num (argSh m c i)) (hc : ∀ i, Num (argSc m c i)) (hw : ∀ i, Num (argRw m c i)) :
    (dats m 0 c).arrAt 14 cfg0.N = resL m c := by
  refine (dats m 0 c).arrAt_eq_of_covers 14 _ (by decide +kernel) fun t hf y => ?_
  rw [out_l]
  exact (congrArg _ (eta_l y)).trans ((ls_apply m c hg hh hc hw t (y 0) (y 1)).trans (congrArg (resL m c) (emb_l t y)).symm)

/-- THE KERNEL'S RUN: the three results, the arguments unchanged. -/
theorem run (hg : ∀ c i, Num (argGp m c i)) (hh : ∀ c i, Num (argSh m c i)) (hc : ∀ c i, Num (argSc m c i)) (hw : ∀ c i, Num (argRw m c i)) :
    θ_run defs (onTc (τ := τ) (main (F := Ideal))) ⟨m, fun _ => 0, ρ⟩ fun r => ∀ c : Dev nD,
      (r.2.mem ((c : Thread nD τ).loc main_v18_0) = resX m c
      ∧ r.2.mem ((c : Thread nD τ).loc main_v18_1) = resH m c
      ∧ r.2.mem ((c : Thread nD τ).loc main_v18_2) = resL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨⟨(h c).1.trans (arr_x m c), (h c).2.1.trans (arr_h m c),
      (h c).2.2.1.trans (arr_l m c (hg c) (hh c) (hc c) (hw c))⟩, (h c).2.2.2⟩)
    (Cert.AbOutIdeal.Value.run_blocks m ρ)

end Cert.AbOutIdeal.Out

end
-- ==== Proof.AbOutRef.lean ====
/-
  What the reference of the output of the attention mixers computes, element by element: the product of the mixer's rows and the
  weights, normalised and added, gated, to the tokens' rows; these normalised and modulated; their product with the router's
  weights plus its bias, with zeros in the lanes beyond the experts.
-/
module

public import proofs.«01_k».proof.Proof.AbOutValue
public import proofs.«01_k».proof.Proof.AbInRef
public import proofs.«01_k».proof.Proof.Gen.AbOutRefIdeal.Run
public import proofs.«01_k».proof.Proof.Gen.AbOutRefIdeal.Read
public import Idealize.ShloMosaic.Lib.KernelVsHost
public import Idealize.ShloMosaic.Lib.Pipeline.Value

@[expose] public section

set_option maxRecDepth 16384

noncomputable section

namespace Cert.AbOutRef

open Idealize.ShloMosaic hiding ix1 ix2 ix3
open Idealize.ShloMosaic.TcCoe Idealize.SL.Sem Idealize.ShloMosaic.ValueIdx
open Cert.AbOutRefIdeal Cert.AbOutRefIdeal.Gen Cert.AbOutRefIdeal.Read Cert.NormRow Cert.OutRow
open Cert.AbOutIdeal.Out (prodRow)

variable (a b : S16384x1024.Idx → EReal) (w : S2048x2048.Idx → EReal) (x : S16384x2048.Idx → EReal) (g : S2048.Idx → EReal)
  (gate : S8x2048.Idx → EReal) (gp : S2048.Idx → EReal) (sh sc : S8x2048.Idx → EReal) (rw : S2048x32.Idx → EReal) (rb : S32.Idx → EReal)

/-! ## The product -/

/-- The mixer's row, its two halves side by side: the first half, -/
theorem joined_left (r : Fin 16384) (k : Fin 1024) : val_main_v0 (F := Ideal) a b (ix2 r (⟨k.val, by omega⟩ : Fin 2048)) = a (ix2 r k) :=
  concatenate_pair_apply_left (1 : Fin S16384x2048.rank) a b concatenates_S16384x1024_S16384x1024_S16384x2048_d1 _ rfl
    (ix2 r k) (fun d => match d with | ⟨0, _⟩ => rfl | ⟨1, _⟩ => rfl)

/-- and the second. -/
theorem joined_right (r : Fin 16384) (k : Fin 1024) : val_main_v0 (F := Ideal) a b (ix2 r (⟨1024 + k.val, by omega⟩ : Fin 2048)) = b (ix2 r k) :=
  concatenate_pair_apply_right (1 : Fin S16384x2048.rank) a b concatenates_S16384x1024_S16384x1024_S16384x2048_d1 _ rfl rfl
    (ix2 r k) (fun d hd => match d, hd with | ⟨0, _⟩, _ => rfl | ⟨1, _⟩, hd => absurd rfl hd) (by show k.val + 1024 = 1024 + k.val; omega)

/-- An entry of the product. -/
theorem prod_at (r : Fin 16384) (f : Fin 2048) : val_main_v1 (F := Ideal) a b w (ix2 r f) = prodRow a b w r f := by
  rw [val_main_v1_apply]
  refine Eq.trans (b := ∑ k : Fin 2048, val_main_v0 (F := Ideal) a b (ix2 r k) * w (ix2 k f)) ?_
    ((halves_eq (fun k => val_main_v0 (F := Ideal) a b (ix2 r k)) (fun k => w (ix2 k f))).symm.trans ?_)
  · refine Finset.sum_congr rfl fun k _ => ?_
    have e1 : lidx_main_v1 (ix2 r f) k = ix2 r k := funext fun d => match d with | ⟨0, _⟩ => rfl | ⟨1, _⟩ => rfl
    have e2 : ridx_main_v1 (ix2 r f) k = ix2 k f := funext fun d => match d with | ⟨0, _⟩ => rfl | ⟨1, _⟩ => rfl
    rw [e1, e2]
  · exact congrArg₂ (fun p q : EReal => p + q)
      (Finset.sum_congr rfl fun k _ => congrArg (fun p : EReal => p * _) (joined_left a b r k))
      (Finset.sum_congr rfl fun k _ => congrArg (fun p : EReal => p * _) (joined_right a b r k))

/-- The sum of the squares of one of its rows. -/
theorem prod_squares (r : Fin 16384) : val_main_v11 (F := Ideal) a b w (ix1 r) = ∑ j : Fin 2048, prodRow a b w r j * prodRow a b w r j := by
  rw [val_main_v11_apply]
  show Ideal.ofBits .f32 0x00000000#32 + _ = _
  rw [Ideal.ofBits_zero_f32, zero_add]
  refine Finset.sum_congr rfl fun j _ => ?_
  have e : idx_main_v11 (ix1 r) j = ix2 r j := funext fun d => match d with | ⟨0, _⟩ => rfl | ⟨1, _⟩ => rfl
  rw [e]
  exact congrArg₂ (fun p q : EReal => p * q) (prod_at a b w r j) (prod_at a b w r j)

/-- A row of it over its root mean square. -/
theorem prod_normed (r : Fin 16384) (k : Fin 2048) : val_main_v19 (F := Ideal) a b w (ix2 r k) = normed (prodRow a b w r) k := by
  rw [val_main_v19_apply, val_main_v18_apply, val_main_v17_apply, val_main_v16_apply, val_main_v14_apply, val_main_v12_apply,
    val_main_v13_apply, val_main_v15_apply, prod_at]
  have e : idx_main_v12 (idx_main_v18 (ix2 r k)) = ix1 r := funext fun d => match d with | ⟨0, _⟩ => rfl
  rw [e, prod_squares]
  rfl

/-! ## Each token's gate, shift and scale -/

/-- The gate of a prompt's token, -/
theorem gate_ctx (r : Fin 8192) (k : Fin 2048) : val_main_v4 (F := Ideal) gate (ix2 r k) = gate (ix2 (0 : Fin 8) k) := by
  rw [val_main_v4_apply, val_main_v3_apply, val_main_v2_apply]
  refine congrArg gate (funext fun d => Fin.ext ?_)
  match d with
  | ⟨0, _⟩ => rfl
  | ⟨1, _⟩ => show k.val % 2048 = k.val; omega

/-- and of a latent sequence's. -/
theorem gate_lat (r : Fin 8192) (k : Fin 2048) :
    val_main_v8 (F := Ideal) gate (ix2 r k) = gate (ix2 (⟨1 + r.val / 2048, by omega⟩ : Fin 8) k) := by
  rw [val_main_v8_apply, val_main_v7_apply, val_main_v6_apply, val_main_v5_apply]
  refine congrArg gate (funext fun d => Fin.ext ?_)
  match d with
  | ⟨0, _⟩ => show 1 + (r.val * 2048 + k.val) / 4194304 = 1 + r.val / 2048; omega
  | ⟨1, _⟩ => show (r.val * 2048 + k.val) % 2048 = k.val; omega

/-- The gate of any token. -/
theorem gate_at (r : Fin 16384) (k : Fin 2048) : val_main_v9 (F := Ideal) gate (ix2 r k) = gate (ix2 (tokenRow r) k) :=
  Cert.AbInRef.stacked gate _ _ (gate_ctx gate) (gate_lat gate) r k

/-- The shift of a prompt's token, -/
theorem shift_ctx (r : Fin 8192) (k : Fin 2048) : val_main_v27 (F := Ideal) sh (ix2 r k) = sh (ix2 (0 : Fin 8) k) := by
  rw [val_main_v27_apply, val_main_v26_apply, val_main_v25_apply]
  refine congrArg sh (funext fun d => Fin.ext ?_)
  match d with
  | ⟨0, _⟩ => rfl
  | ⟨1, _⟩ => show k.val % 2048 = k.val; omega

/-- and of a latent sequence's. -/
theorem shift_lat (r : Fin 8192) (k : Fin 2048) :
    val_main_v31 (F := Ideal) sh (ix2 r k) = sh (ix2 (⟨1 + r.val / 2048, by omega⟩ : Fin 8) k) := by
  rw [val_main_v31_apply, val_main_v30_apply, val_main_v29_apply, val_main_v28_apply]
  refine congrArg sh (funext fun d => Fin.ext ?_)
  match d with
  | ⟨0, _⟩ => show 1 + (r.val * 2048 + k.val) / 4194304 = 1 + r.val / 2048; omega
  | ⟨1, _⟩ => show (r.val * 2048 + k.val) % 2048 = k.val; omega

/-- The shift of any token. -/
theorem shift_at (r : Fin 16384) (k : Fin 2048) : val_main_v32 (F := Ideal) sh (ix2 r k) = sh (ix2 (tokenRow r) k) :=
  Cert.AbInRef.stacked sh _ _ (shift_ctx sh) (shift_lat sh) r k

/-- The scale of a prompt's token, -/
theorem scale_ctx (r : Fin 8192) (k : Fin 2048) : val_main_v35 (F := Ideal) sc (ix2 r k) = sc (ix2 (0 : Fin 8) k) := by
  rw [val_main_v35_apply, val_main_v34_apply, val_main_v33_apply]
  refine congrArg sc (funext fun d => Fin.ext ?_)
  match d with
  | ⟨0, _⟩ => rfl
  | ⟨1, _⟩ => show k.val % 2048 = k.val; omega

/-- and of a latent sequence's. -/
theorem scale_lat (r : Fin 8192) (k : Fin 2048) :
    val_main_v39 (F := Ideal) sc (ix2 r k) = sc (ix2 (⟨1 + r.val / 2048, by omega⟩ : Fin 8) k) := by
  rw [val_main_v39_apply, val_main_v38_apply, val_main_v37_apply, val_main_v36_apply]
  refine congrArg sc (funext fun d => Fin.ext ?_)
  match d with
  | ⟨0, _⟩ => show 1 + (r.val * 2048 + k.val) / 4194304 = 1 + r.val / 2048; omega
  | ⟨1, _⟩ => show (r.val * 2048 + k.val) % 2048 = k.val; omega

/-- The scale of any token. -/
theorem scale_at (r : Fin 16384) (k : Fin 2048) : val_main_v40 (F := Ideal) sc (ix2 r k) = sc (ix2 (tokenRow r) k) :=
  Cert.AbInRef.stacked sc _ _ (scale_ctx sc) (scale_lat sc) r k

/-! ## The tokens' rows -/

/-- The norm's weights. -/
theorem weight_at (r : Fin 16384) (k : Fin 2048) : val_main_v21 (F := Ideal) g (ix2 r k) = g (ix1 k) := by
  rw [val_main_v21_apply, val_main_v20_apply]
  exact congrArg g (funext fun d => match d with | ⟨0, _⟩ => rfl)

/-- The router's norm's weights. -/
theorem router_weight_at (r : Fin 16384) (k : Fin 2048) : val_main_v52 (F := Ideal) gp (ix2 r k) = gp (ix1 k) := by
  rw [val_main_v52_apply, val_main_v51_apply]
  exact congrArg gp (funext fun d => match d with | ⟨0, _⟩ => rfl)

/-- A token's row after the mixer. -/
theorem x_at (r : Fin 16384) (k : Fin 2048) :
    val_main_v24 (F := Ideal) a b w x g gate (ix2 r k) = outX x (prodRow a b w) g gate r k := by
  rw [val_main_v24_apply, val_main_v23_apply, val_main_v22_apply, gate_at, prod_normed, weight_at]
  rfl

/-- The sum of its squares. -/
theorem x_squares (r : Fin 16384) : val_main_v42 (F := Ideal) a b w x g gate (ix1 r)
    = ∑ j : Fin 2048, outX x (prodRow a b w) g gate r j * outX x (prodRow a b w) g gate r j := by
  rw [val_main_v42_apply]
  show Ideal.ofBits .f32 0x00000000#32 + _ = _
  rw [Ideal.ofBits_zero_f32, zero_add]
  refine Finset.sum_congr rfl fun j _ => ?_
  have e : idx_main_v42 (ix1 r) j = ix2 r j := funext fun d => match d with | ⟨0, _⟩ => rfl | ⟨1, _⟩ => rfl
  rw [e]
  exact congrArg₂ (fun p q : EReal => p * q) (x_at a b w x g gate r j) (x_at a b w x g gate r j)

/-- The row over its root mean square. -/
theorem x_normed (r : Fin 16384) (k : Fin 2048) :
    val_main_v50 (F := Ideal) a b w x g gate (ix2 r k) = normed (outX x (prodRow a b w) g gate r) k := by
  rw [val_main_v50_apply, val_main_v49_apply, val_main_v48_apply, val_main_v47_apply, val_main_v45_apply, val_main_v43_apply,
    val_main_v44_apply, val_main_v46_apply, x_at]
  have e : idx_main_v43 (idx_main_v49 (ix2 r k)) = ix1 r := funext fun d => match d with | ⟨0, _⟩ => rfl
  rw [e, x_squares]
  rfl

/-- What the router reads of it. -/
theorem h_at (r : Fin 16384) (k : Fin 2048) :
    val_main_v57 (F := Ideal) a b w x g gate gp sh sc (ix2 r k) = outH x (prodRow a b w) g gate gp sh sc r k := by
  rw [val_main_v57_apply, val_main_v56_apply, val_main_v53_apply, val_main_v55_apply, val_main_v54_apply, x_normed, router_weight_at, shift_at, scale_at]
  rfl

/-! ## The logits -/

/-- The logit of an expert. -/
theorem expert_at (r : Fin 16384) (e : Fin 32) : val_main_v61 (F := Ideal) a b w x g gate gp sh sc rw rb (ix2 r e)
    = (∑ k : Fin 2048, outH x (prodRow a b w) g gate gp sh sc r k * rw (ix2 k e)) + rb (ix1 e) := by
  rw [val_main_v61_apply, val_main_v60_apply, val_main_v59_apply, val_main_v58_apply]
  refine congrArg₂ (fun p q : EReal => p + q) (Finset.sum_congr rfl fun k _ => ?_) (congrArg rb (funext fun d => match d with | ⟨0, _⟩ => rfl))
  have e1 : lidx_main_v58 (ix2 r e) k = ix2 r k := funext fun d => match d with | ⟨0, _⟩ => rfl | ⟨1, _⟩ => rfl
  have e2 : ridx_main_v58 (ix2 r e) k = ix2 k e := funext fun d => match d with | ⟨0, _⟩ => rfl | ⟨1, _⟩ => rfl
  rw [e1, e2, h_at]

/-- The logit of a lane: an expert's, or zero. -/
theorem l_at (r : Fin 16384) (l : Fin 128) : val_main_v63 (F := Ideal) a b w x g gate gp sh sc rw rb (ix2 r l)
    = outL x (prodRow a b w) g gate gp sh sc rw rb r l := by
  by_cases h : l.val < 32
  · refine (concatenate_pair_apply_left (1 : Fin S16384x128.rank) _ _ concatenates_S16384x32_S16384x96_S16384x128_d1 (ix2 r l) rfl
      (ix2 r (⟨l.val, h⟩ : Fin 32)) (fun d => match d with | ⟨0, _⟩ => rfl | ⟨1, _⟩ => rfl)).trans ((expert_at a b w x g gate gp sh sc rw rb r ⟨l.val, h⟩).trans ?_)
    unfold outL padded
    simp only [dif_pos h]
  · refine (concatenate_pair_apply_right (1 : Fin S16384x128.rank) _ _ concatenates_S16384x32_S16384x96_S16384x128_d1 (ix2 r l) rfl rfl
      (ix2 r (⟨l.val - 32, by omega⟩ : Fin 96)) (fun d hd => match d, hd with | ⟨0, _⟩, _ => rfl | ⟨1, _⟩, hd => absurd rfl hd) ?_).trans ?_
    · show l.val - 32 + 32 = l.val; omega
    · unfold outL padded
      simp only [dif_neg h, mul_zero, Finset.sum_const_zero, add_zero]
      exact Ideal.ofBits_zero_f32

/-! ## The three results -/

/-- The tokens' rows, -/
theorem result_x : val_main_v24 (F := Ideal) a b w x g gate = fun i => outX x (prodRow a b w) g gate (i 0) (i 1) := by
  funext i
  have e : i = ix2 (n0 := 16384) (n1 := 2048) (i 0) (i 1) := funext fun d => match d with | ⟨0, _⟩ => rfl | ⟨1, _⟩ => rfl
  exact (congrArg (val_main_v24 (F := Ideal) a b w x g gate) e).trans (x_at a b w x g gate (i 0) (i 1))

/-- what the router reads of them, -/
theorem result_h : val_main_v57 (F := Ideal) a b w x g gate gp sh sc = fun i => outH x (prodRow a b w) g gate gp sh sc (i 0) (i 1) := by
  funext i
  have e : i = ix2 (n0 := 16384) (n1 := 2048) (i 0) (i 1) := funext fun d => match d with | ⟨0, _⟩ => rfl | ⟨1, _⟩ => rfl
  exact (congrArg (val_main_v57 (F := Ideal) a b w x g gate gp sh sc) e).trans (h_at a b w x g gate gp sh sc (i 0) (i 1))

/-- and its logits. -/
theorem result_l : val_main_v63 (F := Ideal) a b w x g gate gp sh sc rw rb
    = fun i => outL x (prodRow a b w) g gate gp sh sc rw rb (i 0) (i 1) := by
  funext i
  have e : i = ix2 (n0 := 16384) (n1 := 128) (i 0) (i 1) := funext fun d => match d with | ⟨0, _⟩ => rfl | ⟨1, _⟩ => rfl
  exact (congrArg (val_main_v63 (F := Ideal) a b w x g gate gp sh sc rw rb) e).trans (l_at a b w x g gate gp sh sc rw rb (i 0) (i 1))

end Cert.AbOutRef

end
-- ==== Proof.PoolOutValue.lean ====
/-
  What the output of the pooling mixer leaves. A grid point takes 256 rows. It multiplies the two halves of the mixer's rows
  by the two halves of the weights, normalises the product, adds it, gated, to the tokens' rows, normalises and modulates those
  for the router, and multiplies by the router's weights, both split into a rounded part and the rest.
-/
module

public import proofs.«01_k».proof.Proof.OutRow
public import proofs.«01_k».proof.Proof.Gen.PoolOutIdeal.Frame
public import proofs.«01_k».proof.Proof.Gen.PoolOutIdeal.Value
public import Idealize.ShloMosaic.Lib.MatmulPlain
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.PoolOutIdeal.Out

open Idealize.ShloMosaic hiding ix1 ix2 ix3
open Idealize.ShloMosaic.TcCoe Idealize.SL.Sem Idealize.ShloMosaic.ValueIdx
open Cert.PoolOutIdeal Cert.PoolOutIdeal.Gen Cert.NormRow Cert.OutRow

/-! ## Layout -/

/-- Index of a row inserted at the summed column. -/
theorem lift_row (a : Fin 256) (j : Fin 2048) : (reduces_S256x2048_S256).lift (ix1 a) j = ix2 a j := by
  funext x; apply Fin.ext
  match x with
  | ⟨0, _⟩ => rfl
  | ⟨1, _⟩ => rfl

/-- A column spread over all columns. -/
theorem spread_col (g : FVec Ideal S256x1 .f32) (a : Fin 256) (k : Fin 2048) :
    broadcastTo S256x2048 g broadcasts_S256x1_S256x2048 (ix2 a k) = g (ix2 a (0 : Fin 1)) := by
  refine broadcastTo_apply _ broadcasts_S256x1_S256x2048 (ix2 a k) (ix2 a (0 : Fin 1)) fun x => ?_
  match x with
  | ⟨0, _⟩ => rfl
  | ⟨1, _⟩ => rfl

/-- A row spread over all rows. -/
theorem spread_row (g : FVec Ideal S1x2048 .f32) (a : Fin 256) (k : Fin 2048) :
    broadcastTo S256x2048 g broadcasts_S1x2048_S256x2048 (ix2 a k) = g (ix2 (0 : Fin 1) k) := by
  refine broadcastTo_apply _ broadcasts_S1x2048_S256x2048 (ix2 a k) (ix2 (0 : Fin 1) k) fun x => ?_
  match x with
  | ⟨0, _⟩ => rfl
  | ⟨1, _⟩ => rfl

/-- The router's bias spread over all rows. -/
theorem spread_bias (g : FVec Ideal S1x128 .f32) (a : Fin 256) (l : Fin 128) :
    broadcastTo S256x128 g broadcasts_S1x128_S256x128 (ix2 a l) = g (ix2 (0 : Fin 1) l) := by
  refine broadcastTo_apply _ broadcasts_S1x128_S256x128 (ix2 a l) (ix2 (0 : Fin 1) l) fun x => ?_
  match x with
  | ⟨0, _⟩ => rfl
  | ⟨1, _⟩ => rfl

/-- A list of rows' numbers made a column. -/
theorem col_cast (f : FVec Ideal S256 .f32) (a : Fin 256) :
    (shapeCast S256x1 f shapeCasts_S256_S256x1 : FVec Ideal S256x1 .f32) (ix2 a (0 : Fin 1)) = f (ix1 a) :=
  shapeCast_apply f shapeCasts_S256_S256x1 (ix2 a (0 : Fin 1)) (ix1 a) (by
    rw [Shape.rowMajor_val_one, Shape.rowMajor_val_two]
    show a.val = a.val * 1 + 0
    omega)

/-- A row with a leading axis of one less. -/
theorem row_cast (v : Vec Ideal S1x1x2048 .f32) (k : Fin 2048) :
    (shapeCast S1x2048 v shapeCasts_S1x1x2048_S1x2048 : Vec Ideal S1x2048 .f32) (ix2 (0 : Fin 1) k) = v (ix3 (0 : Fin 1) (0 : Fin 1) k) :=
  shapeCast_apply v shapeCasts_S1x1x2048_S1x2048 (ix2 (0 : Fin 1) k) (ix3 (0 : Fin 1) (0 : Fin 1) k) (by
    rewrite [Shape.rowMajor_val_two, Shape.rowMajor_val_three]; show (0 * 1 + 0) * 2048 + k.val = 0 * 2048 + k.val; omega)

/-- The sum of a row's squares. -/
theorem squares (x : FVec Ideal S256x2048 .f32) (a : Fin 256) :
    (multiReduction .add [1] S256 (mulf x x) 0x00000000#32 reduces_S256x2048_S256 (.inl rfl) rfl : FVec Ideal S256 .f32) (ix1 a)
      = ∑ j : Fin 2048, x (ix2 a j) * x (ix2 a j) := by
  refine (Ideal.multiReduction_add_single (mulf x x) 0x00000000#32 reduces_S256x2048_S256 (.inl rfl) rfl (ix1 a)).trans ?_
  exact Finset.sum_congr rfl fun j _ => congrArg (mulf x x) (lift_row a j)

/-! ## One point -/

/-- The product of half a block of rows with half the weights is the plain one, -/
theorem dot_half : dot_S256x1024_S1024x2048_S256x2048_1_0_0_1_n_n = DotDims.plain 256 1024 2048 := rfl
/-- and so is the product with the router's weights. -/
theorem dot_router : dot_S256x2048_S2048x128_S256x128_1_0_0_1_n_n = DotDims.plain 256 2048 128 := rfl

/-- One half of a block's product, read. -/
theorem half_apply (v : FVec Ideal S256x1024 .f32) (w : FVec Ideal S1024x2048 .bf16) (a : Fin 256) (f : Fin 2048) :
    matmul (F := Ideal) dot_S256x1024_S1024x2048_S256x2048_1_0_0_1_n_n none (truncf .bf16 v bitsLt_bf16_f32)
        (shapeCast S1024x2048 w shapeCasts_S1024x2048_S1024x2048) (constant S256x2048 .f32 0x00000000#32) (ix2 a f)
      = ∑ k : Fin 1024, v (ix2 a k) * w (ix2 k f) := by
  show FloatOps.matmul (F := Ideal) _ none _ _ _ (ix2 a f) = _
  rw [dot_half, Ideal.matmul_plain_apply]
  show Ideal.ofBits .f32 0x00000000#32 + _ = _
  rw [Ideal.ofBits_zero_f32, zero_add]
  exact Finset.sum_congr rfl fun k _ => congrArg (fun p : EReal => v (ix2 a k) * p)
    (shapeCast_apply w shapeCasts_S1024x2048_S1024x2048 (ix2 k f) (ix2 k f) rfl)

/-- A product with the router's weights, read. -/
theorem router_apply (v : FVec Ideal S256x2048 .bf16) (w : FVec Ideal S2048x128 .bf16) (a : Fin 256) (l : Fin 128) :
    matmul (F := Ideal) dot_S256x2048_S2048x128_S256x128_1_0_0_1_n_n none v
        (shapeCast S2048x128 w shapeCasts_S2048x128_S2048x128) (constant S256x128 .f32 0x00000000#32) (ix2 a l)
      = ∑ k : Fin 2048, v (ix2 a k) * w (ix2 k l) := by
  show FloatOps.matmul (F := Ideal) _ none _ _ _ (ix2 a l) = _
  rw [dot_router, Ideal.matmul_plain_apply]
  show Ideal.ofBits .f32 0x00000000#32 + _ = _
  rw [Ideal.ofBits_zero_f32, zero_add]
  exact Finset.sum_congr rfl fun k _ => congrArg (fun p : EReal => v (ix2 a k) * p)
    (shapeCast_apply w shapeCasts_S2048x128_S2048x128 (ix2 k l) (ix2 k l) rfl)

/-- A block's product: of its rows' two halves and the weights' two halves. -/
def prodAt (v0 : Vec Ideal S256x1024 .f32) (v2 : Vec Ideal S1024x2048 .bf16) (v5 : Vec Ideal S256x1024 .f32) (v7 : Vec Ideal S1024x2048 .bf16)
    (a : Fin 256) (f : Fin 2048) : EReal :=
  (∑ k : Fin 1024, v0 (ix2 a k) * v2 (ix2 k f)) + ∑ k : Fin 1024, v5 (ix2 a k) * v7 (ix2 k f)

/-- What a point stores of the tokens' rows. -/
theorem pay_x (v0 : Vec Ideal S256x1024 .f32) (v2 : Vec Ideal S1024x2048 .bf16) (v5 : Vec Ideal S256x1024 .f32) (v7 : Vec Ideal S1024x2048 .bf16)
    (v11 : Vec Ideal S256x2048 .f32) (v12 : Vec Ideal S1x1x2048 .f32) (v24 : Vec Ideal S1x2048 .f32) (a : Fin 256) (k : Fin 2048) :
    k0_pay2 v0 v2 v5 v7 v11 v12 v24 (ix2 a k)
      = after (fun k => v11 (ix2 a k)) (prodAt v0 v2 v5 v7 a) (fun k => v24 (ix2 (0 : Fin 1) k)) (fun k => v12 (ix3 (0 : Fin 1) (0 : Fin 1) k)) k := by
  have hp : ∀ f, addf (matmul (F := Ideal) dot_S256x1024_S1024x2048_S256x2048_1_0_0_1_n_n none (truncf .bf16 v0 bitsLt_bf16_f32)
        (shapeCast S1024x2048 v2 shapeCasts_S1024x2048_S1024x2048) (constant S256x2048 .f32 0x00000000#32))
      (matmul (F := Ideal) dot_S256x1024_S1024x2048_S256x2048_1_0_0_1_n_n none (truncf .bf16 v5 bitsLt_bf16_f32)
        (shapeCast S1024x2048 v7 shapeCasts_S1024x2048_S1024x2048) (constant S256x2048 .f32 0x00000000#32)) (ix2 a f) = prodAt v0 v2 v5 v7 a f :=
    fun f => congrArg₂ (fun p q : EReal => p + q) (half_apply v0 v2 a f) (half_apply v5 v7 a f)
  unfold k0_pay2
  dsimp only
  refine congrArg (fun q : EReal => v11 (ix2 a k) + q) (congrArg₂ (fun p q : EReal => p * q) ((spread_row _ a k).trans (row_cast v12 k))
    (congrArg₂ (fun p q : EReal => p * q) (congrArg₂ (fun p q : EReal => p * q) (hp k) ((spread_col _ a k).trans ?_))
      ((spread_row _ a k).trans (shapeCast_apply v24 shapeCasts_S1x2048_S1x2048 (ix2 (0 : Fin 1) k) (ix2 (0 : Fin 1) k) rfl))))
  show Ideal.rsqrt (Ideal.div ((shapeCast S256x1 _ shapeCasts_S256_S256x1 : FVec Ideal S256x1 .f32) (ix2 a (0 : Fin 1))) (Ideal.ofBits .f32 0x45000000#32)
      + Ideal.ofBits .f32 0x358637BD#32) = _
  rw [col_cast, squares]
  exact congrArg (fun s : EReal => Ideal.rsqrt (Ideal.div s (Ideal.ofBits .f32 0x45000000#32) + Ideal.ofBits .f32 0x358637BD#32))
    (Finset.sum_congr rfl fun j _ => congrArg₂ (fun p q : EReal => p * q) (hp j) (hp j))

/-- The sums of those rows' squares. -/
theorem pay_squares (v0 : Vec Ideal S256x1024 .f32) (v2 : Vec Ideal S1024x2048 .bf16) (v5 : Vec Ideal S256x1024 .f32) (v7 : Vec Ideal S1024x2048 .bf16)
    (v11 : Vec Ideal S256x2048 .f32) (v12 : Vec Ideal S1x1x2048 .f32) (v24 : Vec Ideal S1x2048 .f32) (a : Fin 256) :
    k0_pay3 v0 v2 v5 v7 v11 v12 v24 (ix2 a (0 : Fin 1))
      = ∑ j : Fin 2048, k0_pay2 v0 v2 v5 v7 v11 v12 v24 (ix2 a j) * k0_pay2 v0 v2 v5 v7 v11 v12 v24 (ix2 a j) := by
  unfold k0_pay3
  rw [col_cast, squares]

/-- What a point stores for the router, of rows and the sums of their squares. -/
theorem pay_h (v30 : FVec Ideal S256x2048 .f32) (v34 : FVec Ideal S256x1 .f32) (v42 : Vec Ideal S1x2048 .f32) (v46 v52 : Vec Ideal S1x1x2048 .f32)
    (a : Fin 256) (hs : v34 (ix2 a (0 : Fin 1)) = ∑ j : Fin 2048, v30 (ix2 a j) * v30 (ix2 a j)) (k : Fin 2048) :
    k0_pay4 v30 v34 v42 v46 v52 (ix2 a k)
      = modulated (fun j => v30 (ix2 a j)) (fun j => v42 (ix2 (0 : Fin 1) j)) (fun j => v46 (ix3 (0 : Fin 1) (0 : Fin 1) j))
          (fun j => v52 (ix3 (0 : Fin 1) (0 : Fin 1) j)) k := by
  unfold k0_pay4
  refine congrArg₂ (fun p q : EReal => p + q) (congrArg₂ (fun p q : EReal => p * q) (congrArg₂ (fun p q : EReal => p * q)
    (congrArg (fun p : EReal => v30 (ix2 a k) * p) ((spread_col _ a k).trans ?_)) ((spread_row _ a k).trans ?_)) ((spread_row _ a k).trans ?_))
    ((spread_row _ a k).trans (row_cast v52 k))
  · exact congrArg (fun s : EReal => Ideal.rsqrt (Ideal.div s (Ideal.ofBits .f32 0x45000000#32) + Ideal.ofBits .f32 0x358637BD#32)) hs
  · exact shapeCast_apply v42 shapeCasts_S1x2048_S1x2048 (ix2 (0 : Fin 1) k) (ix2 (0 : Fin 1) k) rfl
  · exact congrArg (fun p : EReal => Ideal.ofBits .f32 0x3F800000#32 + p) (row_cast v46 k)

/-- What a point stores of the logits, of what it stores for the router. -/
theorem pay_l (v30 : FVec Ideal S256x2048 .f32) (v34 : FVec Ideal S256x1 .f32) (v42 : Vec Ideal S1x2048 .f32) (v46 v52 : Vec Ideal S1x1x2048 .f32)
    (v61 v64 v68 : Vec Ideal S2048x128 .bf16) (v72 : Vec Ideal S1x128 .f32) (a : Fin 256) (l : Fin 128) :
    k0_pay1 (k0_pay5 v30 v34 v42 v46 v52 v61 v64 v68) v72 (ix2 a l)
      = (((∑ k : Fin 2048, k0_pay4 v30 v34 v42 v46 v52 (ix2 a k) * v61 (ix2 k l))
          + ∑ k : Fin 2048, (k0_pay4 v30 v34 v42 v46 v52 (ix2 a k) - k0_pay4 v30 v34 v42 v46 v52 (ix2 a k)) * v64 (ix2 k l))
          + ∑ k : Fin 2048, k0_pay4 v30 v34 v42 v46 v52 (ix2 a k) * v68 (ix2 k l)) + v72 (ix2 (0 : Fin 1) l) := by
  unfold k0_pay1 k0_pay5
  dsimp only
  refine congrArg₂ (fun p q : EReal => p + q) (congrArg₂ (fun p q : EReal => p + q) (congrArg₂ (fun p q : EReal => p + q)
    (router_apply _ v61 a l) (router_apply _ v64 a l)) (router_apply _ v68 a l)) ((spread_bias _ a l).trans ?_)
  exact shapeCast_apply v72 shapeCasts_S1x128_S1x128 (ix2 (0 : Fin 1) l) (ix2 (0 : Fin 1) l) rfl

/-! ## The router's padded weights and bias -/

/-- The router's weights as the host pads them. -/
def padW (u : S2048x32.Idx → EReal) : S2048x128.Idx → EReal :=
  Host.scatter scatter_S2048x128_S1_S2048x32_01_n_1_0 (fun _ b => b)
    (broadcastInDim S2048x128 ![] bcast_S_S2048x128 (constant (F := Ideal) S_ .f32 0x00000000#32))
    (broadcastInDim S1 ![] bcast_S_S1 (constantI S_ 32 0#32)) u

/-- Where an entry of the weights lands: at its own row and column. -/
theorem lands_w (j : S2048x32.Idx) (k : Fin 2048) (l : Fin 128) :
    scatter_S2048x128_S1_S2048x32_01_n_1_0.resultIdx? j (broadcastInDim S1 ![] bcast_S_S1 (constantI S_ 32 0#32)) = some (ix2 k l)
      ↔ (j 0).val = k.val ∧ (j 1).val = l.val := by
  have s0 : scatter_S2048x128_S1_S2048x32_01_n_1_0.start j (broadcastInDim S1 ![] bcast_S_S1 (constantI S_ 32 0#32)) 0 = 0 := rfl
  have s1 : scatter_S2048x128_S1_S2048x32_01_n_1_0.start j (broadcastInDim S1 ![] bcast_S_S1 (constantI S_ 32 0#32)) 1 = 0 := rfl
  have w0 : scatter_S2048x128_S1_S2048x32_01_n_1_0.window j 0 = (j 0).val := rfl
  have w1 : scatter_S2048x128_S1_S2048x32_01_n_1_0.window j 1 = (j 1).val := rfl
  rw [Routing.resultIdx?_eq_some]
  constructor
  · intro h
    have h0 := h 0; have h1 := h 1
    rw [s0, w0] at h0; rw [s1, w1] at h1
    change (0 : Int) + ((j 0).val : Int) = (k.val : Int) at h0
    change (0 : Int) + ((j 1).val : Int) = (l.val : Int) at h1
    omega
  · rintro ⟨h0, h1⟩ b
    match b with
    | ⟨0, _⟩ => exact (congrArg₂ (fun (p : Int) (q : Nat) => p + (q : Int)) s0 w0).trans (by show (0 : Int) + ((j 0).val : Int) = (k.val : Int); omega)
    | ⟨1, _⟩ => exact (congrArg₂ (fun (p : Int) (q : Nat) => p + (q : Int)) s1 w1).trans (by show (0 : Int) + ((j 1).val : Int) = (l.val : Int); omega)

/-- The padded weights, read. -/
theorem padW_apply (u : S2048x32.Idx → EReal) (k : Fin 2048) (l : Fin 128) : padW u (ix2 k l) = padded (fun l => u (ix2 k l)) l := by
  unfold padW padded
  by_cases h : l.val < 32
  · rw [dif_pos h]
    refine Routing.scatter_set_hit _ _ _ u (ix2 k l) _ (fun j hj => ?_) (ix2 k (⟨l.val, h⟩ : Fin 32)) ((lands_w _ k l).2 ⟨rfl, rfl⟩)
    obtain ⟨h0, h1⟩ := (lands_w j k l).1 hj
    refine congrArg u (funext fun b => Fin.ext ?_)
    match b with
    | ⟨0, _⟩ => exact h0
    | ⟨1, _⟩ => exact h1
  · rw [dif_neg h]
    refine (Routing.scatter_set_miss _ _ _ u (ix2 k l) fun j hj => h ?_).trans Ideal.ofBits_zero_f32
    have := ((lands_w j k l).1 hj).2
    have h1 : (j 1).val < 32 := (j 1).isLt
    omega

/-- Where the bias starts: at the first row and column. -/
abbrev origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The router's bias as the host pads it. -/
def padB (u : S32.Idx → EReal) : S1x128.Idx → EReal :=
  Host.scatter scatter_S1x128_S2_S32_0_0_01_0 (fun _ b => b)
    (broadcastInDim S1x128 ![] bcast_S_S1x128 (constant (F := Ideal) S_ .f32 0x00000000#32)) origin u

/-- Where an entry of the bias lands: in its own column. -/
theorem lands_b (j : S32.Idx) (l : Fin 128) :
    scatter_S1x128_S2_S32_0_0_01_0.resultIdx? j origin = some (ix2 (0 : Fin 1) l) ↔ (j 0).val = l.val := by
  have s0 : scatter_S1x128_S2_S32_0_0_01_0.start j origin 0 = 0 := rfl
  have s1 : scatter_S1x128_S2_S32_0_0_01_0.start j origin 1 = 0 := rfl
  have w0 : scatter_S1x128_S2_S32_0_0_01_0.window j 0 = 0 := rfl
  have w1 : scatter_S1x128_S2_S32_0_0_01_0.window j 1 = (j 0).val := rfl
  rw [Routing.resultIdx?_eq_some]
  constructor
  · intro h
    have h1 := h 1
    rw [s1, w1] at h1
    change (0 : Int) + ((j 0).val : Int) = (l.val : Int) at h1
    omega
  · rintro h1 b
    match b with
    | ⟨0, _⟩ => exact (congrArg₂ (fun (p : Int) (q : Nat) => p + (q : Int)) s0 w0).trans rfl
    | ⟨1, _⟩ => exact (congrArg₂ (fun (p : Int) (q : Nat) => p + (q : Int)) s1 w1).trans (by show (0 : Int) + ((j 0).val : Int) = (l.val : Int); omega)

/-- The padded bias, read. -/
theorem padB_apply (u : S32.Idx → EReal) (l : Fin 128) : padB u (ix2 (0 : Fin 1) l) = padded (fun l => u (ix1 l)) l := by
  unfold padB padded
  by_cases h : l.val < 32
  · rw [dif_pos h]
    refine Routing.scatter_set_hit _ _ _ u (ix2 (0 : Fin 1) l) _ (fun j hj => ?_) (ix1 (⟨l.val, h⟩ : Fin 32)) ((lands_b _ l).2 rfl)
    refine congrArg u (funext fun b => Fin.ext ?_)
    match b with
    | ⟨0, _⟩ => exact (lands_b j l).1 hj
  · rw [dif_neg h]
    refine (Routing.scatter_set_miss _ _ _ u (ix2 (0 : Fin 1) l) fun j hj => h ?_).trans Ideal.ofBits_zero_f32
    have := (lands_b j l).1 hj
    have h1 : (j 0).val < 32 := (j 0).isLt
    omega

/-! ## The blocks -/

variable (m : (ℓ : Loc nD τ sig) → Buf (Elt Ideal) ℓ) (ρ : Dev nD → PrngReg)

/-- The arguments: the mixer's rows, the weights, the tokens, the norm's weights, the gates, -/
abbrev argA (c : Dev nD) : S16384x2048.Idx → EReal := m ((c : Thread nD τ).loc main_arg0)
abbrev argW (c : Dev nD) : S2048x2048.Idx → EReal := m ((c : Thread nD τ).loc main_arg1)
abbrev argX (c : Dev nD) : S16384x2048.Idx → EReal := m ((c : Thread nD τ).loc main_arg2)
abbrev argG (c : Dev nD) : S2048.Idx → EReal := m ((c : Thread nD τ).loc main_arg3)
abbrev argGate (c : Dev nD) : S8x2048.Idx → EReal := m ((c : Thread nD τ).loc main_arg4)
/-- and the router's norm's weights, shifts, scales, weights and bias. -/
abbrev argGp (c : Dev nD) : S2048.Idx → EReal := m ((c : Thread nD τ).loc main_arg5)
abbrev argSh (c : Dev nD) : S8x2048.Idx → EReal := m ((c : Thread nD τ).loc main_arg6)
abbrev argSc (c : Dev nD) : S8x2048.Idx → EReal := m ((c : Thread nD τ).loc main_arg7)
abbrev argRw (c : Dev nD) : S2048x32.Idx → EReal := m ((c : Thread nD τ).loc main_arg8)
abbrev argRb (c : Dev nD) : S32.Idx → EReal := m ((c : Thread nD τ).loc main_arg9)

/-- Row `r` of the product at column `f`. -/
def prodRow (a : S16384x2048.Idx → EReal) (w : S2048x2048.Idx → EReal) (r : Fin 16384) (f : Fin 2048) : EReal :=
  halves (fun k => a (ix2 r (⟨k.val, by omega⟩ : Fin 2048))) (fun k => a (ix2 r (⟨1024 + k.val, by omega⟩ : Fin 2048))) (fun k => w (ix2 k f))

/-- The product's rows of the arguments. -/
abbrev rows (c : Dev nD) : Fin 16384 → Fin 2048 → EReal := prodRow (argA m c) (argW m c)

/-- A grid point is below the number of points. -/
theorem hN (t : Fin cfg0.N) : t.val < 64 := lt_of_lt_of_eq t.isLt (N_0 : cfg0.N = 64)

/-- Which row of the gates, scales and shifts block of rows `s` takes. -/
def blockRow (s : ℕ) : ℕ := if s < 32 then 0 else 1 + (s - 32) / 8

/-- A token of a block of rows takes the block's row of them. -/
theorem tokenRow_val (s : ℕ) (hs : s < 64) (a : Fin 256) : (tokenRow ⟨256 * s + a.val, by omega⟩).val = blockRow s := by
  unfold blockRow
  show (if 256 * s + a.val < 8192 then 0 else 1 + (256 * s + a.val - 8192) / 2048) = _
  by_cases h : s < 32
  · rw [if_pos (by omega), if_pos h]
  · rw [if_neg (by omega), if_neg h]; omega

/-- Each window's block index at each point. -/
theorem idx_rows : ∀ t : Fin cfg0.N, win0_0.index t = ![t.val, 0] ∧ win0_1.index t = ![t.val, 1] ∧ win0_3.index t = ![t.val, 0]
    ∧ win0_12.index t = ![t.val, 0] ∧ win0_13.index t = ![t.val, 0] ∧ win0_14.index t = ![t.val, 0] :=
  (by decide +kernel : ∀ t : Fin grid0.N, _)
/-- Windows that every point reads whole, -/
theorem idx_whole : ∀ t : Fin cfg0.N, win0_2.index t = ![0, 0] ∧ win0_4.index t = ![0, 0] ∧ win0_6.index t = ![0, 0]
    ∧ win0_9.index t = ![0, 0] ∧ win0_10.index t = ![0, 0] ∧ win0_11.index t = ![0, 0] :=
  (by decide +kernel : ∀ t : Fin grid0.N, _)
/-- and windows of the gates, shifts and scales. -/
theorem idx_seq : ∀ t : Fin cfg0.N, win0_5.index t = ![blockRow t.val, 0, 0] ∧ win0_7.index t = ![blockRow t.val, 0, 0]
    ∧ win0_8.index t = ![blockRow t.val, 0, 0] :=
  (by decide +kernel : ∀ t : Fin grid0.N, _)

/-- Rounding is exact here, -/
theorem round_id (x : FVec Ideal S2048x128 .f32) : (truncf .bf16 x bitsLt_bf16_f32 : S2048x128.Idx → EReal) = x := rfl
/-- and what it leaves is the difference of a number and itself. -/
theorem rest_id (x : FVec Ideal S2048x128 .f32) :
    (truncf .bf16 (subf x (extf .f32 (truncf .bf16 x bitsLt_bf16_f32) bitsLt_bf16_f32)) bitsLt_bf16_f32 : S2048x128.Idx → EReal) = fun i => x i - x i := rfl

/-- The router's weights the region finds, rounded: the padded ones, rounding being exact here, -/
theorem found_hi (c : Dev nD) : (V m c main_v3 : S2048x128.Idx → EReal) = padW (argRw m c) := by
  show StableHlo.after _ _ _ = _
  after_results
  exact round_id _

/-- and what rounding leaves of them. -/
theorem found_lo (c : Dev nD) : (V m c main_v6 : S2048x128.Idx → EReal) = fun i => padW (argRw m c) i - padW (argRw m c) i := by
  show StableHlo.after _ _ _ = _
  after_results
  exact rest_id _

/-- The router's bias the region finds. -/
theorem found_rb (c : Dev nD) : (V m c main_v11 : S1x128.Idx → EReal) = padB (argRb m c) := by
  show StableHlo.after _ _ _ = _
  after_results
  rfl

/-- The weights the region finds are the argument's: the host's rounding is exact here. -/
theorem found_w (c : Dev nD) : (V m c main_v12 : S2048x2048.Idx → EReal) = argW m c := by
  show StableHlo.after _ _ _ = _
  after_results
  rfl

/-- The norms' weights the region finds are the arguments', with a leading axis of one. -/
theorem found_g (c : Dev nD) : (V m c main_v13 : S1x2048.Idx → EReal) = shapeCast S1x2048 (argG m c) shapeCasts_S2048_S1x2048 := by
  show StableHlo.after _ _ _ = _
  after_results
  rfl
theorem found_gp (c : Dev nD) : (V m c main_v15 : S1x2048.Idx → EReal) = shapeCast S1x2048 (argGp m c) shapeCasts_S2048_S1x2048 := by
  show StableHlo.after _ _ _ = _
  after_results
  rfl

/-- The gates, shifts and scales the region finds are the arguments', with an axis of one between. -/
theorem found_gate (c : Dev nD) : (V m c main_v14 : S8x1x2048.Idx → EReal) = broadcastInDim S8x1x2048 ![0, 2] bcast_S8x2048_S8x1x2048_0_2 (argGate m c) := by
  show StableHlo.after _ _ _ = _
  after_results
theorem found_sh (c : Dev nD) : (V m c main_v16 : S8x1x2048.Idx → EReal) = broadcastInDim S8x1x2048 ![0, 2] bcast_S8x2048_S8x1x2048_0_2 (argSh m c) := by
  show StableHlo.after _ _ _ = _
  after_results
theorem found_sc (c : Dev nD) : (V m c main_v17 : S8x1x2048.Idx → EReal) = broadcastInDim S8x1x2048 ![0, 2] bcast_S8x2048_S8x1x2048_0_2 (argSc m c) := by
  show StableHlo.after _ _ _ = _
  after_results

/-- Row `a` of point `t`'s blocks. -/
abbrev tok (t : Fin cfg0.N) (a : Fin 256) : Fin 16384 := ⟨256 * t.val + a.val, by have := hN t; omega⟩

/-- Point `t`'s first half of its rows of the mixer, -/
theorem blk_a (c : Dev nD) (t : Fin cfg0.N) (a : Fin 256) (k : Fin 1024) :
    (iblk m c 0 t : Vec Ideal S256x1024 .f32) (ix2 a k) = argA m c (ix2 (tok t a) (⟨k.val, by omega⟩ : Fin 2048)) := by
  blk_simp [iblk]
  refine congrArg (argA m c) (funext fun b => Fin.ext ?_)
  match b with
  | ⟨0, _⟩ => show win0_0.index t 0 * 256 + 1 * a.val = 256 * t.val + a.val
              rw [(idx_rows t).1]; show t.val * 256 + 1 * a.val = _; omega
  | ⟨1, _⟩ => show win0_0.index t 1 * 1024 + 1 * k.val = k.val
              rw [(idx_rows t).1]; show 0 * 1024 + 1 * k.val = _; omega

/-- and the second. -/
theorem blk_b (c : Dev nD) (t : Fin cfg0.N) (a : Fin 256) (k : Fin 1024) :
    (iblk m c 1 t : Vec Ideal S256x1024 .f32) (ix2 a k) = argA m c (ix2 (tok t a) (⟨1024 + k.val, by omega⟩ : Fin 2048)) := by
  blk_simp [iblk]
  refine congrArg (argA m c) (funext fun b => Fin.ext ?_)
  match b with
  | ⟨0, _⟩ => show win0_1.index t 0 * 256 + 1 * a.val = 256 * t.val + a.val
              rw [(idx_rows t).2.1]; show t.val * 256 + 1 * a.val = _; omega
  | ⟨1, _⟩ => show win0_1.index t 1 * 1024 + 1 * k.val = 1024 + k.val
              rw [(idx_rows t).2.1]; show 1 * 1024 + 1 * k.val = _; omega

/-- Point `t`'s rows of the tokens. -/
theorem blk_x (c : Dev nD) (t : Fin cfg0.N) (a : Fin 256) (k : Fin 2048) :
    (iblk m c 3 t : Vec Ideal S256x2048 .f32) (ix2 a k) = argX m c (ix2 (tok t a) k) := by
  blk_simp [iblk]
  refine congrArg (argX m c) (funext fun b => Fin.ext ?_)
  match b with
  | ⟨0, _⟩ => show win0_3.index t 0 * 256 + 1 * a.val = 256 * t.val + a.val
              rw [(idx_rows t).2.2.1]; show t.val * 256 + 1 * a.val = _; omega
  | ⟨1, _⟩ => show win0_3.index t 1 * 2048 + 1 * k.val = k.val
              rw [(idx_rows t).2.2.1]; show 0 * 2048 + 1 * k.val = _; omega

/-- The weights, the same at every point. -/
theorem blk_w (c : Dev nD) (t : Fin cfg0.N) (k f : Fin 2048) :
    (iblk m c 2 t : Vec Ideal S2048x2048 .bf16) (ix2 k f) = argW m c (ix2 k f) := by
  refine Eq.trans (b := (V m c main_v12 : S2048x2048.Idx → EReal) (ix2 k f)) ?_ (congrFun (found_w m c) _)
  refine congrArg (V m c main_v12 : S2048x2048.Idx → EReal) (funext fun b => Fin.ext ?_)
  match b with
  | ⟨0, _⟩ => show win0_2.index t 0 * 2048 + 1 * k.val = k.val
              rw [(idx_whole t).1]; show 0 * 2048 + 1 * k.val = _; omega
  | ⟨1, _⟩ => show win0_2.index t 1 * 2048 + 1 * f.val = f.val
              rw [(idx_whole t).1]; show 0 * 2048 + 1 * f.val = _; omega

/-- A list with a leading axis of one, read without it. -/
theorem lead (v : S2048.Idx → EReal) (k : Fin 2048) :
    shapeCast S1x2048 v shapeCasts_S2048_S1x2048 (ix2 (0 : Fin 1) k) = v (ix1 k) :=
  shapeCast_apply v shapeCasts_S2048_S1x2048 (ix2 (0 : Fin 1) k) (ix1 k) (by
    rw [Shape.rowMajor_val_one, Shape.rowMajor_val_two]; show k.val = 0 * 2048 + k.val; omega)

/-- The weights of the mixer's norm, the same at every point, -/
theorem blk_g (c : Dev nD) (t : Fin cfg0.N) (k : Fin 2048) :
    (iblk m c 4 t : Vec Ideal S1x2048 .f32) (ix2 (0 : Fin 1) k) = argG m c (ix1 k) := by
  refine Eq.trans (b := (V m c main_v13 : S1x2048.Idx → EReal) (ix2 (0 : Fin 1) k)) ?_ ((congrFun (found_g m c) _).trans (lead _ k))
  refine congrArg (V m c main_v13 : S1x2048.Idx → EReal) (funext fun b => Fin.ext ?_)
  match b with
  | ⟨0, _⟩ => show win0_4.index t 0 * 1 + 1 * 0 = 0
              rw [(idx_whole t).2.1]; rfl
  | ⟨1, _⟩ => show win0_4.index t 1 * 2048 + 1 * k.val = k.val
              rw [(idx_whole t).2.1]; show 0 * 2048 + 1 * k.val = _; omega

/-- and of the router's. -/
theorem blk_gp (c : Dev nD) (t : Fin cfg0.N) (k : Fin 2048) :
    (iblk m c 6 t : Vec Ideal S1x2048 .f32) (ix2 (0 : Fin 1) k) = argGp m c (ix1 k) := by
  refine Eq.trans (b := (V m c main_v15 : S1x2048.Idx → EReal) (ix2 (0 : Fin 1) k)) ?_ ((congrFun (found_gp m c) _).trans (lead _ k))
  refine congrArg (V m c main_v15 : S1x2048.Idx → EReal) (funext fun b => Fin.ext ?_)
  match b with
  | ⟨0, _⟩ => show win0_6.index t 0 * 1 + 1 * 0 = 0
              rw [(idx_whole t).2.2.1]; rfl
  | ⟨1, _⟩ => show win0_6.index t 1 * 2048 + 1 * k.val = k.val
              rw [(idx_whole t).2.2.1]; show 0 * 2048 + 1 * k.val = _; omega

/-- An array with an axis of one between, read without it. -/
theorem between (v : S8x2048.Idx → EReal) (e : Fin 8) (k : Fin 2048) :
    broadcastInDim S8x1x2048 ![0, 2] bcast_S8x2048_S8x1x2048_0_2 v (ix3 e (0 : Fin 1) k) = v (ix2 e k) :=
  broadcastInDim_apply _ bcast_S8x2048_S8x1x2048_0_2 v (ix3 e (0 : Fin 1) k) (ix2 e k) (fun b => match b with
    | ⟨0, _⟩ => by show e.val = if (8 : Nat) = 1 then 0 else e.val; rw [if_neg (by decide)]
    | ⟨1, _⟩ => by show k.val = if (2048 : Nat) = 1 then 0 else k.val; rw [if_neg (by decide)])

/-- Point `t`'s gate: the row its tokens take. -/
theorem blk_gate (c : Dev nD) (t : Fin cfg0.N) (e : Fin 8) (he : e.val = blockRow t.val) (k : Fin 2048) :
    (iblk m c 5 t : Vec Ideal S1x1x2048 .f32) (ix3 (0 : Fin 1) (0 : Fin 1) k) = argGate m c (ix2 e k) := by
  refine Eq.trans (b := (V m c main_v14 : S8x1x2048.Idx → EReal) (ix3 e (0 : Fin 1) k)) ?_
    ((congrFun (found_gate m c) _).trans (between (argGate m c) e k))
  refine congrArg (V m c main_v14 : S8x1x2048.Idx → EReal) (funext fun b => Fin.ext ?_)
  match b with
  | ⟨0, _⟩ => show win0_5.index t 0 * 1 + 1 * 0 = e.val
              rw [(idx_seq t).1, he]; show blockRow t.val * 1 + 1 * 0 = _; omega
  | ⟨1, _⟩ => show win0_5.index t 1 * 1 + 1 * 0 = 0
              rw [(idx_seq t).1]; rfl
  | ⟨2, _⟩ => show win0_5.index t 2 * 2048 + 1 * k.val = k.val
              rw [(idx_seq t).1]; show 0 * 2048 + 1 * k.val = _; omega

/-- Its shift, -/
theorem blk_sh (c : Dev nD) (t : Fin cfg0.N) (e : Fin 8) (he : e.val = blockRow t.val) (k : Fin 2048) :
    (iblk m c 7 t : Vec Ideal S1x1x2048 .f32) (ix3 (0 : Fin 1) (0 : Fin 1) k) = argSh m c (ix2 e k) := by
  refine Eq.trans (b := (V m c main_v16 : S8x1x2048.Idx → EReal) (ix3 e (0 : Fin 1) k)) ?_
    ((congrFun (found_sh m c) _).trans (between (argSh m c) e k))
  refine congrArg (V m c main_v16 : S8x1x2048.Idx → EReal) (funext fun b => Fin.ext ?_)
  match b with
  | ⟨0, _⟩ => show win0_7.index t 0 * 1 + 1 * 0 = e.val
              rw [(idx_seq t).2.1, he]; show blockRow t.val * 1 + 1 * 0 = _; omega
  | ⟨1, _⟩ => show win0_7.index t 1 * 1 + 1 * 0 = 0
              rw [(idx_seq t).2.1]; rfl
  | ⟨2, _⟩ => show win0_7.index t 2 * 2048 + 1 * k.val = k.val
              rw [(idx_seq t).2.1]; show 0 * 2048 + 1 * k.val = _; omega

/-- and its scale. -/
theorem blk_sc (c : Dev nD) (t : Fin cfg0.N) (e : Fin 8) (he : e.val = blockRow t.val) (k : Fin 2048) :
    (iblk m c 8 t : Vec Ideal S1x1x2048 .f32) (ix3 (0 : Fin 1) (0 : Fin 1) k) = argSc m c (ix2 e k) := by
  refine Eq.trans (b := (V m c main_v17 : S8x1x2048.Idx → EReal) (ix3 e (0 : Fin 1) k)) ?_
    ((congrFun (found_sc m c) _).trans (between (argSc m c) e k))
  refine congrArg (V m c main_v17 : S8x1x2048.Idx → EReal) (funext fun b => Fin.ext ?_)
  match b with
  | ⟨0, _⟩ => show win0_8.index t 0 * 1 + 1 * 0 = e.val
              rw [(idx_seq t).2.2, he]; show blockRow t.val * 1 + 1 * 0 = _; omega
  | ⟨1, _⟩ => show win0_8.index t 1 * 1 + 1 * 0 = 0
              rw [(idx_seq t).2.2]; rfl
  | ⟨2, _⟩ => show win0_8.index t 2 * 2048 + 1 * k.val = k.val
              rw [(idx_seq t).2.2]; show 0 * 2048 + 1 * k.val = _; omega

/-- The router's rounded weights, the same at every point, -/
theorem blk_hi (c : Dev nD) (t : Fin cfg0.N) (k : Fin 2048) (l : Fin 128) :
    (iblk m c 9 t : Vec Ideal S2048x128 .bf16) (ix2 k l) = padded (fun l => argRw m c (ix2 k l)) l := by
  refine Eq.trans (b := (V m c main_v3 : S2048x128.Idx → EReal) (ix2 k l)) ?_ ((congrFun (found_hi m c) _).trans (padW_apply _ k l))
  refine congrArg (V m c main_v3 : S2048x128.Idx → EReal) (funext fun b => Fin.ext ?_)
  match b with
  | ⟨0, _⟩ => show win0_9.index t 0 * 2048 + 1 * k.val = k.val
              rw [(idx_whole t).2.2.2.1]; show 0 * 2048 + 1 * k.val = _; omega
  | ⟨1, _⟩ => show win0_9.index t 1 * 128 + 1 * l.val = l.val
              rw [(idx_whole t).2.2.2.1]; show 0 * 128 + 1 * l.val = _; omega

/-- what rounding leaves of them, -/
theorem blk_lo (c : Dev nD) (t : Fin cfg0.N) (k : Fin 2048) (l : Fin 128) :
    (iblk m c 10 t : Vec Ideal S2048x128 .bf16) (ix2 k l)
      = padded (fun l => argRw m c (ix2 k l)) l - padded (fun l => argRw m c (ix2 k l)) l := by
  refine Eq.trans (b := (V m c main_v6 : S2048x128.Idx → EReal) (ix2 k l)) ?_ ((congrFun (found_lo m c) _).trans
    (congrArg₂ (fun p q : EReal => p - q) (padW_apply _ k l) (padW_apply _ k l)))
  refine congrArg (V m c main_v6 : S2048x128.Idx → EReal) (funext fun b => Fin.ext ?_)
  match b with
  | ⟨0, _⟩ => show win0_10.index t 0 * 2048 + 1 * k.val = k.val
              rw [(idx_whole t).2.2.2.2.1]; show 0 * 2048 + 1 * k.val = _; omega
  | ⟨1, _⟩ => show win0_10.index t 1 * 128 + 1 * l.val = l.val
              rw [(idx_whole t).2.2.2.2.1]; show 0 * 128 + 1 * l.val = _; omega

/-- and the bias. -/
theorem blk_rb (c : Dev nD) (t : Fin cfg0.N) (l : Fin 128) :
    (iblk m c 11 t : Vec Ideal S1x128 .f32) (ix2 (0 : Fin 1) l) = padded (fun l => argRb m c (ix1 l)) l := by
  refine Eq.trans (b := (V m c main_v11 : S1x128.Idx → EReal) (ix2 (0 : Fin 1) l)) ?_ ((congrFun (found_rb m c) _).trans (padB_apply _ l))
  refine congrArg (V m c main_v11 : S1x128.Idx → EReal) (funext fun b => Fin.ext ?_)
  match b with
  | ⟨0, _⟩ => show win0_11.index t 0 * 1 + 1 * 0 = 0
              rw [(idx_whole t).2.2.2.2.2]; rfl
  | ⟨1, _⟩ => show win0_11.index t 1 * 128 + 1 * l.val = l.val
              rw [(idx_whole t).2.2.2.2.2]; show 0 * 128 + 1 * l.val = _; omega

/-! ## What a point stores -/

/-- Two zeros, -/
theorem zero2 : (![0, 0] : Fin 2 → Nat) = fun _ => 0 := funext fun a => by fin_cases a <;> rfl
/-- and three. -/
theorem zero3 : (![0, 0, 0] : Fin 3 → Nat) = fun _ => 0 := funext fun a => by fin_cases a <;> rfl

/-- The first half of the weights' rows, read, -/
theorem low (w : Vec Ideal S2048x2048 .bf16) (k : Fin 1024) (f : Fin 2048) :
    View.ld w r0_1 (ix2 k f) = w (ix2 (⟨k.val, by omega⟩ : Fin 2048) f) := by
  refine congrArg w (funext fun b => Fin.ext ?_)
  match b with
  | ⟨0, _⟩ => show 0 + 1 * k.val = k.val; omega
  | ⟨1, _⟩ => show 0 + 1 * f.val = f.val; omega

/-- and the second. -/
theorem high (w : Vec Ideal S2048x2048 .bf16) (k : Fin 1024) (f : Fin 2048) :
    View.ld w r0_2 (ix2 k f) = w (ix2 (⟨1024 + k.val, by omega⟩ : Fin 2048) f) := by
  refine congrArg w (funext fun b => Fin.ext ?_)
  match b with
  | ⟨0, _⟩ => show 1024 + 1 * k.val = 1024 + k.val; omega
  | ⟨1, _⟩ => show 0 + 1 * f.val = f.val; omega

/-- Point `t`'s rows of the tokens, after the mixer. -/
def xs (c : Dev nD) (t : Fin cfg0.N) : FVec Ideal S256x2048 .f32 :=
  k0_pay2 (iblk m c 0 t) (View.ld (iblk m c 2 t) r0_1) (iblk m c 1 t) (View.ld (iblk m c 2 t) r0_2) (iblk m c 3 t) (iblk m c 5 t) (iblk m c 4 t)

/-- The sums of their squares. -/
def sq (c : Dev nD) (t : Fin cfg0.N) : FVec Ideal S256x1 .f32 :=
  k0_pay3 (iblk m c 0 t) (View.ld (iblk m c 2 t) r0_1) (iblk m c 1 t) (View.ld (iblk m c 2 t) r0_2) (iblk m c 3 t) (iblk m c 5 t) (iblk m c 4 t)

/-- What it stores for the router. -/
def hs (c : Dev nD) (t : Fin cfg0.N) : FVec Ideal S256x2048 .f32 :=
  k0_pay4 (xs m c t) (sq m c t) (iblk m c 6 t) (iblk m c 8 t) (iblk m c 7 t)

/-- The rows, read. -/
theorem xs_apply (c : Dev nD) (t : Fin cfg0.N) (a : Fin 256) (k : Fin 2048) :
    xs m c t (ix2 a k) = outX (argX m c) (rows m c) (argG m c) (argGate m c) (tok t a) k := by
  have he := tokenRow_val t.val (hN t) a
  unfold xs outX
  rw [pay_x]
  have hp : prodAt (iblk m c 0 t) (View.ld (iblk m c 2 t) r0_1) (iblk m c 1 t) (View.ld (iblk m c 2 t) r0_2) a = rows m c (tok t a) := by
    funext f
    exact congrArg₂ (fun p q : EReal => p + q)
      (Finset.sum_congr rfl fun k _ => congrArg₂ (fun p q : EReal => p * q) (blk_a m c t a k) ((low _ k f).trans (blk_w m c t _ f)))
      (Finset.sum_congr rfl fun k _ => congrArg₂ (fun p q : EReal => p * q) (blk_b m c t a k) ((high _ k f).trans (blk_w m c t _ f)))
  rw [hp]
  simp only [blk_x, blk_g, blk_gate m c t _ he]

/-- What is stored for the router, read. -/
theorem hs_apply (c : Dev nD) (t : Fin cfg0.N) (a : Fin 256) (k : Fin 2048) :
    hs m c t (ix2 a k) = outH (argX m c) (rows m c) (argG m c) (argGate m c) (argGp m c) (argSh m c) (argSc m c) (tok t a) k := by
  have he := tokenRow_val t.val (hN t) a
  unfold hs outH
  rw [pay_h (xs m c t) (sq m c t) _ _ _ a (pay_squares _ _ _ _ _ _ _ a)]
  have hx : (fun j => xs m c t (ix2 a j)) = outX (argX m c) (rows m c) (argG m c) (argGate m c) (tok t a) := funext fun j => xs_apply m c t a j
  rw [hx]
  simp only [blk_gp, blk_sh m c t _ he, blk_sc m c t _ he]

/-- A load of a whole array reads it. -/
theorem whole_a (v : Vec Ideal S256x1024 .f32) : View.ld v r0_0 = v := View.ld_unit_zero zero2 _ v
theorem whole_x (v : Vec Ideal S256x2048 .f32) : View.ld v r0_3 = v := View.ld_unit_zero zero2 _ v
theorem whole_s (v : Vec Ideal S1x1x2048 .f32) : View.ld v r0_4 = v := View.ld_unit_zero zero3 _ v
theorem whole_g (v : Vec Ideal S1x2048 .f32) : View.ld v r0_5 = v := View.ld_unit_zero zero2 _ v
theorem whole_w (v : Vec Ideal S2048x128 .bf16) : View.ld v r0_6 = v := View.ld_unit_zero zero2 _ v
theorem whole_b (v : Vec Ideal S1x128 .f32) : View.ld v r0_7 = v := View.ld_unit_zero zero2 _ v

/-- The first stored block, of the blocks loaded, -/
theorem stored_x (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_12 x0 x1 x2 x3 x4 x5 x6 x7 x8 x9 x10 x11 = k0_pay2 x0 (View.ld x2 r0_1) x1 (View.ld x2 r0_2) x3 x5 x4 := by
  unfold out0_12
  rw [View.canon_unit_zero zero2, whole_a, whole_a, whole_x, whole_s, whole_g]

/-- the second, -/
theorem stored_h (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_13 x0 x1 x2 x3 x4 x5 x6 x7 x8 x9 x10 x11 = k0_pay4 (k0_pay2 x0 (View.ld x2 r0_1) x1 (View.ld x2 r0_2) x3 x5 x4)
      (k0_pay3 x0 (View.ld x2 r0_1) x1 (View.ld x2 r0_2) x3 x5 x4) x6 x8 x7 := by
  unfold out0_13 k0_pay6 k0_pay7
  rw [View.canon_unit_zero zero2]
  simp only [whole_a, whole_x, whole_s, whole_g]

/-- and the third. -/
theorem stored_l (x0 x1 : Vec Ideal S256x1024 .f32) (x2 : Vec Ideal S2048x2048 .bf16) (x3 : Vec Ideal S256x2048 .f32) (x4 : Vec Ideal S1x2048 .f32)
    (x5 : Vec Ideal S1x1x2048 .f32) (x6 : Vec Ideal S1x2048 .f32) (x7 x8 : Vec Ideal S1x1x2048 .f32) (x9 x10 : Vec Ideal S2048x128 .bf16) (x11 : Vec Ideal S1x128 .f32) :
    out0_14 x0 x1 x2 x3 x4 x5 x6 x7 x8 x9 x10 x11 = k0_pay1 (k0_pay5 (k0_pay2 x0 (View.ld x2 r0_1) x1 (View.ld x2 r0_2) x3 x5 x4)
      (k0_pay3 x0 (View.ld x2 r0_1) x1 (View.ld x2 r0_2) x3 x5 x4) x6 x8 x7 x9 x9 x10) x11 := by
  unfold out0_14 k0_pay6 k0_pay7
  rw [View.canon_unit_zero zero2]
  simp only [whole_a, whole_x, whole_s, whole_g, whole_w, whole_b]

/-- The block of the tokens' rows that a point leaves, -/
theorem out_x (c : Dev nD) (t : Fin cfg0.N) : (dats m 0 c).after 12 t = xs m c t :=
  (after0_12 m c t).trans (stored_x (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- the block for the router, -/
theorem out_h (c : Dev nD) (t : Fin cfg0.N) : (dats m 0 c).after 13 t = hs m c t :=
  (after0_13 m c t).trans (stored_h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- and the block of the logits. -/
theorem out_l (c : Dev nD) (t : Fin cfg0.N) : (dats m 0 c).after 14 t
    = k0_pay1 (k0_pay5 (xs m c t) (sq m c t) (iblk m c 6 t) (iblk m c 8 t) (iblk m c 7 t) (iblk m c 9 t) (iblk m c 9 t) (iblk m c 10 t)) (iblk m c 11 t) :=
  (after0_14 m c t).trans (stored_l (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- The logits, read, where the router's norm's weights, shifts, scales and the router's weights are numbers. -/
theorem ls_apply (c : Dev nD) (hg : ∀ i, Num (argGp m c i)) (hh : ∀ i, Num (argSh m c i)) (hc : ∀ i, Num (argSc m c i)) (hw : ∀ i, Num (argRw m c i))
    (t : Fin cfg0.N) (a : Fin 256) (l : Fin 128) :
    k0_pay1 (k0_pay5 (xs m c t) (sq m c t) (iblk m c 6 t) (iblk m c 8 t) (iblk m c 7 t) (iblk m c 9 t) (iblk m c 9 t) (iblk m c 10 t)) (iblk m c 11 t) (ix2 a l)
      = outL (argX m c) (rows m c) (argG m c) (argGate m c) (argGp m c) (argSh m c) (argSc m c) (argRw m c) (argRb m c) (tok t a) l := by
  rw [pay_l, blk_rb]
  refine congrArg (fun p : EReal => p + padded (fun l => argRb m c (ix1 l)) l) ?_
  have hk : ∀ k, k0_pay4 (xs m c t) (sq m c t) (iblk m c 6 t) (iblk m c 8 t) (iblk m c 7 t) (ix2 a k) = _ := fun k => hs_apply m c t a k
  simp only [hk, blk_hi, blk_lo]
  exact parts _ _ (fun k => outH_num _ _ _ _ _ _ _ hg hh hc _ k) (fun k => padded_num _ (fun l => hw _) l)

/-! ## The whole results -/

/-- Where point `t`'s blocks lie in the results. -/
theorem emb_x (t : Fin cfg0.N) (y : S256x2048.Idx) : ((win0_12.blk t).view.emb y : S16384x2048.Idx) = ix2 (tok t (y 0)) (y 1) := by
  refine funext fun b => Fin.ext ?_
  match b with
  | ⟨0, _⟩ => show win0_12.index t 0 * 256 + 1 * (y 0).val = 256 * t.val + (y 0).val
              rw [(idx_rows t).2.2.2.1]; show t.val * 256 + 1 * (y 0).val = _; omega
  | ⟨1, _⟩ => show win0_12.index t 1 * 2048 + 1 * (y 1).val = (y 1).val
              rw [(idx_rows t).2.2.2.1]; show 0 * 2048 + 1 * (y 1).val = _; omega
theorem emb_h (t : Fin cfg0.N) (y : S256x2048.Idx) : ((win0_13.blk t).view.emb y : S16384x2048.Idx) = ix2 (tok t (y 0)) (y 1) := by
  refine funext fun b => Fin.ext ?_
  match b with
  | ⟨0, _⟩ => show win0_13.index t 0 * 256 + 1 * (y 0).val = 256 * t.val + (y 0).val
              rw [(idx_rows t).2.2.2.2.1]; show t.val * 256 + 1 * (y 0).val = _; omega
  | ⟨1, _⟩ => show win0_13.index t 1 * 2048 + 1 * (y 1).val = (y 1).val
              rw [(idx_rows t).2.2.2.2.1]; show 0 * 2048 + 1 * (y 1).val = _; omega
theorem emb_l (t : Fin cfg0.N) (y : S256x128.Idx) : ((win0_14.blk t).view.emb y : S16384x128.Idx) = ix2 (tok t (y 0)) (y 1) := by
  refine funext fun b => Fin.ext ?_
  match b with
  | ⟨0, _⟩ => show win0_14.index t 0 * 256 + 1 * (y 0).val = 256 * t.val + (y 0).val
              rw [(idx_rows t).2.2.2.2.2]; show t.val * 256 + 1 * (y 0).val = _; omega
  | ⟨1, _⟩ => show win0_14.index t 1 * 128 + 1 * (y 1).val = (y 1).val
              rw [(idx_rows t).2.2.2.2.2]; show 0 * 128 + 1 * (y 1).val = _; omega

/-- An index of a block by its coordinates. -/
theorem eta (y : S256x2048.Idx) : y = ix2 (n0 := 256) (n1 := 2048) (y 0) (y 1) := funext fun b => match b with | ⟨0, _⟩ => rfl | ⟨1, _⟩ => rfl
theorem eta_l (y : S256x128.Idx) : y = ix2 (n0 := 256) (n1 := 128) (y 0) (y 1) := funext fun b => match b with | ⟨0, _⟩ => rfl | ⟨1, _⟩ => rfl

/-- The three results of the arguments: the tokens' rows, -/
def resX (c : Dev nD) : S16384x2048.Idx → EReal := fun i => outX (argX m c) (rows m c) (argG m c) (argGate m c) (i 0) (i 1)
/-- what the router reads of them, -/
def resH (c : Dev nD) : S16384x2048.Idx → EReal := fun i =>
  outH (argX m c) (rows m c) (argG m c) (argGate m c) (argGp m c) (argSh m c) (argSc m c) (i 0) (i 1)
/-- and its logits. -/
def resL (c : Dev nD) : S16384x128.Idx → EReal := fun i =>
  outL (argX m c) (rows m c) (argG m c) (argGate m c) (argGp m c) (argSh m c) (argSc m c) (argRw m c) (argRb m c) (i 0) (i 1)

/-- The tokens' rows after the run. -/
theorem arr_x (c : Dev nD) : (dats m 0 c).arrAt 12 cfg0.N = resX m c := by
  refine (dats m 0 c).arrAt_eq_of_covers 12 _ (by decide +kernel) fun t hf y => ?_
  rw [out_x]
  exact (congrArg (xs m c t) (eta y)).trans ((xs_apply m c t (y 0) (y 1)).trans (congrArg (resX m c) (emb_x t y)).symm)

/-- What the router reads, after the run. -/
theorem arr_h (c : Dev nD) : (dats m 0 c).arrAt 13 cfg0.N = resH m c := by
  refine (dats m 0 c).arrAt_eq_of_covers 13 _ (by decide +kernel) fun t hf y => ?_
  rw [out_h]
  exact (congrArg (hs m c t) (eta y)).trans ((hs_apply m c t (y 0) (y 1)).trans (congrArg (resH m c) (emb_h t y)).symm)

/-- The logits after the run. -/
theorem arr_l (c : Dev nD) (hg : ∀ i, Num (argGp m c i)) (hh : ∀ i, Num (argSh m c i)) (hc : ∀ i, Num (argSc m c i)) (hw : ∀ i, Num (argRw m c i)) :
    (dats m 0 c).arrAt 14 cfg0.N = resL m c := by
  refine (dats m 0 c).arrAt_eq_of_covers 14 _ (by decide +kernel) fun t hf y => ?_
  rw [out_l]
  exact (congrArg _ (eta_l y)).trans ((ls_apply m c hg hh hc hw t (y 0) (y 1)).trans (congrArg (resL m c) (emb_l t y)).symm)

/-- THE KERNEL'S RUN: the three results, the arguments unchanged. -/
theorem run (hg : ∀ c i, Num (argGp m c i)) (hh : ∀ c i, Num (argSh m c i)) (hc : ∀ c i, Num (argSc m c i)) (hw : ∀ c i, Num (argRw m c i)) :
    θ_run defs (onTc (τ := τ) (main (F := Ideal))) ⟨m, fun _ => 0, ρ⟩ fun r => ∀ c : Dev nD,
      (r.2.mem ((c : Thread nD τ).loc main_v18_0) = resX m c
      ∧ r.2.mem ((c : Thread nD τ).loc main_v18_1) = resH m c
      ∧ r.2.mem ((c : Thread nD τ).loc main_v18_2) = resL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨⟨(h c).1.trans (arr_x m c), (h c).2.1.trans (arr_h m c),
      (h c).2.2.1.trans (arr_l m c (hg c) (hh c) (hc c) (hw c))⟩, (h c).2.2.2⟩)
    (Cert.PoolOutIdeal.Value.run_blocks m ρ)

end Cert.PoolOutIdeal.Out

end
-- ==== Proof.PoolOutRef.lean ====
/-
  What the reference of the output of the pooling mixer computes, element by element: the product of the mixer's rows and the
  weights, normalised and added, gated, to the tokens' rows; these normalised and modulated; their product with the router's
  weights plus its bias, with zeros in the lanes beyond the experts.
-/
module

public import proofs.«01_k».proof.Proof.PoolOutValue
public import proofs.«01_k».proof.Proof.AbInRef
public import proofs.«01_k».proof.Proof.Gen.PoolOutRefIdeal.Run
public import proofs.«01_k».proof.Proof.Gen.PoolOutRefIdeal.Read
public import Idealize.ShloMosaic.Lib.KernelVsHost
public import Idealize.ShloMosaic.Lib.Pipeline.Value

@[expose] public section

set_option maxRecDepth 16384

noncomputable section

namespace Cert.PoolOutRef

open Idealize.ShloMosaic hiding ix1 ix2 ix3
open Idealize.ShloMosaic.TcCoe Idealize.SL.Sem Idealize.ShloMosaic.ValueIdx
open Cert.PoolOutRefIdeal Cert.PoolOutRefIdeal.Gen Cert.PoolOutRefIdeal.Read Cert.NormRow Cert.OutRow
open Cert.PoolOutIdeal.Out (prodRow)

variable (a : S16384x2048.Idx → EReal) (w : S2048x2048.Idx → EReal) (x : S16384x2048.Idx → EReal) (g : S2048.Idx → EReal)
  (gate : S8x2048.Idx → EReal) (gp : S2048.Idx → EReal) (sh sc : S8x2048.Idx → EReal) (rw : S2048x32.Idx → EReal) (rb : S32.Idx → EReal)

/-! ## The product -/

/-- An entry of the product. -/
theorem prod_at (r : Fin 16384) (f : Fin 2048) : val_main_v0 (F := Ideal) a w (ix2 r f) = prodRow a w r f := by
  rw [val_main_v0_apply]
  refine Eq.trans (b := ∑ k : Fin 2048, a (ix2 r k) * w (ix2 k f)) ?_ (halves_eq (fun k => a (ix2 r k)) (fun k => w (ix2 k f))).symm
  refine Finset.sum_congr rfl fun k _ => ?_
  have e1 : lidx_main_v0 (ix2 r f) k = ix2 r k := funext fun d => match d with | ⟨0, _⟩ => rfl | ⟨1, _⟩ => rfl
  have e2 : ridx_main_v0 (ix2 r f) k = ix2 k f := funext fun d => match d with | ⟨0, _⟩ => rfl | ⟨1, _⟩ => rfl
  rw [e1, e2]

/-- The sum of the squares of one of its rows. -/
theorem prod_squares (r : Fin 16384) : val_main_v10 (F := Ideal) a w (ix1 r) = ∑ j : Fin 2048, prodRow a w r j * prodRow a w r j := by
  rw [val_main_v10_apply]
  show Ideal.ofBits .f32 0x00000000#32 + _ = _
  rw [Ideal.ofBits_zero_f32, zero_add]
  refine Finset.sum_congr rfl fun j _ => ?_
  have e : idx_main_v10 (ix1 r) j = ix2 r j := funext fun d => match d with | ⟨0, _⟩ => rfl | ⟨1, _⟩ => rfl
  rw [e]
  exact congrArg₂ (fun p q : EReal => p * q) (prod_at a w r j) (prod_at a w r j)

/-- A row of it over its root mean square. -/
theorem prod_normed (r : Fin 16384) (k : Fin 2048) : val_main_v18 (F := Ideal) a w (ix2 r k) = normed (prodRow a w r) k := by
  rw [val_main_v18_apply, val_main_v17_apply, val_main_v16_apply, val_main_v15_apply, val_main_v13_apply, val_main_v11_apply,
    val_main_v12_apply, val_main_v14_apply, prod_at]
  have e : idx_main_v11 (idx_main_v17 (ix2 r k)) = ix1 r := funext fun d => match d with | ⟨0, _⟩ => rfl
  rw [e, prod_squares]
  rfl

/-! ## Each token's gate, shift and scale -/

/-- The gate of a prompt's token, -/
theorem gate_ctx (r : Fin 8192) (k : Fin 2048) : val_main_v3 (F := Ideal) gate (ix2 r k) = gate (ix2 (0 : Fin 8) k) := by
  rw [val_main_v3_apply, val_main_v2_apply, val_main_v1_apply]
  refine congrArg gate (funext fun d => Fin.ext ?_)
  match d with
  | ⟨0, _⟩ => rfl
  | ⟨1, _⟩ => show k.val % 2048 = k.val; omega

/-- and of a latent sequence's. -/
theorem gate_lat (r : Fin 8192) (k : Fin 2048) :
    val_main_v7 (F := Ideal) gate (ix2 r k) = gate (ix2 (⟨1 + r.val / 2048, by omega⟩ : Fin 8) k) := by
  rw [val_main_v7_apply, val_main_v6_apply, val_main_v5_apply, val_main_v4_apply]
  refine congrArg gate (funext fun d => Fin.ext ?_)
  match d with
  | ⟨0, _⟩ => show 1 + (r.val * 2048 + k.val) / 4194304 = 1 + r.val / 2048; omega
  | ⟨1, _⟩ => show (r.val * 2048 + k.val) % 2048 = k.val; omega

/-- The gate of any token. -/
theorem gate_at (r : Fin 16384) (k : Fin 2048) : val_main_v8 (F := Ideal) gate (ix2 r k) = gate (ix2 (tokenRow r) k) :=
  Cert.AbInRef.stacked gate _ _ (gate_ctx gate) (gate_lat gate) r k

/-- The shift of a prompt's token, -/
theorem shift_ctx (r : Fin 8192) (k : Fin 2048) : val_main_v26 (F := Ideal) sh (ix2 r k) = sh (ix2 (0 : Fin 8) k) := by
  rw [val_main_v26_apply, val_main_v25_apply, val_main_v24_apply]
  refine congrArg sh (funext fun d => Fin.ext ?_)
  match d with
  | ⟨0, _⟩ => rfl
  | ⟨1, _⟩ => show k.val % 2048 = k.val; omega

/-- and of a latent sequence's. -/
theorem shift_lat (r : Fin 8192) (k : Fin 2048) :
    val_main_v30 (F := Ideal) sh (ix2 r k) = sh (ix2 (⟨1 + r.val / 2048, by omega⟩ : Fin 8) k) := by
  rw [val_main_v30_apply, val_main_v29_apply, val_main_v28_apply, val_main_v27_apply]
  refine congrArg sh (funext fun d => Fin.ext ?_)
  match d with
  | ⟨0, _⟩ => show 1 + (r.val * 2048 + k.val) / 4194304 = 1 + r.val / 2048; omega
  | ⟨1, _⟩ => show (r.val * 2048 + k.val) % 2048 = k.val; omega

/-- The shift of any token. -/
theorem shift_at (r : Fin 16384) (k : Fin 2048) : val_main_v31 (F := Ideal) sh (ix2 r k) = sh (ix2 (tokenRow r) k) :=
  Cert.AbInRef.stacked sh _ _ (shift_ctx sh) (shift_lat sh) r k

/-- The scale of a prompt's token, -/
theorem scale_ctx (r : Fin 8192) (k : Fin 2048) : val_main_v34 (F := Ideal) sc (ix2 r k) = sc (ix2 (0 : Fin 8) k) := by
  rw [val_main_v34_apply, val_main_v33_apply, val_main_v32_apply]
  refine congrArg sc (funext fun d => Fin.ext ?_)
  match d with
  | ⟨0, _⟩ => rfl
  | ⟨1, _⟩ => show k.val % 2048 = k.val; omega

/-- and of a latent sequence's. -/
theorem scale_lat (r : Fin 8192) (k : Fin 2048) :
    val_main_v38 (F := Ideal) sc (ix2 r k) = sc (ix2 (⟨1 + r.val / 2048, by omega⟩ : Fin 8) k) := by
  rw [val_main_v38_apply, val_main_v37_apply, val_main_v36_apply, val_main_v35_apply]
  refine congrArg sc (funext fun d => Fin.ext ?_)
  match d with
  | ⟨0, _⟩ => show 1 + (r.val * 2048 + k.val) / 4194304 = 1 + r.val / 2048; omega
  | ⟨1, _⟩ => show (r.val * 2048 + k.val) % 2048 = k.val; omega

/-- The scale of any token. -/
theorem scale_at (r : Fin 16384) (k : Fin 2048) : val_main_v39 (F := Ideal) sc (ix2 r k) = sc (ix2 (tokenRow r) k) :=
  Cert.AbInRef.stacked sc _ _ (scale_ctx sc) (scale_lat sc) r k

/-! ## The tokens' rows -/

/-- The norm's weights. -/
theorem weight_at (r : Fin 16384) (k : Fin 2048) : val_main_v20 (F := Ideal) g (ix2 r k) = g (ix1 k) := by
  rw [val_main_v20_apply, val_main_v19_apply]
  exact congrArg g (funext fun d => match d with | ⟨0, _⟩ => rfl)

/-- The router's norm's weights. -/
theorem router_weight_at (r : Fin 16384) (k : Fin 2048) : val_main_v51 (F := Ideal) gp (ix2 r k) = gp (ix1 k) := by
  rw [val_main_v51_apply, val_main_v50_apply]
  exact congrArg gp (funext fun d => match d with | ⟨0, _⟩ => rfl)

/-- A token's row after the mixer. -/
theorem x_at (r : Fin 16384) (k : Fin 2048) :
    val_main_v23 (F := Ideal) a w x g gate (ix2 r k) = outX x (prodRow a w) g gate r k := by
  rw [val_main_v23_apply, val_main_v22_apply, val_main_v21_apply, gate_at, prod_normed, weight_at]
  rfl

/-- The sum of its squares. -/
theorem x_squares (r : Fin 16384) : val_main_v41 (F := Ideal) a w x g gate (ix1 r)
    = ∑ j : Fin 2048, outX x (prodRow a w) g gate r j * outX x (prodRow a w) g gate r j := by
  rw [val_main_v41_apply]
  show Ideal.ofBits .f32 0x00000000#32 + _ = _
  rw [Ideal.ofBits_zero_f32, zero_add]
  refine Finset.sum_congr rfl fun j _ => ?_
  have e : idx_main_v41 (ix1 r) j = ix2 r j := funext fun d => match d with | ⟨0, _⟩ => rfl | ⟨1, _⟩ => rfl
  rw [e]
  exact congrArg₂ (fun p q : EReal => p * q) (x_at a w x g gate r j) (x_at a w x g gate r j)

/-- The row over its root mean square. -/
theorem x_normed (r : Fin 16384) (k : Fin 2048) :
    val_main_v49 (F := Ideal) a w x g gate (ix2 r k) = normed (outX x (prodRow a w) g gate r) k := by
  rw [val_main_v49_apply, val_main_v48_apply, val_main_v47_apply, val_main_v46_apply, val_main_v44_apply, val_main_v42_apply,
    val_main_v43_apply, val_main_v45_apply, x_at]
  have e : idx_main_v42 (idx_main_v48 (ix2 r k)) = ix1 r := funext fun d => match d with | ⟨0, _⟩ => rfl
  rw [e, x_squares]
  rfl

/-- What the router reads of it. -/
theorem h_at (r : Fin 16384) (k : Fin 2048) :
    val_main_v56 (F := Ideal) a w x g gate gp sh sc (ix2 r k) = outH x (prodRow a w) g gate gp sh sc r k := by
  rw [val_main_v56_apply, val_main_v55_apply, val_main_v52_apply, val_main_v54_apply, val_main_v53_apply, x_normed, router_weight_at, shift_at, scale_at]
  rfl

/-! ## The logits -/

/-- The logit of an expert. -/
theorem expert_at (r : Fin 16384) (e : Fin 32) : val_main_v60 (F := Ideal) a w x g gate gp sh sc rw rb (ix2 r e)
    = (∑ k : Fin 2048, outH x (prodRow a w) g gate gp sh sc r k * rw (ix2 k e)) + rb (ix1 e) := by
  rw [val_main_v60_apply, val_main_v59_apply, val_main_v58_apply, val_main_v57_apply]
  refine congrArg₂ (fun p q : EReal => p + q) (Finset.sum_congr rfl fun k _ => ?_) (congrArg rb (funext fun d => match d with | ⟨0, _⟩ => rfl))
  have e1 : lidx_main_v57 (ix2 r e) k = ix2 r k := funext fun d => match d with | ⟨0, _⟩ => rfl | ⟨1, _⟩ => rfl
  have e2 : ridx_main_v57 (ix2 r e) k = ix2 k e := funext fun d => match d with | ⟨0, _⟩ => rfl | ⟨1, _⟩ => rfl
  rw [e1, e2, h_at]

/-- The logit of a lane: an expert's, or zero. -/
theorem l_at (r : Fin 16384) (l : Fin 128) : val_main_v62 (F := Ideal) a w x g gate gp sh sc rw rb (ix2 r l)
    = outL x (prodRow a w) g gate gp sh sc rw rb r l := by
  by_cases h : l.val < 32
  · refine (concatenate_pair_apply_left (1 : Fin S16384x128.rank) _ _ concatenates_S16384x32_S16384x96_S16384x128_d1 (ix2 r l) rfl
      (ix2 r (⟨l.val, h⟩ : Fin 32)) (fun d => match d with | ⟨0, _⟩ => rfl | ⟨1, _⟩ => rfl)).trans ((expert_at a w x g gate gp sh sc rw rb r ⟨l.val, h⟩).trans ?_)
    unfold outL padded
    simp only [dif_pos h]
  · refine (concatenate_pair_apply_right (1 : Fin S16384x128.rank) _ _ concatenates_S16384x32_S16384x96_S16384x128_d1 (ix2 r l) rfl rfl
      (ix2 r (⟨l.val - 32, by omega⟩ : Fin 96)) (fun d hd => match d, hd with | ⟨0, _⟩, _ => rfl | ⟨1, _⟩, hd => absurd rfl hd) ?_).trans ?_
    · show l.val - 32 + 32 = l.val; omega
    · unfold outL padded
      simp only [dif_neg h, mul_zero, Finset.sum_const_zero, add_zero]
      exact Ideal.ofBits_zero_f32

/-! ## The three results -/

/-- The tokens' rows, -/
theorem result_x : val_main_v23 (F := Ideal) a w x g gate = fun i => outX x (prodRow a w) g gate (i 0) (i 1) := by
  funext i
  have e : i = ix2 (n0 := 16384) (n1 := 2048) (i 0) (i 1) := funext fun d => match d with | ⟨0, _⟩ => rfl | ⟨1, _⟩ => rfl
  exact (congrArg (val_main_v23 (F := Ideal) a w x g gate) e).trans (x_at a w x g gate (i 0) (i 1))

/-- what the router reads of them, -/
theorem result_h : val_main_v56 (F := Ideal) a w x g gate gp sh sc = fun i => outH x (prodRow a w) g gate gp sh sc (i 0) (i 1) := by
  funext i
  have e : i = ix2 (n0 := 16384) (n1 := 2048) (i 0) (i 1) := funext fun d => match d with | ⟨0, _⟩ => rfl | ⟨1, _⟩ => rfl
  exact (congrArg (val_main_v56 (F := Ideal) a w x g gate gp sh sc) e).trans (h_at a w x g gate gp sh sc (i 0) (i 1))

/-- and its logits. -/
theorem result_l : val_main_v62 (F := Ideal) a w x g gate gp sh sc rw rb
    = fun i => outL x (prodRow a w) g gate gp sh sc rw rb (i 0) (i 1) := by
  funext i
  have e : i = ix2 (n0 := 16384) (n1 := 128) (i 0) (i 1) := funext fun d => match d with | ⟨0, _⟩ => rfl | ⟨1, _⟩ => rfl
  exact (congrArg (val_main_v62 (F := Ideal) a w x g gate gp sh sc rw rb) e).trans (l_at a w x g gate gp sh sc rw rb (i 0) (i 1))

end Cert.PoolOutRef

end
-- ==== Proof.Finite.lean ====
/-
  What the precondition of a mixer's output says of the arguments: the router's norm weights, shifts, scales and weights are
  numbers, not infinities.
-/
module

public import proofs.«01_k».proof.Pre_ab_finite
public import proofs.«01_k».proof.Pre_pool_finite
public import proofs.«01_k».proof.Proof.Gen.Pre_ab_finite
public import proofs.«01_k».proof.Proof.Gen.Pre_pool_finite
public import proofs.«01_k».proof.Proof.OutRow
public import Idealize.ShloMosaic.Lib.ReduceAll

@[expose] public section

noncomputable section

namespace Cert.Finite

open Idealize.ShloMosaic Cert.OutRow

/-- A conjunction of bits is one only if both are. -/
theorem both (a b : BitVec 1) (h : IntOp.andi a b = 1#1) : a = 1#1 ∧ b = 1#1 := by
  revert a b; decide

section ab
open Cert.Pre_ab_finite
/-- The precondition of the attention mixers' output, decoded. -/
theorem ab (a0 a1 : FVec Ideal S16384x1024 .f32) (a2 : FVec Ideal S2048x2048 .f32) (a3 : FVec Ideal S16384x2048 .f32)
    (a4 : FVec Ideal S2048 .f32) (a5 : FVec Ideal S8x2048 .f32) (a6 : FVec Ideal S2048 .f32) (a7 a8 : FVec Ideal S8x2048 .f32)
    (a9 : FVec Ideal S2048x32 .f32) (a10 : FVec Ideal S32 .f32)
    (h : Cert.Pre_ab_finite.fn a0 a1 a2 a3 a4 a5 a6 a7 a8 a9 a10 = fun _ => 1#1) :
    (∀ i, Num (a6 i)) ∧ (∀ i, Num (a7 i)) ∧ (∀ i, Num (a8 i)) ∧ ∀ i, Num (a9 i) := by
  have sub : Subsingleton S_.Idx := ⟨fun p q => funext fun b => b.elim0⟩
  obtain ⟨h3, h9⟩ := both _ _ (congrFun h fun b => b.elim0)
  obtain ⟨h2, h8⟩ := both _ _ h3
  obtain ⟨h1, h7⟩ := both _ _ h2
  obtain ⟨_, h6⟩ := both _ _ h1
  exact ⟨fun i => num_of_bit _ (Host.reduce_andi_all _ _ _ _ _ h6 i), fun i => num_of_bit _ (Host.reduce_andi_all _ _ _ _ _ h7 i),
    fun i => num_of_bit _ (Host.reduce_andi_all _ _ _ _ _ h8 i), fun i => num_of_bit _ (Host.reduce_andi_all _ _ _ _ _ h9 i)⟩
end ab

section pool
open Cert.Pre_pool_finite
/-- The precondition of the pooling mixer's output, decoded. -/
theorem pool (a0 : FVec Ideal S16384x2048 .f32) (a1 : FVec Ideal S2048x2048 .f32) (a2 : FVec Ideal S16384x2048 .f32)
    (a3 : FVec Ideal S2048 .f32) (a4 : FVec Ideal S8x2048 .f32) (a5 : FVec Ideal S2048 .f32) (a6 a7 : FVec Ideal S8x2048 .f32)
    (a8 : FVec Ideal S2048x32 .f32) (a9 : FVec Ideal S32 .f32)
    (h : Cert.Pre_pool_finite.fn a0 a1 a2 a3 a4 a5 a6 a7 a8 a9 = fun _ => 1#1) :
    (∀ i, Num (a5 i)) ∧ (∀ i, Num (a6 i)) ∧ (∀ i, Num (a7 i)) ∧ ∀ i, Num (a8 i) := by
  have sub : Subsingleton S_.Idx := ⟨fun p q => funext fun b => b.elim0⟩
  obtain ⟨h3, h9⟩ := both _ _ (congrFun h fun b => b.elim0)
  obtain ⟨h2, h8⟩ := both _ _ h3
  obtain ⟨h1, h7⟩ := both _ _ h2
  obtain ⟨_, h6⟩ := both _ _ h1
  exact ⟨fun i => num_of_bit _ (Host.reduce_andi_all _ _ _ _ _ h6 i), fun i => num_of_bit _ (Host.reduce_andi_all _ _ _ _ _ h7 i),
    fun i => num_of_bit _ (Host.reduce_andi_all _ _ _ _ _ h8 i), fun i => num_of_bit _ (Host.reduce_andi_all _ _ _ _ _ h9 i)⟩
end pool

end Cert.Finite

end
-- ==== Proof.lean ====
module

public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownRefIdeal
public import proofs.«01_k».proof.Proof.Gen.DownRefIdeal.Run
public import proofs.«01_k».proof.Proof.Gen.DownRefIdeal.Read
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpRefIdeal
public import proofs.«01_k».proof.Proof.Gen.UpRefIdeal.Run
public import proofs.«01_k».proof.Proof.Gen.UpRefIdeal.Read
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInRefIdeal
public import proofs.«01_k».proof.Proof.Gen.AbInRefIdeal.Run
public import proofs.«01_k».proof.Proof.Gen.AbInRefIdeal.Read
public import proofs.«01_k».proof.Proof.Gen.PoolIn
public import proofs.«01_k».proof.Proof.Gen.PoolIn.Skeleton
public import proofs.«01_k».proof.Proof.Gen.PoolIn.Launch
public import proofs.«01_k».proof.Proof.Gen.PoolIn.Points
public import proofs.«01_k».proof.Proof.Gen.PoolIn.Frame
public import proofs.«01_k».proof.Proof.Gen.PoolInIdeal
public import proofs.«01_k».proof.Proof.Gen.PoolInIdeal.Skeleton
public import proofs.«01_k».proof.Proof.Gen.PoolInIdeal.Launch
public import proofs.«01_k».proof.Proof.Gen.PoolInIdeal.Points
public import proofs.«01_k».proof.Proof.Gen.PoolInIdeal.Frame
public import proofs.«01_k».proof.Proof.Gen.PoolInRefIdeal
public import proofs.«01_k».proof.Proof.Gen.PoolInRefIdeal.Run
public import proofs.«01_k».proof.Proof.Gen.PoolInRefIdeal.Read
public import proofs.«01_k».proof.Proof.Gen.AbOut
public import proofs.«01_k».proof.Proof.Gen.AbOut.Skeleton
public import proofs.«01_k».proof.Proof.Gen.AbOut.Launch
public import proofs.«01_k».proof.Proof.Gen.AbOut.Points
public import proofs.«01_k».proof.Proof.Gen.AbOut.Frame
public import proofs.«01_k».proof.Proof.Gen.AbOutIdeal
public import proofs.«01_k».proof.Proof.Gen.AbOutIdeal.Skeleton
public import proofs.«01_k».proof.Proof.Gen.AbOutIdeal.Launch
public import proofs.«01_k».proof.Proof.Gen.AbOutIdeal.Points
public import proofs.«01_k».proof.Proof.Gen.AbOutIdeal.Frame
public import proofs.«01_k».proof.Proof.Gen.PoolOut
public import proofs.«01_k».proof.Proof.Gen.PoolOut.Skeleton
public import proofs.«01_k».proof.Proof.Gen.PoolOut.Launch
public import proofs.«01_k».proof.Proof.Gen.PoolOut.Points
public import proofs.«01_k».proof.Proof.Gen.PoolOut.Frame
public import proofs.«01_k».proof.Proof.Gen.PoolOutIdeal
public import proofs.«01_k».proof.Proof.Gen.PoolOutIdeal.Skeleton
public import proofs.«01_k».proof.Proof.Gen.PoolOutIdeal.Launch
public import proofs.«01_k».proof.Proof.Gen.PoolOutIdeal.Points
public import proofs.«01_k».proof.Proof.Gen.PoolOutIdeal.Frame
public import proofs.«01_k».proof.Proof.Gen.Pre_ab_finite
public import proofs.«01_k».proof.Proof.Gen.Pre_pool_finite
public import proofs.«01_k».proof.Proof.Gen.Pre_down_range
public import proofs.«01_k».proof.Proof.Gen.Pre_up_range
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.CtxRef
public import proofs.«01_k».proof.Proof.DownOk
public import proofs.«01_k».proof.Proof.DownRef
public import proofs.«01_k».proof.Proof.UpOk
public import proofs.«01_k».proof.Proof.UpRef
public import proofs.«01_k».proof.Proof.AbInRef
public import proofs.«01_k».proof.Proof.PoolInRef
public import proofs.«01_k».proof.Proof.AbOutRef
public import proofs.«01_k».proof.Proof.PoolOutRef
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its argument as it was and every counter at zero. -/
theorem quiet_ref : Cert.quiescent_ReferenceIdeal := fun m ρ _ =>
  (θ_run Cert.ReferenceIdeal.defs _ _).mono (fun r h => ⟨fun c => (h c).2, sem_eq_zero_of_no_sems (by decide) r.2⟩)
    (Cert.CtxRef.run m ρ)

/-- Context attention: from equal arguments the kernel and the reference return the same attention, keys and values. -/
theorem ctx_equal : Cert.algebraic_KernelIdeal_ReferenceIdeal := fun m ρ m' ρ' _ hag =>
  ⟨fun c => Cert.CtxArray.outAttn (Cert.CtxArray.proj m c), fun c => Cert.CtxArray.outCopy (Cert.CtxArray.proj m c) 4 (by omega),
    fun c => Cert.CtxArray.outCopy (Cert.CtxArray.proj m c) 5 (by omega),
    (θ_run Cert.KernelIdeal.defs _ _).mono (fun _ h c => ⟨(h c).1.1, (h c).1.2.1, (h c).1.2.2, (h c).2⟩) (Cert.CtxArray.run m ρ),
    (θ_run Cert.ReferenceIdeal.defs _ _).mono (fun _ h c =>
      ⟨(h c).1.1.trans (congrArg Cert.CtxArray.outAttn (hag c)),
        (h c).1.2.1.trans (congrArg (fun p => Cert.CtxArray.outCopy p 4 (by omega)) (hag c)),
        (h c).1.2.2.trans (congrArg (fun p => Cert.CtxArray.outCopy p 5 (by omega)) (hag c)), (h c).2⟩) (Cert.CtxRef.run m' ρ')⟩

/-- The down projection of the experts terminates, leaves its arguments as they were and every counter at zero. -/
theorem quiet_down : Cert.quiescent_Down := fun m ρ h =>
  Cert.Down.Tiles.frame m ρ (Cert.Down.Tiles.ok_of_range (Cert.Down.Tiles.range_of_pre m h))

/-- Likewise in exact arithmetic. -/
theorem quiet_down_ideal : Cert.quiescent_DownIdeal := fun m ρ h =>
  Cert.DownIdeal.Tiles.frame m ρ (Cert.DownIdeal.Tiles.ok_of_range (Cert.DownIdeal.Tiles.range_of_pre m h))

/-- Likewise its reference. -/
theorem quiet_down_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

/-- From equal arguments the down projection and its reference return equal arrays. -/
theorem down_equal : Cert.algebraic_DownIdeal_DownRefIdeal := fun m ρ m' ρ' hpre hag => by
  have h := Cert.DownIdeal.Tiles.range_of_pre m hpre
  have he : ∀ i, (Cert.DownIdeal.Tiles.argE m 0 i).toNat < 32 := fun i => by
    have := h.expert i
    rwa [Cert.DownIdeal.Tiles.table_expert] at this
  refine ⟨fun c => Cert.DownIdeal.Tiles.outAt (Cert.DownIdeal.Tiles.argE m 0) (Cert.DownIdeal.Tiles.argN m 0) (Cert.DownIdeal.Tiles.argX m c)
    (Cert.DownIdeal.Tiles.argW m c) (Cert.DownIdeal.Tiles.argB m c), Cert.DownIdeal.Tiles.run_value ρ h,
    (θ_run Cert.DownRefIdeal.defs _ _).mono (fun _ hr c => ⟨(hr c).1.trans ((Cert.DownRefIdeal.Read.val_main_v26_eq _ _ _ _ _).trans ?_), (hr c).2⟩)
      (Cert.DownRefIdeal.Value.run m' ρ')⟩
  obtain ⟨a0, a1, a2, a3, a4⟩ := hag c
  rw [a0, a1, a2, a3, a4]
  obtain rfl : c = 0 := Subsingleton.elim _ _
  exact Cert.DownRef.result _ _ _ _ _ he

/-- The up projection of the experts terminates, leaves its arguments as they were and every counter at zero. -/
theorem quiet_up : Cert.quiescent_Up := fun m ρ h =>
  Cert.Up.Tiles.frame m ρ (Cert.Up.Tiles.ok_of_range (Cert.Up.Tiles.range_of_pre m h))

/-- Likewise in exact arithmetic. -/
theorem quiet_up_ideal : Cert.quiescent_UpIdeal := fun m ρ h =>
  Cert.UpIdeal.Tiles.frame m ρ (Cert.UpIdeal.Tiles.ok_of_range (Cert.UpIdeal.Tiles.range_of_pre m h))

/-- Likewise its reference. -/
theorem quiet_up_ref : Cert.quiescent_UpRefIdeal := fun m ρ _ =>
  (θ_run Cert.UpRefIdeal.defs _ _).mono (fun r h => ⟨fun c => (h c).2, sem_eq_zero_of_no_sems (by decide) r.2⟩)
    (Cert.UpRefIdeal.Value.run m ρ)

/-- From equal arguments the up projection and its reference return equal arrays. -/
theorem up_equal : Cert.algebraic_UpIdeal_UpRefIdeal := fun m ρ m' ρ' hpre hag => by
  have h := Cert.UpIdeal.Tiles.range_of_pre m hpre
  have he : ∀ i, (Cert.UpIdeal.Tiles.argE m 0 i).toNat < 32 := fun i => by
    have := h.expert i
    rwa [Cert.UpIdeal.Tiles.table_expert] at this
  refine ⟨fun c => Cert.UpIdeal.Tiles.outAt (Cert.UpIdeal.Tiles.argE m 0) (Cert.UpIdeal.Tiles.argN m 0) (Cert.UpIdeal.Tiles.argX m c)
    (Cert.UpIdeal.Tiles.argW m c) (Cert.UpIdeal.Tiles.argB m c), Cert.UpIdeal.Tiles.run_value ρ h,
    (θ_run Cert.UpRefIdeal.defs _ _).mono (fun _ hr c => ⟨(hr c).1.trans ((Cert.UpRefIdeal.Read.val_main_v43_eq m' c).trans ?_), (hr c).2⟩)
      (Cert.UpRefIdeal.Value.run m' ρ')⟩
  obtain ⟨a0, a1, a2, a3, a4⟩ := hag c
  rw [a0, a1, a2, a3, a4]
  obtain rfl : c = 0 := Subsingleton.elim _ _
  exact Cert.UpRef.result _ _ _ _ _ he

/-- The reference of the input projection of the attention mixers terminates, leaves its arguments as they were and every counter at zero. -/
theorem quiet_ab_in_ref : Cert.quiescent_AbInRefIdeal := fun m ρ _ =>
  (θ_run Cert.AbInRefIdeal.defs _ _).mono (fun r h => ⟨fun c => (h c).2, sem_eq_zero_of_no_sems (by decide) r.2⟩)
    (Cert.AbInRefIdeal.Value.run m ρ)

/-- From equal arguments the input projection of the attention mixers and its reference return equal arrays. -/
theorem ab_in_equal : Cert.algebraic_AbInIdeal_AbInRefIdeal := fun m ρ m' ρ' _ hag => by
  refine ⟨fun c => Cert.AbInIdeal.Proj.outAt (Cert.AbInIdeal.Proj.argX m c) (Cert.AbInIdeal.Proj.argG m c) (Cert.AbInIdeal.Proj.argSh m c)
    (Cert.AbInIdeal.Proj.argSc m c) (Cert.AbInIdeal.Proj.argW m c), Cert.AbInIdeal.Proj.run m ρ,
    (θ_run Cert.AbInRefIdeal.defs _ _).mono (fun _ hr c => ⟨(hr c).1.trans ((Cert.AbInRefIdeal.Read.val_main_v33_eq _ _ _ _ _).trans ?_), (hr c).2⟩)
      (Cert.AbInRefIdeal.Value.run m' ρ')⟩
  obtain ⟨a0, a1, a2, a3, a4⟩ := hag c
  rw [a0, a1, a2, a3, a4]
  exact Cert.AbInRef.result _ _ _ _ _

/-- The reference of the input projection of the pooling mixer terminates, leaves its arguments as they were and every counter at zero. -/
theorem quiet_pool_in_ref : Cert.quiescent_PoolInRefIdeal := fun m ρ _ =>
  (θ_run Cert.PoolInRefIdeal.defs _ _).mono (fun r h => ⟨fun c => (h c).2, sem_eq_zero_of_no_sems (by decide) r.2⟩)
    (Cert.PoolInRefIdeal.Value.run m ρ)

/-- From equal arguments the input projection of the pooling mixer and its reference return equal arrays. -/
theorem pool_in_equal : Cert.algebraic_PoolInIdeal_PoolInRefIdeal := fun m ρ m' ρ' _ hag => by
  refine ⟨fun c => Cert.PoolInIdeal.Proj.outAt (Cert.PoolInIdeal.Proj.argX m c) (Cert.PoolInIdeal.Proj.argG m c) (Cert.PoolInIdeal.Proj.argSh m c)
    (Cert.PoolInIdeal.Proj.argSc m c) (Cert.PoolInIdeal.Proj.argW m c), Cert.PoolInIdeal.Proj.run m ρ,
    (θ_run Cert.PoolInRefIdeal.defs _ _).mono (fun _ hr c => ⟨(hr c).1.trans ((Cert.PoolInRefIdeal.Read.val_main_v33_eq _ _ _ _ _).trans ?_), (hr c).2⟩)
      (Cert.PoolInRefIdeal.Value.run m' ρ')⟩
  obtain ⟨a0, a1, a2, a3, a4⟩ := hag c
  rw [a0, a1, a2, a3, a4]
  exact Cert.PoolInRef.result _ _ _ _ _

/-- The reference of the output of the attention mixers terminates, leaves its arguments as they were and every counter at zero. -/
theorem quiet_ab_out_ref : Cert.quiescent_AbOutRefIdeal := fun m ρ _ =>
  (θ_run Cert.AbOutRefIdeal.defs _ _).mono (fun r h => ⟨fun c => (h c).2.2.2, sem_eq_zero_of_no_sems (by decide) r.2⟩)
    (Cert.AbOutRefIdeal.Value.run m ρ)

/-- From equal arguments the output of the attention mixers and its reference return equal arrays, where the router's norm's weights, shifts
    and scales and the router's weights are finite. -/
theorem ab_out_equal : Cert.algebraic_AbOutIdeal_AbOutRefIdeal_pre_ab_finite := fun m ρ m' ρ' hpre hag => by
  have hn := fun c => Cert.Finite.ab _ _ _ _ _ _ _ _ _ _ _ (hpre c)
  refine ⟨fun c => Cert.AbOutIdeal.Out.resX m c, fun c => Cert.AbOutIdeal.Out.resH m c, fun c => Cert.AbOutIdeal.Out.resL m c,
    (θ_run Cert.AbOutIdeal.defs _ _).mono (fun _ h c => ⟨(h c).1.1, (h c).1.2.1, (h c).1.2.2, (h c).2⟩)
      (Cert.AbOutIdeal.Out.run m ρ (fun c => (hn c).1) (fun c => (hn c).2.1) (fun c => (hn c).2.2.1) (fun c => (hn c).2.2.2)),
    (θ_run Cert.AbOutRefIdeal.defs _ _).mono (fun _ hr c => ⟨(hr c).1.trans ((Cert.AbOutRefIdeal.Read.val_main_v24_eq _ _ _ _ _ _).trans ?_),
      (hr c).2.1.trans ((Cert.AbOutRefIdeal.Read.val_main_v57_eq m' c).trans ?_),
      (hr c).2.2.1.trans ((Cert.AbOutRefIdeal.Read.val_main_v63_eq m' c).trans ?_), (hr c).2.2.2⟩) (Cert.AbOutRefIdeal.Value.run m' ρ')⟩
  · obtain ⟨a0, a1, a2, a3, a4, a5, a6, a7, a8, a9, a10⟩ := hag c
    rw [a0, a1, a2, a3, a4, a5]
    exact Cert.AbOutRef.result_x _ _ _ _ _ _
  · obtain ⟨a0, a1, a2, a3, a4, a5, a6, a7, a8, a9, a10⟩ := hag c
    rw [a0, a1, a2, a3, a4, a5, a6, a7, a8]
    exact Cert.AbOutRef.result_h _ _ _ _ _ _ _ _ _
  · obtain ⟨a0, a1, a2, a3, a4, a5, a6, a7, a8, a9, a10⟩ := hag c
    rw [a0, a1, a2, a3, a4, a5, a6, a7, a8, a9, a10]
    exact Cert.AbOutRef.result_l _ _ _ _ _ _ _ _ _ _ _

/-- The reference of the output of the pooling mixer terminates, leaves its arguments as they were and every counter at zero. -/
theorem quiet_pool_out_ref : Cert.quiescent_PoolOutRefIdeal := fun m ρ _ =>
  (θ_run Cert.PoolOutRefIdeal.defs _ _).mono (fun r h => ⟨fun c => (h c).2.2.2, sem_eq_zero_of_no_sems (by decide) r.2⟩)
    (Cert.PoolOutRefIdeal.Value.run m ρ)

/-- From equal arguments the output of the pooling mixer and its reference return equal arrays, where the router's norm's weights, shifts
    and scales and the router's weights are finite. -/
theorem pool_out_equal : Cert.algebraic_PoolOutIdeal_PoolOutRefIdeal_pre_pool_finite := fun m ρ m' ρ' hpre hag => by
  have hn := fun c => Cert.Finite.pool _ _ _ _ _ _ _ _ _ _ (hpre c)
  refine ⟨fun c => Cert.PoolOutIdeal.Out.resX m c, fun c => Cert.PoolOutIdeal.Out.resH m c, fun c => Cert.PoolOutIdeal.Out.resL m c,
    (θ_run Cert.PoolOutIdeal.defs _ _).mono (fun _ h c => ⟨(h c).1.1, (h c).1.2.1, (h c).1.2.2, (h c).2⟩)
      (Cert.PoolOutIdeal.Out.run m ρ (fun c => (hn c).1) (fun c => (hn c).2.1) (fun c => (hn c).2.2.1) (fun c => (hn c).2.2.2)),
    (θ_run Cert.PoolOutRefIdeal.defs _ _).mono (fun _ hr c => ⟨(hr c).1.trans ((Cert.PoolOutRefIdeal.Read.val_main_v23_eq _ _ _ _ _).trans ?_),
      (hr c).2.1.trans ((Cert.PoolOutRefIdeal.Read.val_main_v56_eq m' c).trans ?_),
      (hr c).2.2.1.trans ((Cert.PoolOutRefIdeal.Read.val_main_v62_eq m' c).trans ?_), (hr c).2.2.2⟩) (Cert.PoolOutRefIdeal.Value.run m' ρ')⟩
  · obtain ⟨a0, a1, a2, a3, a4, a5, a6, a7, a8, a9⟩ := hag c
    rw [a0, a1, a2, a3, a4]
    exact Cert.PoolOutRef.result_x _ _ _ _ _
  · obtain ⟨a0, a1, a2, a3, a4, a5, a6, a7, a8, a9⟩ := hag c
    rw [a0, a1, a2, a3, a4, a5, a6, a7]
    exact Cert.PoolOutRef.result_h _ _ _ _ _ _ _ _
  · obtain ⟨a0, a1, a2, a3, a4, a5, a6, a7, a8, a9⟩ := hag c
    rw [a0, a1, a2, a3, a4, a5, a6, a7, a8, a9]
    exact Cert.PoolOutRef.result_l _ _ _ _ _ _ _ _ _ _

/-- All the claims. -/
theorem claim : Cert.Claim := ⟨Cert.Kernel.Gen.facts, Cert.KernelIdeal.Gen.facts, Cert.ReferenceIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.AbIn.Gen.facts, Cert.AbInIdeal.Gen.facts, Cert.AbInRefIdeal.Gen.facts,
  Cert.PoolIn.Gen.facts, Cert.PoolInIdeal.Gen.facts, Cert.PoolInRefIdeal.Gen.facts,
  Cert.AbOut.Gen.facts, Cert.AbOutIdeal.Gen.facts, Cert.AbOutRefIdeal.Gen.facts,
  Cert.PoolOut.Gen.facts, Cert.PoolOutIdeal.Gen.facts, Cert.PoolOutRefIdeal.Gen.facts,
  Cert.Pre_down_range.Gen.facts, Cert.Pre_up_range.Gen.facts, Cert.Pre_ab_finite.Gen.facts, Cert.Pre_pool_finite.Gen.facts,
  fun m ρ _ => Cert.Kernel.Gen.frame m ρ, fun m ρ _ => Cert.KernelIdeal.Gen.frame m ρ, quiet_ref,
  quiet_down, quiet_down_ideal, quiet_down_ref, quiet_up, quiet_up_ideal, quiet_up_ref,
  fun m ρ _ => Cert.AbIn.Gen.frame m ρ, fun m ρ _ => Cert.AbInIdeal.Gen.frame m ρ, quiet_ab_in_ref,
  fun m ρ _ => Cert.PoolIn.Gen.frame m ρ, fun m ρ _ => Cert.PoolInIdeal.Gen.frame m ρ, quiet_pool_in_ref,
  fun m ρ _ => Cert.AbOut.Gen.frame m ρ, fun m ρ _ => Cert.AbOutIdeal.Gen.frame m ρ, fun m ρ _ => Cert.AbOutIdeal.Gen.frame m ρ,
  quiet_ab_out_ref, fun m ρ _ => quiet_ab_out_ref m ρ True.intro,
  fun m ρ _ => Cert.PoolOut.Gen.frame m ρ, fun m ρ _ => Cert.PoolOutIdeal.Gen.frame m ρ, fun m ρ _ => Cert.PoolOutIdeal.Gen.frame m ρ,
  quiet_pool_out_ref, fun m ρ _ => quiet_pool_out_ref m ρ True.intro,
  trivial, ctx_equal, trivial, down_equal, trivial, up_equal,
  trivial, ab_in_equal, trivial, pool_in_equal, trivial, ab_out_equal, trivial, pool_out_equal⟩

end Cert.Proof

end
